-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Gmm [hPre_tables3 : Cert.Pre_tables3.Facts] (m : (ℓ : Loc Cert.Gmm.nD Cert.Gmm.τ Cert.Gmm.sig) → Buf (Elt Bits) ℓ) : Prop :=
  ∀ c : Dev Cert.Gmm.nD,
    (Cert.Pre_tables3.fn (F := Bits) (m ((c.tc : Thread Cert.Gmm.nD Cert.Gmm.τ).loc Cert.Gmm.main_arg0)) (m ((c.tc : Thread Cert.Gmm.nD Cert.Gmm.τ).loc Cert.Gmm.main_arg1)) (m ((c.tc : Thread Cert.Gmm.nD Cert.Gmm.τ).loc Cert.Gmm.main_arg2)) (m ((c.tc : Thread Cert.Gmm.nD Cert.Gmm.τ).loc Cert.Gmm.main_arg3)) (m ((c.tc : Thread Cert.Gmm.nD Cert.Gmm.τ).loc Cert.Gmm.main_arg4)) (m ((c.tc : Thread Cert.Gmm.nD Cert.Gmm.τ).loc Cert.Gmm.main_arg5)) (m ((c.tc : Thread Cert.Gmm.nD Cert.Gmm.τ).loc Cert.Gmm.main_arg6))) = (fun _ => 1#1)

def Pre_GmmIdeal [hPre_tables3 : Cert.Pre_tables3.Facts] (m : (ℓ : Loc Cert.GmmIdeal.nD Cert.GmmIdeal.τ Cert.GmmIdeal.sig) → Buf (Elt Ideal) ℓ) : Prop :=
  ∀ c : Dev Cert.GmmIdeal.nD,
    (Cert.Pre_tables3.fn (F := Ideal) (m ((c.tc : Thread Cert.GmmIdeal.nD Cert.GmmIdeal.τ).loc Cert.GmmIdeal.main_arg0)) (m ((c.tc : Thread Cert.GmmIdeal.nD Cert.GmmIdeal.τ).loc Cert.GmmIdeal.main_arg1)) (m ((c.tc : Thread Cert.GmmIdeal.nD Cert.GmmIdeal.τ).loc Cert.GmmIdeal.main_arg2)) (m ((c.tc : Thread Cert.GmmIdeal.nD Cert.GmmIdeal.τ).loc Cert.GmmIdeal.main_arg3)) (m ((c.tc : Thread Cert.GmmIdeal.nD Cert.GmmIdeal.τ).loc Cert.GmmIdeal.main_arg4)) (m ((c.tc : Thread Cert.GmmIdeal.nD Cert.GmmIdeal.τ).loc Cert.GmmIdeal.main_arg5)) (m ((c.tc : Thread Cert.GmmIdeal.nD Cert.GmmIdeal.τ).loc Cert.GmmIdeal.main_arg6))) = (fun _ => 1#1)

def Pre_GmmRefIdeal [hPre_tables3 : Cert.Pre_tables3.Facts] (m : (ℓ : Loc Cert.GmmRefIdeal.nD Cert.GmmRefIdeal.τ Cert.GmmRefIdeal.sig) → Buf (Elt Ideal) ℓ) : Prop :=
  ∀ c : Dev Cert.GmmRefIdeal.nD,
    (Cert.Pre_tables3.fn (F := Ideal) (m ((c.tc : Thread Cert.GmmRefIdeal.nD Cert.GmmRefIdeal.τ).loc Cert.GmmRefIdeal.main_arg0)) (m ((c.tc : Thread Cert.GmmRefIdeal.nD Cert.GmmRefIdeal.τ).loc Cert.GmmRefIdeal.main_arg1)) (m ((c.tc : Thread Cert.GmmRefIdeal.nD Cert.GmmRefIdeal.τ).loc Cert.GmmRefIdeal.main_arg2)) (m ((c.tc : Thread Cert.GmmRefIdeal.nD Cert.GmmRefIdeal.τ).loc Cert.GmmRefIdeal.main_arg3)) (m ((c.tc : Thread Cert.GmmRefIdeal.nD Cert.GmmRefIdeal.τ).loc Cert.GmmRefIdeal.main_arg4)) (m ((c.tc : Thread Cert.GmmRefIdeal.nD Cert.GmmRefIdeal.τ).loc Cert.GmmRefIdeal.main_arg5)) (m ((c.tc : Thread Cert.GmmRefIdeal.nD Cert.GmmRefIdeal.τ).loc Cert.GmmRefIdeal.main_arg6))) = (fun _ => 1#1)

def Pre_Down [hPre_tables4 : Cert.Pre_tables4.Facts] (m : (ℓ : Loc Cert.Down.nD Cert.Down.τ Cert.Down.sig) → Buf (Elt Bits) ℓ) : Prop :=
  ∀ c : Dev Cert.Down.nD,
    (Cert.Pre_tables4.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4))) = (fun _ => 1#1)

def Pre_DownIdeal [hPre_tables4 : Cert.Pre_tables4.Facts] (m : (ℓ : Loc Cert.DownIdeal.nD Cert.DownIdeal.τ Cert.DownIdeal.sig) → Buf (Elt Ideal) ℓ) : Prop :=
  ∀ c : Dev Cert.DownIdeal.nD,
    (Cert.Pre_tables4.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))) = (fun _ => 1#1)

def Pre_DownRefIdeal [hPre_tables4 : Cert.Pre_tables4.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_tables4.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))) = (fun _ => 1#1)

def Pre_ConvS (m : (ℓ : Loc Cert.ConvS.nD Cert.ConvS.τ Cert.ConvS.sig) → Buf (Elt Bits) ℓ) : Prop :=
  True

def Pre_ConvSIdeal (m : (ℓ : Loc Cert.ConvSIdeal.nD Cert.ConvSIdeal.τ Cert.ConvSIdeal.sig) → Buf (Elt Ideal) ℓ) : Prop :=
  True

def Pre_ConvSRefIdeal (m : (ℓ : Loc Cert.ConvSRefIdeal.nD Cert.ConvSRefIdeal.τ Cert.ConvSRefIdeal.sig) → Buf (Elt Ideal) ℓ) : Prop :=
  True

def Pre_ConvP (m : (ℓ : Loc Cert.ConvP.nD Cert.ConvP.τ Cert.ConvP.sig) → Buf (Elt Bits) ℓ) : Prop :=
  True

def Pre_ConvPIdeal (m : (ℓ : Loc Cert.ConvPIdeal.nD Cert.ConvPIdeal.τ Cert.ConvPIdeal.sig) → Buf (Elt Ideal) ℓ) : Prop :=
  True

def Pre_ConvPRefIdeal (m : (ℓ : Loc Cert.ConvPRefIdeal.nD Cert.ConvPRefIdeal.τ Cert.ConvPRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Gmm [hGmm : Cert.Gmm.Facts] [hPre_tables3 : Cert.Pre_tables3.Facts] : Prop :=
  ∀ (m : (ℓ : Loc Cert.Gmm.nD Cert.Gmm.τ Cert.Gmm.sig) → Buf (Elt Bits) ℓ) (g : Dev Cert.Gmm.nD → PrngReg), Pre_Gmm m →
    θ_run (Cert.Gmm.defs (F := Bits)) (onTc (τ := Cert.Gmm.τ) (Cert.Gmm.main (F := Bits))) ⟨m, fun _ => 0, g⟩ (fun r => (∀ c : Dev Cert.Gmm.nD,
      r.2.mem ((c.tc : Thread Cert.Gmm.nD Cert.Gmm.τ).loc Cert.Gmm.main_arg0) = m ((c.tc : Thread Cert.Gmm.nD Cert.Gmm.τ).loc Cert.Gmm.main_arg0)
      ∧ r.2.mem ((c.tc : Thread Cert.Gmm.nD Cert.Gmm.τ).loc Cert.Gmm.main_arg1) = m ((c.tc : Thread Cert.Gmm.nD Cert.Gmm.τ).loc Cert.Gmm.main_arg1)
      ∧ r.2.mem ((c.tc : Thread Cert.Gmm.nD Cert.Gmm.τ).loc Cert.Gmm.main_arg2) = m ((c.tc : Thread Cert.Gmm.nD Cert.Gmm.τ).loc Cert.Gmm.main_arg2)
      ∧ r.2.mem ((c.tc : Thread Cert.Gmm.nD Cert.Gmm.τ).loc Cert.Gmm.main_arg3) = m ((c.tc : Thread Cert.Gmm.nD Cert.Gmm.τ).loc Cert.Gmm.main_arg3)
      ∧ r.2.mem ((c.tc : Thread Cert.Gmm.nD Cert.Gmm.τ).loc Cert.Gmm.main_arg4) = m ((c.tc : Thread Cert.Gmm.nD Cert.Gmm.τ).loc Cert.Gmm.main_arg4)
      ∧ r.2.mem ((c.tc : Thread Cert.Gmm.nD Cert.Gmm.τ).loc Cert.Gmm.main_arg5) = m ((c.tc : Thread Cert.Gmm.nD Cert.Gmm.τ).loc Cert.Gmm.main_arg5)
      ∧ r.2.mem ((c.tc : Thread Cert.Gmm.nD Cert.Gmm.τ).loc Cert.Gmm.main_arg6) = m ((c.tc : Thread Cert.Gmm.nD Cert.Gmm.τ).loc Cert.Gmm.main_arg6))
      ∧ r.2.sem = fun _ => 0)

def quiescent_GmmIdeal [hGmmIdeal : Cert.GmmIdeal.Facts] [hPre_tables3 : Cert.Pre_tables3.Facts] : Prop :=
  ∀ (m : (ℓ : Loc Cert.GmmIdeal.nD Cert.GmmIdeal.τ Cert.GmmIdeal.sig) → Buf (Elt Ideal) ℓ) (g : Dev Cert.GmmIdeal.nD → PrngReg), Pre_GmmIdeal m →
    θ_run (Cert.GmmIdeal.defs (F := Ideal)) (onTc (τ := Cert.GmmIdeal.τ) (Cert.GmmIdeal.main (F := Ideal))) ⟨m, fun _ => 0, g⟩ (fun r => (∀ c : Dev Cert.GmmIdeal.nD,
      r.2.mem ((c.tc : Thread Cert.GmmIdeal.nD Cert.GmmIdeal.τ).loc Cert.GmmIdeal.main_arg0) = m ((c.tc : Thread Cert.GmmIdeal.nD Cert.GmmIdeal.τ).loc Cert.GmmIdeal.main_arg0)
      ∧ r.2.mem ((c.tc : Thread Cert.GmmIdeal.nD Cert.GmmIdeal.τ).loc Cert.GmmIdeal.main_arg1) = m ((c.tc : Thread Cert.GmmIdeal.nD Cert.GmmIdeal.τ).loc Cert.GmmIdeal.main_arg1)
      ∧ r.2.mem ((c.tc : Thread Cert.GmmIdeal.nD Cert.GmmIdeal.τ).loc Cert.GmmIdeal.main_arg2) = m ((c.tc : Thread Cert.GmmIdeal.nD Cert.GmmIdeal.τ).loc Cert.GmmIdeal.main_arg2)
      ∧ r.2.mem ((c.tc : Thread Cert.GmmIdeal.nD Cert.GmmIdeal.τ).loc Cert.GmmIdeal.main_arg3) = m ((c.tc : Thread Cert.GmmIdeal.nD Cert.GmmIdeal.τ).loc Cert.GmmIdeal.main_arg3)
      ∧ r.2.mem ((c.tc : Thread Cert.GmmIdeal.nD Cert.GmmIdeal.τ).loc Cert.GmmIdeal.main_arg4) = m ((c.tc : Thread Cert.GmmIdeal.nD Cert.GmmIdeal.τ).loc Cert.GmmIdeal.main_arg4)
      ∧ r.2.mem ((c.tc : Thread Cert.GmmIdeal.nD Cert.GmmIdeal.τ).loc Cert.GmmIdeal.main_arg5) = m ((c.tc : Thread Cert.GmmIdeal.nD Cert.GmmIdeal.τ).loc Cert.GmmIdeal.main_arg5)
      ∧ r.2.mem ((c.tc : Thread Cert.GmmIdeal.nD Cert.GmmIdeal.τ).loc Cert.GmmIdeal.main_arg6) = m ((c.tc : Thread Cert.GmmIdeal.nD Cert.GmmIdeal.τ).loc Cert.GmmIdeal.main_arg6))
      ∧ r.2.sem = fun _ => 0)

def quiescent_GmmRefIdeal [hGmmRefIdeal : Cert.GmmRefIdeal.Facts] [hPre_tables3 : Cert.Pre_tables3.Facts] : Prop :=
  ∀ (m : (ℓ : Loc Cert.GmmRefIdeal.nD Cert.GmmRefIdeal.τ Cert.GmmRefIdeal.sig) → Buf (Elt Ideal) ℓ) (g : Dev Cert.GmmRefIdeal.nD → PrngReg), Pre_GmmRefIdeal m →
    θ_run (Cert.GmmRefIdeal.defs (F := Ideal)) (onTc (τ := Cert.GmmRefIdeal.τ) (Cert.GmmRefIdeal.main (F := Ideal))) ⟨m, fun _ => 0, g⟩ (fun r => (∀ c : Dev Cert.GmmRefIdeal.nD,
      r.2.mem ((c.tc : Thread Cert.GmmRefIdeal.nD Cert.GmmRefIdeal.τ).loc Cert.GmmRefIdeal.main_arg0) = m ((c.tc : Thread Cert.GmmRefIdeal.nD Cert.GmmRefIdeal.τ).loc Cert.GmmRefIdeal.main_arg0)
      ∧ r.2.mem ((c.tc : Thread Cert.GmmRefIdeal.nD Cert.GmmRefIdeal.τ).loc Cert.GmmRefIdeal.main_arg1) = m ((c.tc : Thread Cert.GmmRefIdeal.nD Cert.GmmRefIdeal.τ).loc Cert.GmmRefIdeal.main_arg1)
      ∧ r.2.mem ((c.tc : Thread Cert.GmmRefIdeal.nD Cert.GmmRefIdeal.τ).loc Cert.GmmRefIdeal.main_arg2) = m ((c.tc : Thread Cert.GmmRefIdeal.nD Cert.GmmRefIdeal.τ).loc Cert.GmmRefIdeal.main_arg2)
      ∧ r.2.mem ((c.tc : Thread Cert.GmmRefIdeal.nD Cert.GmmRefIdeal.τ).loc Cert.GmmRefIdeal.main_arg3) = m ((c.tc : Thread Cert.GmmRefIdeal.nD Cert.GmmRefIdeal.τ).loc Cert.GmmRefIdeal.main_arg3)
      ∧ r.2.mem ((c.tc : Thread Cert.GmmRefIdeal.nD Cert.GmmRefIdeal.τ).loc Cert.GmmRefIdeal.main_arg4) = m ((c.tc : Thread Cert.GmmRefIdeal.nD Cert.GmmRefIdeal.τ).loc Cert.GmmRefIdeal.main_arg4)
      ∧ r.2.mem ((c.tc : Thread Cert.GmmRefIdeal.nD Cert.GmmRefIdeal.τ).loc Cert.GmmRefIdeal.main_arg5) = m ((c.tc : Thread Cert.GmmRefIdeal.nD Cert.GmmRefIdeal.τ).loc Cert.GmmRefIdeal.main_arg5)
      ∧ r.2.mem ((c.tc : Thread Cert.GmmRefIdeal.nD Cert.GmmRefIdeal.τ).loc Cert.GmmRefIdeal.main_arg6) = m ((c.tc : Thread Cert.GmmRefIdeal.nD Cert.GmmRefIdeal.τ).loc Cert.GmmRefIdeal.main_arg6))
      ∧ r.2.sem = fun _ => 0)

def quiescent_Down [hDown : Cert.Down.Facts] [hPre_tables4 : Cert.Pre_tables4.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] [hPre_tables4 : Cert.Pre_tables4.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] [hPre_tables4 : Cert.Pre_tables4.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_ConvS [hConvS : Cert.ConvS.Facts] : Prop :=
  ∀ (m : (ℓ : Loc Cert.ConvS.nD Cert.ConvS.τ Cert.ConvS.sig) → Buf (Elt Bits) ℓ) (g : Dev Cert.ConvS.nD → PrngReg), Pre_ConvS m →
    θ_run (Cert.ConvS.defs (F := Bits)) (onTc (τ := Cert.ConvS.τ) (Cert.ConvS.main (F := Bits))) ⟨m, fun _ => 0, g⟩ (fun r => (∀ c : Dev Cert.ConvS.nD,
      r.2.mem ((c.tc : Thread Cert.ConvS.nD Cert.ConvS.τ).loc Cert.ConvS.main_arg0) = m ((c.tc : Thread Cert.ConvS.nD Cert.ConvS.τ).loc Cert.ConvS.main_arg0)
      ∧ r.2.mem ((c.tc : Thread Cert.ConvS.nD Cert.ConvS.τ).loc Cert.ConvS.main_arg1) = m ((c.tc : Thread Cert.ConvS.nD Cert.ConvS.τ).loc Cert.ConvS.main_arg1)
      ∧ r.2.mem ((c.tc : Thread Cert.ConvS.nD Cert.ConvS.τ).loc Cert.ConvS.main_arg2) = m ((c.tc : Thread Cert.ConvS.nD Cert.ConvS.τ).loc Cert.ConvS.main_arg2)
      ∧ r.2.mem ((c.tc : Thread Cert.ConvS.nD Cert.ConvS.τ).loc Cert.ConvS.main_arg3) = m ((c.tc : Thread Cert.ConvS.nD Cert.ConvS.τ).loc Cert.ConvS.main_arg3)
      ∧ r.2.mem ((c.tc : Thread Cert.ConvS.nD Cert.ConvS.τ).loc Cert.ConvS.main_arg4) = m ((c.tc : Thread Cert.ConvS.nD Cert.ConvS.τ).loc Cert.ConvS.main_arg4)
      ∧ r.2.mem ((c.tc : Thread Cert.ConvS.nD Cert.ConvS.τ).loc Cert.ConvS.main_arg5) = m ((c.tc : Thread Cert.ConvS.nD Cert.ConvS.τ).loc Cert.ConvS.main_arg5)
      ∧ r.2.mem ((c.tc : Thread Cert.ConvS.nD Cert.ConvS.τ).loc Cert.ConvS.main_arg6) = m ((c.tc : Thread Cert.ConvS.nD Cert.ConvS.τ).loc Cert.ConvS.main_arg6)
      ∧ r.2.mem ((c.tc : Thread Cert.ConvS.nD Cert.ConvS.τ).loc Cert.ConvS.main_arg7) = m ((c.tc : Thread Cert.ConvS.nD Cert.ConvS.τ).loc Cert.ConvS.main_arg7)
      ∧ r.2.mem ((c.tc : Thread Cert.ConvS.nD Cert.ConvS.τ).loc Cert.ConvS.main_arg8) = m ((c.tc : Thread Cert.ConvS.nD Cert.ConvS.τ).loc Cert.ConvS.main_arg8)
      ∧ r.2.mem ((c.tc : Thread Cert.ConvS.nD Cert.ConvS.τ).loc Cert.ConvS.main_arg9) = m ((c.tc : Thread Cert.ConvS.nD Cert.ConvS.τ).loc Cert.ConvS.main_arg9))
      ∧ r.2.sem = fun _ => 0)

def quiescent_ConvSIdeal [hConvSIdeal : Cert.ConvSIdeal.Facts] : Prop :=
  ∀ (m : (ℓ : Loc Cert.ConvSIdeal.nD Cert.ConvSIdeal.τ Cert.ConvSIdeal.sig) → Buf (Elt Ideal) ℓ) (g : Dev Cert.ConvSIdeal.nD → PrngReg), Pre_ConvSIdeal m →
    θ_run (Cert.ConvSIdeal.defs (F := Ideal)) (onTc (τ := Cert.ConvSIdeal.τ) (Cert.ConvSIdeal.main (F := Ideal))) ⟨m, fun _ => 0, g⟩ (fun r => (∀ c : Dev Cert.ConvSIdeal.nD,
      r.2.mem ((c.tc : Thread Cert.ConvSIdeal.nD Cert.ConvSIdeal.τ).loc Cert.ConvSIdeal.main_arg0) = m ((c.tc : Thread Cert.ConvSIdeal.nD Cert.ConvSIdeal.τ).loc Cert.ConvSIdeal.main_arg0)
      ∧ r.2.mem ((c.tc : Thread Cert.ConvSIdeal.nD Cert.ConvSIdeal.τ).loc Cert.ConvSIdeal.main_arg1) = m ((c.tc : Thread Cert.ConvSIdeal.nD Cert.ConvSIdeal.τ).loc Cert.ConvSIdeal.main_arg1)
      ∧ r.2.mem ((c.tc : Thread Cert.ConvSIdeal.nD Cert.ConvSIdeal.τ).loc Cert.ConvSIdeal.main_arg2) = m ((c.tc : Thread Cert.ConvSIdeal.nD Cert.ConvSIdeal.τ).loc Cert.ConvSIdeal.main_arg2)
      ∧ r.2.mem ((c.tc : Thread Cert.ConvSIdeal.nD Cert.ConvSIdeal.τ).loc Cert.ConvSIdeal.main_arg3) = m ((c.tc : Thread Cert.ConvSIdeal.nD Cert.ConvSIdeal.τ).loc Cert.ConvSIdeal.main_arg3)
      ∧ r.2.mem ((c.tc : Thread Cert.ConvSIdeal.nD Cert.ConvSIdeal.τ).loc Cert.ConvSIdeal.main_arg4) = m ((c.tc : Thread Cert.ConvSIdeal.nD Cert.ConvSIdeal.τ).loc Cert.ConvSIdeal.main_arg4)
      ∧ r.2.mem ((c.tc : Thread Cert.ConvSIdeal.nD Cert.ConvSIdeal.τ).loc Cert.ConvSIdeal.main_arg5) = m ((c.tc : Thread Cert.ConvSIdeal.nD Cert.ConvSIdeal.τ).loc Cert.ConvSIdeal.main_arg5)
      ∧ r.2.mem ((c.tc : Thread Cert.ConvSIdeal.nD Cert.ConvSIdeal.τ).loc Cert.ConvSIdeal.main_arg6) = m ((c.tc : Thread Cert.ConvSIdeal.nD Cert.ConvSIdeal.τ).loc Cert.ConvSIdeal.main_arg6)
      ∧ r.2.mem ((c.tc : Thread Cert.ConvSIdeal.nD Cert.ConvSIdeal.τ).loc Cert.ConvSIdeal.main_arg7) = m ((c.tc : Thread Cert.ConvSIdeal.nD Cert.ConvSIdeal.τ).loc Cert.ConvSIdeal.main_arg7)
      ∧ r.2.mem ((c.tc : Thread Cert.ConvSIdeal.nD Cert.ConvSIdeal.τ).loc Cert.ConvSIdeal.main_arg8) = m ((c.tc : Thread Cert.ConvSIdeal.nD Cert.ConvSIdeal.τ).loc Cert.ConvSIdeal.main_arg8)
      ∧ r.2.mem ((c.tc : Thread Cert.ConvSIdeal.nD Cert.ConvSIdeal.τ).loc Cert.ConvSIdeal.main_arg9) = m ((c.tc : Thread Cert.ConvSIdeal.nD Cert.ConvSIdeal.τ).loc Cert.ConvSIdeal.main_arg9))
      ∧ r.2.sem = fun _ => 0)

def quiescent_ConvSRefIdeal [hConvSRefIdeal : Cert.ConvSRefIdeal.Facts] : Prop :=
  ∀ (m : (ℓ : Loc Cert.ConvSRefIdeal.nD Cert.ConvSRefIdeal.τ Cert.ConvSRefIdeal.sig) → Buf (Elt Ideal) ℓ) (g : Dev Cert.ConvSRefIdeal.nD → PrngReg), Pre_ConvSRefIdeal m →
    θ_run (Cert.ConvSRefIdeal.defs (F := Ideal)) (onTc (τ := Cert.ConvSRefIdeal.τ) (Cert.ConvSRefIdeal.main (F := Ideal))) ⟨m, fun _ => 0, g⟩ (fun r => (∀ c : Dev Cert.ConvSRefIdeal.nD,
      r.2.mem ((c.tc : Thread Cert.ConvSRefIdeal.nD Cert.ConvSRefIdeal.τ).loc Cert.ConvSRefIdeal.main_arg0) = m ((c.tc : Thread Cert.ConvSRefIdeal.nD Cert.ConvSRefIdeal.τ).loc Cert.ConvSRefIdeal.main_arg0)
      ∧ r.2.mem ((c.tc : Thread Cert.ConvSRefIdeal.nD Cert.ConvSRefIdeal.τ).loc Cert.ConvSRefIdeal.main_arg1) = m ((c.tc : Thread Cert.ConvSRefIdeal.nD Cert.ConvSRefIdeal.τ).loc Cert.ConvSRefIdeal.main_arg1)
      ∧ r.2.mem ((c.tc : Thread Cert.ConvSRefIdeal.nD Cert.ConvSRefIdeal.τ).loc Cert.ConvSRefIdeal.main_arg2) = m ((c.tc : Thread Cert.ConvSRefIdeal.nD Cert.ConvSRefIdeal.τ).loc Cert.ConvSRefIdeal.main_arg2)
      ∧ r.2.mem ((c.tc : Thread Cert.ConvSRefIdeal.nD Cert.ConvSRefIdeal.τ).loc Cert.ConvSRefIdeal.main_arg3) = m ((c.tc : Thread Cert.ConvSRefIdeal.nD Cert.ConvSRefIdeal.τ).loc Cert.ConvSRefIdeal.main_arg3)
      ∧ r.2.mem ((c.tc : Thread Cert.ConvSRefIdeal.nD Cert.ConvSRefIdeal.τ).loc Cert.ConvSRefIdeal.main_arg4) = m ((c.tc : Thread Cert.ConvSRefIdeal.nD Cert.ConvSRefIdeal.τ).loc Cert.ConvSRefIdeal.main_arg4)
      ∧ r.2.mem ((c.tc : Thread Cert.ConvSRefIdeal.nD Cert.ConvSRefIdeal.τ).loc Cert.ConvSRefIdeal.main_arg5) = m ((c.tc : Thread Cert.ConvSRefIdeal.nD Cert.ConvSRefIdeal.τ).loc Cert.ConvSRefIdeal.main_arg5)
      ∧ r.2.mem ((c.tc : Thread Cert.ConvSRefIdeal.nD Cert.ConvSRefIdeal.τ).loc Cert.ConvSRefIdeal.main_arg6) = m ((c.tc : Thread Cert.ConvSRefIdeal.nD Cert.ConvSRefIdeal.τ).loc Cert.ConvSRefIdeal.main_arg6)
      ∧ r.2.mem ((c.tc : Thread Cert.ConvSRefIdeal.nD Cert.ConvSRefIdeal.τ).loc Cert.ConvSRefIdeal.main_arg7) = m ((c.tc : Thread Cert.ConvSRefIdeal.nD Cert.ConvSRefIdeal.τ).loc Cert.ConvSRefIdeal.main_arg7)
      ∧ r.2.mem ((c.tc : Thread Cert.ConvSRefIdeal.nD Cert.ConvSRefIdeal.τ).loc Cert.ConvSRefIdeal.main_arg8) = m ((c.tc : Thread Cert.ConvSRefIdeal.nD Cert.ConvSRefIdeal.τ).loc Cert.ConvSRefIdeal.main_arg8)
      ∧ r.2.mem ((c.tc : Thread Cert.ConvSRefIdeal.nD Cert.ConvSRefIdeal.τ).loc Cert.ConvSRefIdeal.main_arg9) = m ((c.tc : Thread Cert.ConvSRefIdeal.nD Cert.ConvSRefIdeal.τ).loc Cert.ConvSRefIdeal.main_arg9))
      ∧ r.2.sem = fun _ => 0)

def quiescent_ConvP [hConvP : Cert.ConvP.Facts] : Prop :=
  ∀ (m : (ℓ : Loc Cert.ConvP.nD Cert.ConvP.τ Cert.ConvP.sig) → Buf (Elt Bits) ℓ) (g : Dev Cert.ConvP.nD → PrngReg), Pre_ConvP m →
    θ_run (Cert.ConvP.defs (F := Bits)) (onTc (τ := Cert.ConvP.τ) (Cert.ConvP.main (F := Bits))) ⟨m, fun _ => 0, g⟩ (fun r => (∀ c : Dev Cert.ConvP.nD,
      r.2.mem ((c.tc : Thread Cert.ConvP.nD Cert.ConvP.τ).loc Cert.ConvP.main_arg0) = m ((c.tc : Thread Cert.ConvP.nD Cert.ConvP.τ).loc Cert.ConvP.main_arg0)
      ∧ r.2.mem ((c.tc : Thread Cert.ConvP.nD Cert.ConvP.τ).loc Cert.ConvP.main_arg1) = m ((c.tc : Thread Cert.ConvP.nD Cert.ConvP.τ).loc Cert.ConvP.main_arg1)
      ∧ r.2.mem ((c.tc : Thread Cert.ConvP.nD Cert.ConvP.τ).loc Cert.ConvP.main_arg2) = m ((c.tc : Thread Cert.ConvP.nD Cert.ConvP.τ).loc Cert.ConvP.main_arg2)
      ∧ r.2.mem ((c.tc : Thread Cert.ConvP.nD Cert.ConvP.τ).loc Cert.ConvP.main_arg3) = m ((c.tc : Thread Cert.ConvP.nD Cert.ConvP.τ).loc Cert.ConvP.main_arg3)
      ∧ r.2.mem ((c.tc : Thread Cert.ConvP.nD Cert.ConvP.τ).loc Cert.ConvP.main_arg4) = m ((c.tc : Thread Cert.ConvP.nD Cert.ConvP.τ).loc Cert.ConvP.main_arg4)
      ∧ r.2.mem ((c.tc : Thread Cert.ConvP.nD Cert.ConvP.τ).loc Cert.ConvP.main_arg5) = m ((c.tc : Thread Cert.ConvP.nD Cert.ConvP.τ).loc Cert.ConvP.main_arg5)
      ∧ r.2.mem ((c.tc : Thread Cert.ConvP.nD Cert.ConvP.τ).loc Cert.ConvP.main_arg6) = m ((c.tc : Thread Cert.ConvP.nD Cert.ConvP.τ).loc Cert.ConvP.main_arg6)
      ∧ r.2.mem ((c.tc : Thread Cert.ConvP.nD Cert.ConvP.τ).loc Cert.ConvP.main_arg7) = m ((c.tc : Thread Cert.ConvP.nD Cert.ConvP.τ).loc Cert.ConvP.main_arg7))
      ∧ r.2.sem = fun _ => 0)

def quiescent_ConvPIdeal [hConvPIdeal : Cert.ConvPIdeal.Facts] : Prop :=
  ∀ (m : (ℓ : Loc Cert.ConvPIdeal.nD Cert.ConvPIdeal.τ Cert.ConvPIdeal.sig) → Buf (Elt Ideal) ℓ) (g : Dev Cert.ConvPIdeal.nD → PrngReg), Pre_ConvPIdeal m →
    θ_run (Cert.ConvPIdeal.defs (F := Ideal)) (onTc (τ := Cert.ConvPIdeal.τ) (Cert.ConvPIdeal.main (F := Ideal))) ⟨m, fun _ => 0, g⟩ (fun r => (∀ c : Dev Cert.ConvPIdeal.nD,
      r.2.mem ((c.tc : Thread Cert.ConvPIdeal.nD Cert.ConvPIdeal.τ).loc Cert.ConvPIdeal.main_arg0) = m ((c.tc : Thread Cert.ConvPIdeal.nD Cert.ConvPIdeal.τ).loc Cert.ConvPIdeal.main_arg0)
      ∧ r.2.mem ((c.tc : Thread Cert.ConvPIdeal.nD Cert.ConvPIdeal.τ).loc Cert.ConvPIdeal.main_arg1) = m ((c.tc : Thread Cert.ConvPIdeal.nD Cert.ConvPIdeal.τ).loc Cert.ConvPIdeal.main_arg1)
      ∧ r.2.mem ((c.tc : Thread Cert.ConvPIdeal.nD Cert.ConvPIdeal.τ).loc Cert.ConvPIdeal.main_arg2) = m ((c.tc : Thread Cert.ConvPIdeal.nD Cert.ConvPIdeal.τ).loc Cert.ConvPIdeal.main_arg2)
      ∧ r.2.mem ((c.tc : Thread Cert.ConvPIdeal.nD Cert.ConvPIdeal.τ).loc Cert.ConvPIdeal.main_arg3) = m ((c.tc : Thread Cert.ConvPIdeal.nD Cert.ConvPIdeal.τ).loc Cert.ConvPIdeal.main_arg3)
      ∧ r.2.mem ((c.tc : Thread Cert.ConvPIdeal.nD Cert.ConvPIdeal.τ).loc Cert.ConvPIdeal.main_arg4) = m ((c.tc : Thread Cert.ConvPIdeal.nD Cert.ConvPIdeal.τ).loc Cert.ConvPIdeal.main_arg4)
      ∧ r.2.mem ((c.tc : Thread Cert.ConvPIdeal.nD Cert.ConvPIdeal.τ).loc Cert.ConvPIdeal.main_arg5) = m ((c.tc : Thread Cert.ConvPIdeal.nD Cert.ConvPIdeal.τ).loc Cert.ConvPIdeal.main_arg5)
      ∧ r.2.mem ((c.tc : Thread Cert.ConvPIdeal.nD Cert.ConvPIdeal.τ).loc Cert.ConvPIdeal.main_arg6) = m ((c.tc : Thread Cert.ConvPIdeal.nD Cert.ConvPIdeal.τ).loc Cert.ConvPIdeal.main_arg6)
      ∧ r.2.mem ((c.tc : Thread Cert.ConvPIdeal.nD Cert.ConvPIdeal.τ).loc Cert.ConvPIdeal.main_arg7) = m ((c.tc : Thread Cert.ConvPIdeal.nD Cert.ConvPIdeal.τ).loc Cert.ConvPIdeal.main_arg7))
      ∧ r.2.sem = fun _ => 0)

def quiescent_ConvPRefIdeal [hConvPRefIdeal : Cert.ConvPRefIdeal.Facts] : Prop :=
  ∀ (m : (ℓ : Loc Cert.ConvPRefIdeal.nD Cert.ConvPRefIdeal.τ Cert.ConvPRefIdeal.sig) → Buf (Elt Ideal) ℓ) (g : Dev Cert.ConvPRefIdeal.nD → PrngReg), Pre_ConvPRefIdeal m →
    θ_run (Cert.ConvPRefIdeal.defs (F := Ideal)) (onTc (τ := Cert.ConvPRefIdeal.τ) (Cert.ConvPRefIdeal.main (F := Ideal))) ⟨m, fun _ => 0, g⟩ (fun r => (∀ c : Dev Cert.ConvPRefIdeal.nD,
      r.2.mem ((c.tc : Thread Cert.ConvPRefIdeal.nD Cert.ConvPRefIdeal.τ).loc Cert.ConvPRefIdeal.main_arg0) = m ((c.tc : Thread Cert.ConvPRefIdeal.nD Cert.ConvPRefIdeal.τ).loc Cert.ConvPRefIdeal.main_arg0)
      ∧ r.2.mem ((c.tc : Thread Cert.ConvPRefIdeal.nD Cert.ConvPRefIdeal.τ).loc Cert.ConvPRefIdeal.main_arg1) = m ((c.tc : Thread Cert.ConvPRefIdeal.nD Cert.ConvPRefIdeal.τ).loc Cert.ConvPRefIdeal.main_arg1)
      ∧ r.2.mem ((c.tc : Thread Cert.ConvPRefIdeal.nD Cert.ConvPRefIdeal.τ).loc Cert.ConvPRefIdeal.main_arg2) = m ((c.tc : Thread Cert.ConvPRefIdeal.nD Cert.ConvPRefIdeal.τ).loc Cert.ConvPRefIdeal.main_arg2)
      ∧ r.2.mem ((c.tc : Thread Cert.ConvPRefIdeal.nD Cert.ConvPRefIdeal.τ).loc Cert.ConvPRefIdeal.main_arg3) = m ((c.tc : Thread Cert.ConvPRefIdeal.nD Cert.ConvPRefIdeal.τ).loc Cert.ConvPRefIdeal.main_arg3)
      ∧ r.2.mem ((c.tc : Thread Cert.ConvPRefIdeal.nD Cert.ConvPRefIdeal.τ).loc Cert.ConvPRefIdeal.main_arg4) = m ((c.tc : Thread Cert.ConvPRefIdeal.nD Cert.ConvPRefIdeal.τ).loc Cert.ConvPRefIdeal.main_arg4)
      ∧ r.2.mem ((c.tc : Thread Cert.ConvPRefIdeal.nD Cert.ConvPRefIdeal.τ).loc Cert.ConvPRefIdeal.main_arg5) = m ((c.tc : Thread Cert.ConvPRefIdeal.nD Cert.ConvPRefIdeal.τ).loc Cert.ConvPRefIdeal.main_arg5)
      ∧ r.2.mem ((c.tc : Thread Cert.ConvPRefIdeal.nD Cert.ConvPRefIdeal.τ).loc Cert.ConvPRefIdeal.main_arg6) = m ((c.tc : Thread Cert.ConvPRefIdeal.nD Cert.ConvPRefIdeal.τ).loc Cert.ConvPRefIdeal.main_arg6)
      ∧ r.2.mem ((c.tc : Thread Cert.ConvPRefIdeal.nD Cert.ConvPRefIdeal.τ).loc Cert.ConvPRefIdeal.main_arg7) = m ((c.tc : Thread Cert.ConvPRefIdeal.nD Cert.ConvPRefIdeal.τ).loc Cert.ConvPRefIdeal.main_arg7))
      ∧ r.2.sem = fun _ => 0)

def preserves_Attn_AttnIdeal : Prop :=
  IdealRules.named_const.Statement Cert.AttnIdeal.κ "mask" .f32 0xF149F2CA#32 ⊥

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v4)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v4) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v159) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v14_0)) (v1 : (c : Dev Cert.ProjIdeal.nD) → Buf (Elt Ideal) ((c.tc : Thread Cert.ProjIdeal.nD Cert.ProjIdeal.τ).loc Cert.ProjIdeal.main_v14_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v14_0) = v0 c
          ∧ r.2.mem ((c.tc : Thread Cert.ProjIdeal.nD Cert.ProjIdeal.τ).loc Cert.ProjIdeal.main_v14_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v48) = v0 c
          ∧ r.2.mem ((c.tc : Thread Cert.ProjRefIdeal.nD Cert.ProjRefIdeal.τ).loc Cert.ProjRefIdeal.main_v52) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Gmm_GmmIdeal : Prop :=
  True

def algebraic_GmmIdeal_GmmRefIdeal [hGmmIdeal : Cert.GmmIdeal.Facts] [hGmmRefIdeal : Cert.GmmRefIdeal.Facts] [hPre_tables3 : Cert.Pre_tables3.Facts] : Prop :=
  ∀ (m : (ℓ : Loc Cert.GmmIdeal.nD Cert.GmmIdeal.τ Cert.GmmIdeal.sig) → Buf (Elt Ideal) ℓ) (g : Dev Cert.GmmIdeal.nD → PrngReg)
    (m' : (ℓ : Loc Cert.GmmRefIdeal.nD Cert.GmmRefIdeal.τ Cert.GmmRefIdeal.sig) → Buf (Elt Ideal) ℓ) (g' : Dev Cert.GmmRefIdeal.nD → PrngReg), Pre_GmmIdeal m →
    (∀ c : Dev Cert.GmmIdeal.nD,
      m' ((c.tc : Thread Cert.GmmRefIdeal.nD Cert.GmmRefIdeal.τ).loc Cert.GmmRefIdeal.main_arg0) = m ((c.tc : Thread Cert.GmmIdeal.nD Cert.GmmIdeal.τ).loc Cert.GmmIdeal.main_arg0)
      ∧ m' ((c.tc : Thread Cert.GmmRefIdeal.nD Cert.GmmRefIdeal.τ).loc Cert.GmmRefIdeal.main_arg1) = m ((c.tc : Thread Cert.GmmIdeal.nD Cert.GmmIdeal.τ).loc Cert.GmmIdeal.main_arg1)
      ∧ m' ((c.tc : Thread Cert.GmmRefIdeal.nD Cert.GmmRefIdeal.τ).loc Cert.GmmRefIdeal.main_arg2) = m ((c.tc : Thread Cert.GmmIdeal.nD Cert.GmmIdeal.τ).loc Cert.GmmIdeal.main_arg2)
      ∧ m' ((c.tc : Thread Cert.GmmRefIdeal.nD Cert.GmmRefIdeal.τ).loc Cert.GmmRefIdeal.main_arg3) = m ((c.tc : Thread Cert.GmmIdeal.nD Cert.GmmIdeal.τ).loc Cert.GmmIdeal.main_arg3)
      ∧ m' ((c.tc : Thread Cert.GmmRefIdeal.nD Cert.GmmRefIdeal.τ).loc Cert.GmmRefIdeal.main_arg4) = m ((c.tc : Thread Cert.GmmIdeal.nD Cert.GmmIdeal.τ).loc Cert.GmmIdeal.main_arg4)
      ∧ m' ((c.tc : Thread Cert.GmmRefIdeal.nD Cert.GmmRefIdeal.τ).loc Cert.GmmRefIdeal.main_arg5) = m ((c.tc : Thread Cert.GmmIdeal.nD Cert.GmmIdeal.τ).loc Cert.GmmIdeal.main_arg5)
      ∧ m' ((c.tc : Thread Cert.GmmRefIdeal.nD Cert.GmmRefIdeal.τ).loc Cert.GmmRefIdeal.main_arg6) = m ((c.tc : Thread Cert.GmmIdeal.nD Cert.GmmIdeal.τ).loc Cert.GmmIdeal.main_arg6)) →
    ∃ (v0 : (c : Dev Cert.GmmIdeal.nD) → Buf (Elt Ideal) ((c.tc : Thread Cert.GmmIdeal.nD Cert.GmmIdeal.τ).loc Cert.GmmIdeal.main_v0)),
      θ_run (Cert.GmmIdeal.defs (F := Ideal)) (onTc (τ := Cert.GmmIdeal.τ) (Cert.GmmIdeal.main (F := Ideal))) ⟨m, fun _ => 0, g⟩ (fun r => ∀ c : Dev Cert.GmmIdeal.nD,
          r.2.mem ((c.tc : Thread Cert.GmmIdeal.nD Cert.GmmIdeal.τ).loc Cert.GmmIdeal.main_v0) = v0 c
          ∧ r.2.mem ((c.tc : Thread Cert.GmmIdeal.nD Cert.GmmIdeal.τ).loc Cert.GmmIdeal.main_arg0) = m ((c.tc : Thread Cert.GmmIdeal.nD Cert.GmmIdeal.τ).loc Cert.GmmIdeal.main_arg0)
          ∧ r.2.mem ((c.tc : Thread Cert.GmmIdeal.nD Cert.GmmIdeal.τ).loc Cert.GmmIdeal.main_arg1) = m ((c.tc : Thread Cert.GmmIdeal.nD Cert.GmmIdeal.τ).loc Cert.GmmIdeal.main_arg1)
          ∧ r.2.mem ((c.tc : Thread Cert.GmmIdeal.nD Cert.GmmIdeal.τ).loc Cert.GmmIdeal.main_arg2) = m ((c.tc : Thread Cert.GmmIdeal.nD Cert.GmmIdeal.τ).loc Cert.GmmIdeal.main_arg2)
          ∧ r.2.mem ((c.tc : Thread Cert.GmmIdeal.nD Cert.GmmIdeal.τ).loc Cert.GmmIdeal.main_arg3) = m ((c.tc : Thread Cert.GmmIdeal.nD Cert.GmmIdeal.τ).loc Cert.GmmIdeal.main_arg3)
          ∧ r.2.mem ((c.tc : Thread Cert.GmmIdeal.nD Cert.GmmIdeal.τ).loc Cert.GmmIdeal.main_arg4) = m ((c.tc : Thread Cert.GmmIdeal.nD Cert.GmmIdeal.τ).loc Cert.GmmIdeal.main_arg4)
          ∧ r.2.mem ((c.tc : Thread Cert.GmmIdeal.nD Cert.GmmIdeal.τ).loc Cert.GmmIdeal.main_arg5) = m ((c.tc : Thread Cert.GmmIdeal.nD Cert.GmmIdeal.τ).loc Cert.GmmIdeal.main_arg5)
          ∧ r.2.mem ((c.tc : Thread Cert.GmmIdeal.nD Cert.GmmIdeal.τ).loc Cert.GmmIdeal.main_arg6) = m ((c.tc : Thread Cert.GmmIdeal.nD Cert.GmmIdeal.τ).loc Cert.GmmIdeal.main_arg6))
      ∧ θ_run (Cert.GmmRefIdeal.defs (F := Ideal)) (onTc (τ := Cert.GmmRefIdeal.τ) (Cert.GmmRefIdeal.main (F := Ideal))) ⟨m', fun _ => 0, g'⟩ (fun r => ∀ c : Dev Cert.GmmRefIdeal.nD,
          r.2.mem ((c.tc : Thread Cert.GmmRefIdeal.nD Cert.GmmRefIdeal.τ).loc Cert.GmmRefIdeal.main_v58) = v0 c
          ∧ r.2.mem ((c.tc : Thread Cert.GmmRefIdeal.nD Cert.GmmRefIdeal.τ).loc Cert.GmmRefIdeal.main_arg0) = m' ((c.tc : Thread Cert.GmmRefIdeal.nD Cert.GmmRefIdeal.τ).loc Cert.GmmRefIdeal.main_arg0)
          ∧ r.2.mem ((c.tc : Thread Cert.GmmRefIdeal.nD Cert.GmmRefIdeal.τ).loc Cert.GmmRefIdeal.main_arg1) = m' ((c.tc : Thread Cert.GmmRefIdeal.nD Cert.GmmRefIdeal.τ).loc Cert.GmmRefIdeal.main_arg1)
          ∧ r.2.mem ((c.tc : Thread Cert.GmmRefIdeal.nD Cert.GmmRefIdeal.τ).loc Cert.GmmRefIdeal.main_arg2) = m' ((c.tc : Thread Cert.GmmRefIdeal.nD Cert.GmmRefIdeal.τ).loc Cert.GmmRefIdeal.main_arg2)
          ∧ r.2.mem ((c.tc : Thread Cert.GmmRefIdeal.nD Cert.GmmRefIdeal.τ).loc Cert.GmmRefIdeal.main_arg3) = m' ((c.tc : Thread Cert.GmmRefIdeal.nD Cert.GmmRefIdeal.τ).loc Cert.GmmRefIdeal.main_arg3)
          ∧ r.2.mem ((c.tc : Thread Cert.GmmRefIdeal.nD Cert.GmmRefIdeal.τ).loc Cert.GmmRefIdeal.main_arg4) = m' ((c.tc : Thread Cert.GmmRefIdeal.nD Cert.GmmRefIdeal.τ).loc Cert.GmmRefIdeal.main_arg4)
          ∧ r.2.mem ((c.tc : Thread Cert.GmmRefIdeal.nD Cert.GmmRefIdeal.τ).loc Cert.GmmRefIdeal.main_arg5) = m' ((c.tc : Thread Cert.GmmRefIdeal.nD Cert.GmmRefIdeal.τ).loc Cert.GmmRefIdeal.main_arg5)
          ∧ r.2.mem ((c.tc : Thread Cert.GmmRefIdeal.nD Cert.GmmRefIdeal.τ).loc Cert.GmmRefIdeal.main_arg6) = m' ((c.tc : Thread Cert.GmmRefIdeal.nD Cert.GmmRefIdeal.τ).loc Cert.GmmRefIdeal.main_arg6))

def preserves_Down_DownIdeal : Prop :=
  True

def algebraic_DownIdeal_DownRefIdeal [hDownIdeal : Cert.DownIdeal.Facts] [hDownRefIdeal : Cert.DownRefIdeal.Facts] [hPre_tables4 : Cert.Pre_tables4.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v25) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_ConvS_ConvSIdeal : Prop :=
  True

def algebraic_ConvSIdeal_ConvSRefIdeal [hConvSIdeal : Cert.ConvSIdeal.Facts] [hConvSRefIdeal : Cert.ConvSRefIdeal.Facts] : Prop :=
  ∀ (m : (ℓ : Loc Cert.ConvSIdeal.nD Cert.ConvSIdeal.τ Cert.ConvSIdeal.sig) → Buf (Elt Ideal) ℓ) (g : Dev Cert.ConvSIdeal.nD → PrngReg)
    (m' : (ℓ : Loc Cert.ConvSRefIdeal.nD Cert.ConvSRefIdeal.τ Cert.ConvSRefIdeal.sig) → Buf (Elt Ideal) ℓ) (g' : Dev Cert.ConvSRefIdeal.nD → PrngReg), Pre_ConvSIdeal m →
    (∀ c : Dev Cert.ConvSIdeal.nD,
      m' ((c.tc : Thread Cert.ConvSRefIdeal.nD Cert.ConvSRefIdeal.τ).loc Cert.ConvSRefIdeal.main_arg0) = m ((c.tc : Thread Cert.ConvSIdeal.nD Cert.ConvSIdeal.τ).loc Cert.ConvSIdeal.main_arg0)
      ∧ m' ((c.tc : Thread Cert.ConvSRefIdeal.nD Cert.ConvSRefIdeal.τ).loc Cert.ConvSRefIdeal.main_arg1) = m ((c.tc : Thread Cert.ConvSIdeal.nD Cert.ConvSIdeal.τ).loc Cert.ConvSIdeal.main_arg1)
      ∧ m' ((c.tc : Thread Cert.ConvSRefIdeal.nD Cert.ConvSRefIdeal.τ).loc Cert.ConvSRefIdeal.main_arg2) = m ((c.tc : Thread Cert.ConvSIdeal.nD Cert.ConvSIdeal.τ).loc Cert.ConvSIdeal.main_arg2)
      ∧ m' ((c.tc : Thread Cert.ConvSRefIdeal.nD Cert.ConvSRefIdeal.τ).loc Cert.ConvSRefIdeal.main_arg3) = m ((c.tc : Thread Cert.ConvSIdeal.nD Cert.ConvSIdeal.τ).loc Cert.ConvSIdeal.main_arg3)
      ∧ m' ((c.tc : Thread Cert.ConvSRefIdeal.nD Cert.ConvSRefIdeal.τ).loc Cert.ConvSRefIdeal.main_arg4) = m ((c.tc : Thread Cert.ConvSIdeal.nD Cert.ConvSIdeal.τ).loc Cert.ConvSIdeal.main_arg4)
      ∧ m' ((c.tc : Thread Cert.ConvSRefIdeal.nD Cert.ConvSRefIdeal.τ).loc Cert.ConvSRefIdeal.main_arg5) = m ((c.tc : Thread Cert.ConvSIdeal.nD Cert.ConvSIdeal.τ).loc Cert.ConvSIdeal.main_arg5)
      ∧ m' ((c.tc : Thread Cert.ConvSRefIdeal.nD Cert.ConvSRefIdeal.τ).loc Cert.ConvSRefIdeal.main_arg6) = m ((c.tc : Thread Cert.ConvSIdeal.nD Cert.ConvSIdeal.τ).loc Cert.ConvSIdeal.main_arg6)
      ∧ m' ((c.tc : Thread Cert.ConvSRefIdeal.nD Cert.ConvSRefIdeal.τ).loc Cert.ConvSRefIdeal.main_arg7) = m ((c.tc : Thread Cert.ConvSIdeal.nD Cert.ConvSIdeal.τ).loc Cert.ConvSIdeal.main_arg7)
      ∧ m' ((c.tc : Thread Cert.ConvSRefIdeal.nD Cert.ConvSRefIdeal.τ).loc Cert.ConvSRefIdeal.main_arg8) = m ((c.tc : Thread Cert.ConvSIdeal.nD Cert.ConvSIdeal.τ).loc Cert.ConvSIdeal.main_arg8)
      ∧ m' ((c.tc : Thread Cert.ConvSRefIdeal.nD Cert.ConvSRefIdeal.τ).loc Cert.ConvSRefIdeal.main_arg9) = m ((c.tc : Thread Cert.ConvSIdeal.nD Cert.ConvSIdeal.τ).loc Cert.ConvSIdeal.main_arg9)) →
    ∃ (v0 : (c : Dev Cert.ConvSIdeal.nD) → Buf (Elt Ideal) ((c.tc : Thread Cert.ConvSIdeal.nD Cert.ConvSIdeal.τ).loc Cert.ConvSIdeal.main_v49)),
      θ_run (Cert.ConvSIdeal.defs (F := Ideal)) (onTc (τ := Cert.ConvSIdeal.τ) (Cert.ConvSIdeal.main (F := Ideal))) ⟨m, fun _ => 0, g⟩ (fun r => ∀ c : Dev Cert.ConvSIdeal.nD,
          r.2.mem ((c.tc : Thread Cert.ConvSIdeal.nD Cert.ConvSIdeal.τ).loc Cert.ConvSIdeal.main_v49) = v0 c
          ∧ r.2.mem ((c.tc : Thread Cert.ConvSIdeal.nD Cert.ConvSIdeal.τ).loc Cert.ConvSIdeal.main_arg0) = m ((c.tc : Thread Cert.ConvSIdeal.nD Cert.ConvSIdeal.τ).loc Cert.ConvSIdeal.main_arg0)
          ∧ r.2.mem ((c.tc : Thread Cert.ConvSIdeal.nD Cert.ConvSIdeal.τ).loc Cert.ConvSIdeal.main_arg1) = m ((c.tc : Thread Cert.ConvSIdeal.nD Cert.ConvSIdeal.τ).loc Cert.ConvSIdeal.main_arg1)
          ∧ r.2.mem ((c.tc : Thread Cert.ConvSIdeal.nD Cert.ConvSIdeal.τ).loc Cert.ConvSIdeal.main_arg2) = m ((c.tc : Thread Cert.ConvSIdeal.nD Cert.ConvSIdeal.τ).loc Cert.ConvSIdeal.main_arg2)
          ∧ r.2.mem ((c.tc : Thread Cert.ConvSIdeal.nD Cert.ConvSIdeal.τ).loc Cert.ConvSIdeal.main_arg3) = m ((c.tc : Thread Cert.ConvSIdeal.nD Cert.ConvSIdeal.τ).loc Cert.ConvSIdeal.main_arg3)
          ∧ r.2.mem ((c.tc : Thread Cert.ConvSIdeal.nD Cert.ConvSIdeal.τ).loc Cert.ConvSIdeal.main_arg4) = m ((c.tc : Thread Cert.ConvSIdeal.nD Cert.ConvSIdeal.τ).loc Cert.ConvSIdeal.main_arg4)
          ∧ r.2.mem ((c.tc : Thread Cert.ConvSIdeal.nD Cert.ConvSIdeal.τ).loc Cert.ConvSIdeal.main_arg5) = m ((c.tc : Thread Cert.ConvSIdeal.nD Cert.ConvSIdeal.τ).loc Cert.ConvSIdeal.main_arg5)
          ∧ r.2.mem ((c.tc : Thread Cert.ConvSIdeal.nD Cert.ConvSIdeal.τ).loc Cert.ConvSIdeal.main_arg6) = m ((c.tc : Thread Cert.ConvSIdeal.nD Cert.ConvSIdeal.τ).loc Cert.ConvSIdeal.main_arg6)
          ∧ r.2.mem ((c.tc : Thread Cert.ConvSIdeal.nD Cert.ConvSIdeal.τ).loc Cert.ConvSIdeal.main_arg7) = m ((c.tc : Thread Cert.ConvSIdeal.nD Cert.ConvSIdeal.τ).loc Cert.ConvSIdeal.main_arg7)
          ∧ r.2.mem ((c.tc : Thread Cert.ConvSIdeal.nD Cert.ConvSIdeal.τ).loc Cert.ConvSIdeal.main_arg8) = m ((c.tc : Thread Cert.ConvSIdeal.nD Cert.ConvSIdeal.τ).loc Cert.ConvSIdeal.main_arg8)
          ∧ r.2.mem ((c.tc : Thread Cert.ConvSIdeal.nD Cert.ConvSIdeal.τ).loc Cert.ConvSIdeal.main_arg9) = m ((c.tc : Thread Cert.ConvSIdeal.nD Cert.ConvSIdeal.τ).loc Cert.ConvSIdeal.main_arg9))
      ∧ θ_run (Cert.ConvSRefIdeal.defs (F := Ideal)) (onTc (τ := Cert.ConvSRefIdeal.τ) (Cert.ConvSRefIdeal.main (F := Ideal))) ⟨m', fun _ => 0, g'⟩ (fun r => ∀ c : Dev Cert.ConvSRefIdeal.nD,
          r.2.mem ((c.tc : Thread Cert.ConvSRefIdeal.nD Cert.ConvSRefIdeal.τ).loc Cert.ConvSRefIdeal.main_v5) = v0 c
          ∧ r.2.mem ((c.tc : Thread Cert.ConvSRefIdeal.nD Cert.ConvSRefIdeal.τ).loc Cert.ConvSRefIdeal.main_arg0) = m' ((c.tc : Thread Cert.ConvSRefIdeal.nD Cert.ConvSRefIdeal.τ).loc Cert.ConvSRefIdeal.main_arg0)
          ∧ r.2.mem ((c.tc : Thread Cert.ConvSRefIdeal.nD Cert.ConvSRefIdeal.τ).loc Cert.ConvSRefIdeal.main_arg1) = m' ((c.tc : Thread Cert.ConvSRefIdeal.nD Cert.ConvSRefIdeal.τ).loc Cert.ConvSRefIdeal.main_arg1)
          ∧ r.2.mem ((c.tc : Thread Cert.ConvSRefIdeal.nD Cert.ConvSRefIdeal.τ).loc Cert.ConvSRefIdeal.main_arg2) = m' ((c.tc : Thread Cert.ConvSRefIdeal.nD Cert.ConvSRefIdeal.τ).loc Cert.ConvSRefIdeal.main_arg2)
          ∧ r.2.mem ((c.tc : Thread Cert.ConvSRefIdeal.nD Cert.ConvSRefIdeal.τ).loc Cert.ConvSRefIdeal.main_arg3) = m' ((c.tc : Thread Cert.ConvSRefIdeal.nD Cert.ConvSRefIdeal.τ).loc Cert.ConvSRefIdeal.main_arg3)
          ∧ r.2.mem ((c.tc : Thread Cert.ConvSRefIdeal.nD Cert.ConvSRefIdeal.τ).loc Cert.ConvSRefIdeal.main_arg4) = m' ((c.tc : Thread Cert.ConvSRefIdeal.nD Cert.ConvSRefIdeal.τ).loc Cert.ConvSRefIdeal.main_arg4)
          ∧ r.2.mem ((c.tc : Thread Cert.ConvSRefIdeal.nD Cert.ConvSRefIdeal.τ).loc Cert.ConvSRefIdeal.main_arg5) = m' ((c.tc : Thread Cert.ConvSRefIdeal.nD Cert.ConvSRefIdeal.τ).loc Cert.ConvSRefIdeal.main_arg5)
          ∧ r.2.mem ((c.tc : Thread Cert.ConvSRefIdeal.nD Cert.ConvSRefIdeal.τ).loc Cert.ConvSRefIdeal.main_arg6) = m' ((c.tc : Thread Cert.ConvSRefIdeal.nD Cert.ConvSRefIdeal.τ).loc Cert.ConvSRefIdeal.main_arg6)
          ∧ r.2.mem ((c.tc : Thread Cert.ConvSRefIdeal.nD Cert.ConvSRefIdeal.τ).loc Cert.ConvSRefIdeal.main_arg7) = m' ((c.tc : Thread Cert.ConvSRefIdeal.nD Cert.ConvSRefIdeal.τ).loc Cert.ConvSRefIdeal.main_arg7)
          ∧ r.2.mem ((c.tc : Thread Cert.ConvSRefIdeal.nD Cert.ConvSRefIdeal.τ).loc Cert.ConvSRefIdeal.main_arg8) = m' ((c.tc : Thread Cert.ConvSRefIdeal.nD Cert.ConvSRefIdeal.τ).loc Cert.ConvSRefIdeal.main_arg8)
          ∧ r.2.mem ((c.tc : Thread Cert.ConvSRefIdeal.nD Cert.ConvSRefIdeal.τ).loc Cert.ConvSRefIdeal.main_arg9) = m' ((c.tc : Thread Cert.ConvSRefIdeal.nD Cert.ConvSRefIdeal.τ).loc Cert.ConvSRefIdeal.main_arg9))

def preserves_ConvP_ConvPIdeal : Prop :=
  True

def algebraic_ConvPIdeal_ConvPRefIdeal [hConvPIdeal : Cert.ConvPIdeal.Facts] [hConvPRefIdeal : Cert.ConvPRefIdeal.Facts] : Prop :=
  ∀ (m : (ℓ : Loc Cert.ConvPIdeal.nD Cert.ConvPIdeal.τ Cert.ConvPIdeal.sig) → Buf (Elt Ideal) ℓ) (g : Dev Cert.ConvPIdeal.nD → PrngReg)
    (m' : (ℓ : Loc Cert.ConvPRefIdeal.nD Cert.ConvPRefIdeal.τ Cert.ConvPRefIdeal.sig) → Buf (Elt Ideal) ℓ) (g' : Dev Cert.ConvPRefIdeal.nD → PrngReg), Pre_ConvPIdeal m →
    (∀ c : Dev Cert.ConvPIdeal.nD,
      m' ((c.tc : Thread Cert.ConvPRefIdeal.nD Cert.ConvPRefIdeal.τ).loc Cert.ConvPRefIdeal.main_arg0) = m ((c.tc : Thread Cert.ConvPIdeal.nD Cert.ConvPIdeal.τ).loc Cert.ConvPIdeal.main_arg0)
      ∧ m' ((c.tc : Thread Cert.ConvPRefIdeal.nD Cert.ConvPRefIdeal.τ).loc Cert.ConvPRefIdeal.main_arg1) = m ((c.tc : Thread Cert.ConvPIdeal.nD Cert.ConvPIdeal.τ).loc Cert.ConvPIdeal.main_arg1)
      ∧ m' ((c.tc : Thread Cert.ConvPRefIdeal.nD Cert.ConvPRefIdeal.τ).loc Cert.ConvPRefIdeal.main_arg2) = m ((c.tc : Thread Cert.ConvPIdeal.nD Cert.ConvPIdeal.τ).loc Cert.ConvPIdeal.main_arg2)
      ∧ m' ((c.tc : Thread Cert.ConvPRefIdeal.nD Cert.ConvPRefIdeal.τ).loc Cert.ConvPRefIdeal.main_arg3) = m ((c.tc : Thread Cert.ConvPIdeal.nD Cert.ConvPIdeal.τ).loc Cert.ConvPIdeal.main_arg3)
      ∧ m' ((c.tc : Thread Cert.ConvPRefIdeal.nD Cert.ConvPRefIdeal.τ).loc Cert.ConvPRefIdeal.main_arg4) = m ((c.tc : Thread Cert.ConvPIdeal.nD Cert.ConvPIdeal.τ).loc Cert.ConvPIdeal.main_arg4)
      ∧ m' ((c.tc : Thread Cert.ConvPRefIdeal.nD Cert.ConvPRefIdeal.τ).loc Cert.ConvPRefIdeal.main_arg5) = m ((c.tc : Thread Cert.ConvPIdeal.nD Cert.ConvPIdeal.τ).loc Cert.ConvPIdeal.main_arg5)
      ∧ m' ((c.tc : Thread Cert.ConvPRefIdeal.nD Cert.ConvPRefIdeal.τ).loc Cert.ConvPRefIdeal.main_arg6) = m ((c.tc : Thread Cert.ConvPIdeal.nD Cert.ConvPIdeal.τ).loc Cert.ConvPIdeal.main_arg6)
      ∧ m' ((c.tc : Thread Cert.ConvPRefIdeal.nD Cert.ConvPRefIdeal.τ).loc Cert.ConvPRefIdeal.main_arg7) = m ((c.tc : Thread Cert.ConvPIdeal.nD Cert.ConvPIdeal.τ).loc Cert.ConvPIdeal.main_arg7)) →
    ∃ (v0 : (c : Dev Cert.ConvPIdeal.nD) → Buf (Elt Ideal) ((c.tc : Thread Cert.ConvPIdeal.nD Cert.ConvPIdeal.τ).loc Cert.ConvPIdeal.main_v35)),
      θ_run (Cert.ConvPIdeal.defs (F := Ideal)) (onTc (τ := Cert.ConvPIdeal.τ) (Cert.ConvPIdeal.main (F := Ideal))) ⟨m, fun _ => 0, g⟩ (fun r => ∀ c : Dev Cert.ConvPIdeal.nD,
          r.2.mem ((c.tc : Thread Cert.ConvPIdeal.nD Cert.ConvPIdeal.τ).loc Cert.ConvPIdeal.main_v35) = v0 c
          ∧ r.2.mem ((c.tc : Thread Cert.ConvPIdeal.nD Cert.ConvPIdeal.τ).loc Cert.ConvPIdeal.main_arg0) = m ((c.tc : Thread Cert.ConvPIdeal.nD Cert.ConvPIdeal.τ).loc Cert.ConvPIdeal.main_arg0)
          ∧ r.2.mem ((c.tc : Thread Cert.ConvPIdeal.nD Cert.ConvPIdeal.τ).loc Cert.ConvPIdeal.main_arg1) = m ((c.tc : Thread Cert.ConvPIdeal.nD Cert.ConvPIdeal.τ).loc Cert.ConvPIdeal.main_arg1)
          ∧ r.2.mem ((c.tc : Thread Cert.ConvPIdeal.nD Cert.ConvPIdeal.τ).loc Cert.ConvPIdeal.main_arg2) = m ((c.tc : Thread Cert.ConvPIdeal.nD Cert.ConvPIdeal.τ).loc Cert.ConvPIdeal.main_arg2)
          ∧ r.2.mem ((c.tc : Thread Cert.ConvPIdeal.nD Cert.ConvPIdeal.τ).loc Cert.ConvPIdeal.main_arg3) = m ((c.tc : Thread Cert.ConvPIdeal.nD Cert.ConvPIdeal.τ).loc Cert.ConvPIdeal.main_arg3)
          ∧ r.2.mem ((c.tc : Thread Cert.ConvPIdeal.nD Cert.ConvPIdeal.τ).loc Cert.ConvPIdeal.main_arg4) = m ((c.tc : Thread Cert.ConvPIdeal.nD Cert.ConvPIdeal.τ).loc Cert.ConvPIdeal.main_arg4)
          ∧ r.2.mem ((c.tc : Thread Cert.ConvPIdeal.nD Cert.ConvPIdeal.τ).loc Cert.ConvPIdeal.main_arg5) = m ((c.tc : Thread Cert.ConvPIdeal.nD Cert.ConvPIdeal.τ).loc Cert.ConvPIdeal.main_arg5)
          ∧ r.2.mem ((c.tc : Thread Cert.ConvPIdeal.nD Cert.ConvPIdeal.τ).loc Cert.ConvPIdeal.main_arg6) = m ((c.tc : Thread Cert.ConvPIdeal.nD Cert.ConvPIdeal.τ).loc Cert.ConvPIdeal.main_arg6)
          ∧ r.2.mem ((c.tc : Thread Cert.ConvPIdeal.nD Cert.ConvPIdeal.τ).loc Cert.ConvPIdeal.main_arg7) = m ((c.tc : Thread Cert.ConvPIdeal.nD Cert.ConvPIdeal.τ).loc Cert.ConvPIdeal.main_arg7))
      ∧ θ_run (Cert.ConvPRefIdeal.defs (F := Ideal)) (onTc (τ := Cert.ConvPRefIdeal.τ) (Cert.ConvPRefIdeal.main (F := Ideal))) ⟨m', fun _ => 0, g'⟩ (fun r => ∀ c : Dev Cert.ConvPRefIdeal.nD,
          r.2.mem ((c.tc : Thread Cert.ConvPRefIdeal.nD Cert.ConvPRefIdeal.τ).loc Cert.ConvPRefIdeal.main_v5) = v0 c
          ∧ r.2.mem ((c.tc : Thread Cert.ConvPRefIdeal.nD Cert.ConvPRefIdeal.τ).loc Cert.ConvPRefIdeal.main_arg0) = m' ((c.tc : Thread Cert.ConvPRefIdeal.nD Cert.ConvPRefIdeal.τ).loc Cert.ConvPRefIdeal.main_arg0)
          ∧ r.2.mem ((c.tc : Thread Cert.ConvPRefIdeal.nD Cert.ConvPRefIdeal.τ).loc Cert.ConvPRefIdeal.main_arg1) = m' ((c.tc : Thread Cert.ConvPRefIdeal.nD Cert.ConvPRefIdeal.τ).loc Cert.ConvPRefIdeal.main_arg1)
          ∧ r.2.mem ((c.tc : Thread Cert.ConvPRefIdeal.nD Cert.ConvPRefIdeal.τ).loc Cert.ConvPRefIdeal.main_arg2) = m' ((c.tc : Thread Cert.ConvPRefIdeal.nD Cert.ConvPRefIdeal.τ).loc Cert.ConvPRefIdeal.main_arg2)
          ∧ r.2.mem ((c.tc : Thread Cert.ConvPRefIdeal.nD Cert.ConvPRefIdeal.τ).loc Cert.ConvPRefIdeal.main_arg3) = m' ((c.tc : Thread Cert.ConvPRefIdeal.nD Cert.ConvPRefIdeal.τ).loc Cert.ConvPRefIdeal.main_arg3)
          ∧ r.2.mem ((c.tc : Thread Cert.ConvPRefIdeal.nD Cert.ConvPRefIdeal.τ).loc Cert.ConvPRefIdeal.main_arg4) = m' ((c.tc : Thread Cert.ConvPRefIdeal.nD Cert.ConvPRefIdeal.τ).loc Cert.ConvPRefIdeal.main_arg4)
          ∧ r.2.mem ((c.tc : Thread Cert.ConvPRefIdeal.nD Cert.ConvPRefIdeal.τ).loc Cert.ConvPRefIdeal.main_arg5) = m' ((c.tc : Thread Cert.ConvPRefIdeal.nD Cert.ConvPRefIdeal.τ).loc Cert.ConvPRefIdeal.main_arg5)
          ∧ r.2.mem ((c.tc : Thread Cert.ConvPRefIdeal.nD Cert.ConvPRefIdeal.τ).loc Cert.ConvPRefIdeal.main_arg6) = m' ((c.tc : Thread Cert.ConvPRefIdeal.nD Cert.ConvPRefIdeal.τ).loc Cert.ConvPRefIdeal.main_arg6)
          ∧ r.2.mem ((c.tc : Thread Cert.ConvPRefIdeal.nD Cert.ConvPRefIdeal.τ).loc Cert.ConvPRefIdeal.main_arg7) = m' ((c.tc : Thread Cert.ConvPRefIdeal.nD Cert.ConvPRefIdeal.τ).loc Cert.ConvPRefIdeal.main_arg7))

def Claim : Prop :=
  ∃ (hAttn : Cert.Attn.Facts) (hAttnIdeal : Cert.AttnIdeal.Facts) (hAttnRefIdeal : Cert.AttnRefIdeal.Facts) (hProj : Cert.Proj.Facts) (hProjIdeal : Cert.ProjIdeal.Facts) (hProjRefIdeal : Cert.ProjRefIdeal.Facts) (hGmm : Cert.Gmm.Facts) (hGmmIdeal : Cert.GmmIdeal.Facts) (hGmmRefIdeal : Cert.GmmRefIdeal.Facts) (hDown : Cert.Down.Facts) (hDownIdeal : Cert.DownIdeal.Facts) (hDownRefIdeal : Cert.DownRefIdeal.Facts) (hConvS : Cert.ConvS.Facts) (hConvSIdeal : Cert.ConvSIdeal.Facts) (hConvSRefIdeal : Cert.ConvSRefIdeal.Facts) (hConvP : Cert.ConvP.Facts) (hConvPIdeal : Cert.ConvPIdeal.Facts) (hConvPRefIdeal : Cert.ConvPRefIdeal.Facts) (hPre_tables3 : Cert.Pre_tables3.Facts) (hPre_tables4 : Cert.Pre_tables4.Facts),
    quiescent_Attn (hAttn := hAttn)
    ∧ quiescent_AttnIdeal (hAttnIdeal := hAttnIdeal)
    ∧ quiescent_AttnRefIdeal (hAttnRefIdeal := hAttnRefIdeal)
    ∧ quiescent_Proj (hProj := hProj)
    ∧ quiescent_ProjIdeal (hProjIdeal := hProjIdeal)
    ∧ quiescent_ProjRefIdeal (hProjRefIdeal := hProjRefIdeal)
    ∧ quiescent_Gmm (hGmm := hGmm) (hPre_tables3 := hPre_tables3)
    ∧ quiescent_GmmIdeal (hGmmIdeal := hGmmIdeal) (hPre_tables3 := hPre_tables3)
    ∧ quiescent_GmmRefIdeal (hGmmRefIdeal := hGmmRefIdeal) (hPre_tables3 := hPre_tables3)
    ∧ quiescent_Down (hDown := hDown) (hPre_tables4 := hPre_tables4)
    ∧ quiescent_DownIdeal (hDownIdeal := hDownIdeal) (hPre_tables4 := hPre_tables4)
    ∧ quiescent_DownRefIdeal (hDownRefIdeal := hDownRefIdeal) (hPre_tables4 := hPre_tables4)
    ∧ quiescent_ConvS (hConvS := hConvS)
    ∧ quiescent_ConvSIdeal (hConvSIdeal := hConvSIdeal)
    ∧ quiescent_ConvSRefIdeal (hConvSRefIdeal := hConvSRefIdeal)
    ∧ quiescent_ConvP (hConvP := hConvP)
    ∧ quiescent_ConvPIdeal (hConvPIdeal := hConvPIdeal)
    ∧ quiescent_ConvPRefIdeal (hConvPRefIdeal := hConvPRefIdeal)
    ∧ preserves_Attn_AttnIdeal
    ∧ algebraic_AttnIdeal_AttnRefIdeal (hAttnIdeal := hAttnIdeal) (hAttnRefIdeal := hAttnRefIdeal)
    ∧ preserves_Proj_ProjIdeal
    ∧ algebraic_ProjIdeal_ProjRefIdeal (hProjIdeal := hProjIdeal) (hProjRefIdeal := hProjRefIdeal)
    ∧ preserves_Gmm_GmmIdeal
    ∧ algebraic_GmmIdeal_GmmRefIdeal (hGmmIdeal := hGmmIdeal) (hGmmRefIdeal := hGmmRefIdeal) (hPre_tables3 := hPre_tables3)
    ∧ preserves_Down_DownIdeal
    ∧ algebraic_DownIdeal_DownRefIdeal (hDownIdeal := hDownIdeal) (hDownRefIdeal := hDownRefIdeal) (hPre_tables4 := hPre_tables4)
    ∧ preserves_ConvS_ConvSIdeal
    ∧ algebraic_ConvSIdeal_ConvSRefIdeal (hConvSIdeal := hConvSIdeal) (hConvSRefIdeal := hConvSRefIdeal)
    ∧ preserves_ConvP_ConvPIdeal
    ∧ algebraic_ConvPIdeal_ConvPRefIdeal (hConvPIdeal := hConvPIdeal) (hConvPRefIdeal := hConvPRefIdeal)
-- ==== Pre_tables3.lean ====
abbrev S161 : Shape := ⟨1, ![161]⟩
abbrev S1 : Shape := ⟨1, ![1]⟩
abbrev S82432x2048 : Shape := ⟨2, ![82432, 2048]⟩
abbrev S32x2048x2048 : Shape := ⟨3, ![32, 2048, 2048]⟩
abbrev S32x1x2048 : Shape := ⟨3, ![32, 1, 2048]⟩
abbrev S_ : Shape := ⟨0, ![]⟩

class Facts : Prop where
  bcast_S_S161 : S_.BroadcastsInDim S161 (![] : Fin 0 → Fin S161.rank)
  reducesTo_S161_S_d0 : S161.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S161 32) (main_arg1 : IVec S1 32) (main_arg2 : FVec F S82432x2048 .bf16) (main_arg3 : FVec F S32x2048x2048 .f32) (main_arg4 : FVec F S32x2048x2048 .f32) (main_arg5 : FVec F S32x1x2048 .f32) (main_arg6 : FVec F S32x1x2048 .f32) : IVec S_ 1 :=
  let main_c : IVec S_ 32 := constantI S_ 32 0#32
  let main_v0 : IVec S161 32 := broadcastInDim S161 ![] bcast_S_S161 main_c
  let main_v1 : IVec S161 1 := cmpi .sge main_arg0 main_v0
  let main_c_0 : IVec S_ 32 := constantI S_ 32 32#32
  let main_v2 : IVec S161 32 := broadcastInDim S161 ![] bcast_S_S161 main_c_0
  let main_v3 : IVec S161 1 := cmpi .slt main_arg0 main_v2
  let main_v4 : IVec S161 1 := andi main_v1 main_v3
  let main_c_1 : IVec S_ 1 := constantI S_ 1 1#1
  let main_v5 : IVec S_ 1 := (fun x v => Host.reduce IntOp.andi x v reducesTo_S161_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Pre_tables4.lean ====
abbrev S161 : Shape := ⟨1, ![161]⟩
abbrev S1 : Shape := ⟨1, ![1]⟩
abbrev S82432x2048 : Shape := ⟨2, ![82432, 2048]⟩
abbrev S32x2048x2048 : Shape := ⟨3, ![32, 2048, 2048]⟩
abbrev S32x1x2048 : Shape := ⟨3, ![32, 1, 2048]⟩
abbrev S_ : Shape := ⟨0, ![]⟩

class Facts : Prop where
  bcast_S_S161 : S_.BroadcastsInDim S161 (![] : Fin 0 → Fin S161.rank)
  reducesTo_S161_S_d0 : S161.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S161 32) (main_arg1 : IVec S1 32) (main_arg2 : FVec F S82432x2048 .bf16) (main_arg3 : FVec F S32x2048x2048 .f32) (main_arg4 : FVec F S32x1x2048 .f32) : IVec S_ 1 :=
  let main_c : IVec S_ 32 := constantI S_ 32 0#32
  let main_v0 : IVec S161 32 := broadcastInDim S161 ![] bcast_S_S161 main_c
  let main_v1 : IVec S161 1 := cmpi .sge main_arg0 main_v0
  let main_c_0 : IVec S_ 32 := constantI S_ 32 32#32
  let main_v2 : IVec S161 32 := broadcastInDim S161 ![] bcast_S_S161 main_c_0
  let main_v3 : IVec S161 1 := cmpi .slt main_arg0 main_v2
  let main_v4 : IVec S161 1 := andi main_v1 main_v3
  let main_c_1 : IVec S_ 1 := constantI S_ 1 1#1
  let main_v5 : IVec S_ 1 := (fun x v => Host.reduce IntOp.andi x v reducesTo_S161_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Attn.lean ====
abbrev S16512x8192 : Shape := ⟨2, ![16512, 8192]⟩
abbrev S1x32x2048x16x64 : Shape := ⟨5, ![1, 32, 2048, 16, 64]⟩
abbrev S32x2048x16x64 : Shape := ⟨4, ![32, 2048, 16, 64]⟩
abbrev S32x2048x1024 : Shape := ⟨3, ![32, 2048, 1024]⟩
abbrev S32x4x1024 : Shape := ⟨3, ![32, 4, 1024]⟩
abbrev S128x128 : Shape := ⟨2, ![128, 128]⟩
abbrev S1x2048x128 : Shape := ⟨3, ![1, 2048, 128]⟩
abbrev S1x4x128 : Shape := ⟨3, ![1, 4, 128]⟩
abbrev S4x128 : Shape := ⟨2, ![4, 128]⟩
abbrev S8x128 : Shape := ⟨2, ![8, 128]⟩
abbrev S2048x128 : Shape := ⟨2, ![2048, 128]⟩
abbrev S8x2048 : Shape := ⟨2, ![8, 2048]⟩
abbrev S8x8 : Shape := ⟨2, ![8, 8]⟩
abbrev S8 : Shape := ⟨1, ![8]⟩
abbrev S8x1 : Shape := ⟨2, ![8, 1]⟩

abbrev nBuf : Space → Nat
  | .hbm => 8
  | .vmem => 12
  | .smem => 0
  | _ => 0

abbrev bufTy : (tb : Table) → Fin (tcTables nBuf tb) → BufTy
  | .hbm, ⟨0, _⟩ => ⟨S16512x8192, .f32⟩
  | .hbm, ⟨1, _⟩ => ⟨S1x32x2048x16x64, .f32⟩
  | .hbm, ⟨2, _⟩ => ⟨S1x32x2048x16x64, .f32⟩
  | .hbm, ⟨3, _⟩ => ⟨S32x2048x16x64, .f32⟩
  | .hbm, ⟨4, _⟩ => ⟨S32x2048x1024, .f32⟩
  | .hbm, ⟨5, _⟩ => ⟨S32x2048x16x64, .f32⟩
  | .hbm, ⟨6, _⟩ => ⟨S32x2048x1024, .f32⟩
  | .hbm, ⟨7, _⟩ => ⟨S32x4x1024, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x4x128, .f32⟩
  | .local _ .vmem, ⟨11, _⟩ => ⟨S1x4x128, .f32⟩
  | _, _ => ⟨S16512x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 8], ![false, false]⟩

def k0_off1 (i : grid0.Coords) : Fin 2 → Nat :=
  let arg0 : BitVec 32 := BitVec.ofNat 32 (i 0).val
  let c4_i32 : BitVec 32 := 4#32
  let v0 : BitVec 32 := Scalar.muli arg0 c4_i32
  let v1 : Index := Scalar.indexCast v0
  let c0 : Index := 0#32
  ![v1.toNat, 0]
def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c128_i32 : BitVec 32 := 128#32
  let c0_i32 : BitVec 32 := 0#32
  ![c128_i32.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c128_i32 : BitVec 32 := 128#32
  let c0_i32 : BitVec 32 := 0#32
  ![c128_i32.toNat, v0.toNat]

def cc0_transform_2 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c128_i32 : BitVec 32 := 128#32
  let c0_i32 : BitVec 32 := 0#32
  ![c128_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S16512x8192 : Shape := ⟨2, ![16512, 8192]⟩
abbrev S1x32x2048x16x64 : Shape := ⟨5, ![1, 32, 2048, 16, 64]⟩
abbrev S128x1024 : Shape := ⟨2, ![128, 1024]⟩
abbrev S32x4x16x64 : Shape := ⟨4, ![32, 4, 16, 64]⟩
abbrev S32x2048x16x64 : Shape := ⟨4, ![32, 2048, 16, 64]⟩
abbrev S32x2052x16x64 : Shape := ⟨4, ![32, 2052, 16, 64]⟩
abbrev S129 : Shape := ⟨1, ![129]⟩
abbrev S4 : Shape := ⟨1, ![4]⟩
abbrev S4x1 : Shape := ⟨2, ![4, 1]⟩
abbrev S_ : Shape := ⟨0, ![]⟩
abbrev S1x129 : Shape := ⟨2, ![1, 129]⟩
abbrev S4x129 : Shape := ⟨2, ![4, 129]⟩
abbrev S4x129x1 : Shape := ⟨3, ![4, 129, 1]⟩
abbrev S32x4x129x16x64 : Shape := ⟨5, ![32, 4, 129, 16, 64]⟩
abbrev S32x4x16x129 : Shape := ⟨4, ![32, 4, 16, 129]⟩
abbrev S1x4x1x129 : Shape := ⟨4, ![1, 4, 1, 129]⟩
abbrev S32x4x16 : Shape := ⟨3, ![32, 4, 16]⟩
abbrev S32x4x16x1 : Shape := ⟨4, ![32, 4, 16, 1]⟩
abbrev S1x32x4x16 : Shape := ⟨4, ![1, 32, 4, 16]⟩
abbrev S3x32x4x16 : Shape := ⟨4, ![3, 32, 4, 16]⟩
abbrev S1x32x4x16x64 : Shape := ⟨5, ![1, 32, 4, 16, 64]⟩
abbrev S3x32x4x16x64 : Shape := ⟨5, ![3, 32, 4, 16, 64]⟩
abbrev S3x32x4x16x1 : Shape := ⟨5, ![3, 32, 4, 16, 1]⟩
abbrev S32x4x1024 : Shape := ⟨3, ![32, 4, 1024]⟩

abbrev nBuf : Space → Nat
  | .hbm => 211
  | .vmem => 0
  | .smem => 0
  | _ => 0

abbrev hbmTy0_0 (i : Nat) : BufTy := match i % 128 with
  | 0 => ⟨S16512x8192, .f32⟩
  | 1 => ⟨S1x32x2048x16x64, .f32⟩
  | 2 => ⟨S1x32x2048x16x64, .f32⟩
  | 3 => ⟨S128x1024, .f32⟩
  | 4 => ⟨S32x4x16x64, .f32⟩
  | 5 => ⟨S128x1024, .f32⟩
  | 6 => ⟨S32x4x16x64, .f32⟩
  | 7 => ⟨S128x1024, .f32⟩
  | 8 => ⟨S32x4x16x64, .f32⟩
  | 9 => ⟨S32x2048x16x64, .f32⟩
  | 10 => ⟨S32x2048x16x64, .f32⟩
  | 11 => ⟨S32x2052x16x64, .f32⟩
  | 12 => ⟨S32x2052x16x64, .f32⟩
  | 13 => ⟨S129, .i32⟩
  | 14 => ⟨S4, .i32⟩
  | 15 => ⟨S4x1, .i32⟩
  | 16 => ⟨S_, .i32⟩
  | 17 => ⟨S4x1, .i32⟩
  | 18 => ⟨S4x1, .i32⟩
  | 19 => ⟨S1x129, .i32⟩
  | 20 => ⟨S_, .i32⟩
  | 21 => ⟨S1x129, .i32⟩
  | 22 => ⟨S1x129, .i32⟩
  | 23 => ⟨S4x129, .i32⟩
  | 24 => ⟨S4x129, .i32⟩
  | 25 => ⟨S4x129, .i32⟩
  | 26 => ⟨S_, .i32⟩
  | 27 => ⟨S4x129, .i32⟩
  | 28 => ⟨S4x129, .i1⟩
  | 29 => ⟨S_, .i32⟩
  | 30 => ⟨S4x129, .i32⟩
  | 31 => ⟨S4x129, .i32⟩
  | 32 => ⟨S_, .i32⟩
  | 33 => ⟨S4x129, .i32⟩
  | 34 => ⟨S4x129, .i1⟩
  | 35 => ⟨S_, .i32⟩
  | 36 => ⟨S4x129, .i32⟩
  | 37 => ⟨S4x129, .i32⟩
  | 38 => ⟨S4x129, .i32⟩
  | 39 => ⟨S4x129x1, .i32⟩
  | 40 => ⟨S32x4x129x16x64, .f32⟩
  | 41 => ⟨S_, .i32⟩
  | 42 => ⟨S4x129, .i32⟩
  | 43 => ⟨S4x129, .i1⟩
  | 44 => ⟨S_, .i32⟩
  | 45 => ⟨S4x129, .i32⟩
  | 46 => ⟨S4x129, .i32⟩
  | 47 => ⟨S4x129, .i32⟩
  | 48 => ⟨S4x129x1, .i32⟩
  | 49 => ⟨S32x4x129x16x64, .f32⟩
  | 50 => ⟨S32x4x16x129, .f32⟩
  | 51 => ⟨S_, .f32⟩
  | 52 => ⟨S32x4x16x129, .f32⟩
  | 53 => ⟨S32x4x16x129, .f32⟩
  | 54 => ⟨S1x4x1x129, .i1⟩
  | 55 => ⟨S_, .f32⟩
  | 56 => ⟨S_, .f32⟩
  | 57 => ⟨S32x4x16x129, .i1⟩
  | 58 => ⟨S32x4x16x129, .f32⟩
  | 59 => ⟨S32x4x16x129, .f32⟩
  | 60 => ⟨S_, .f32⟩
  | 61 => ⟨S32x4x16, .f32⟩
  | 62 => ⟨S32x4x16x1, .f32⟩
  | 63 => ⟨S32x4x16x129, .f32⟩
  | 64 => ⟨S32x4x16x129, .f32⟩
  | 65 => ⟨S32x4x16x129, .f32⟩
  | 66 => ⟨S_, .f32⟩
  | 67 => ⟨S32x4x16, .f32⟩
  | 68 => ⟨S32x4x16x64, .f32⟩
  | 69 => ⟨S129, .i32⟩
  | 70 => ⟨S4, .i32⟩
  | 71 => ⟨S4x1, .i32⟩
  | 72 => ⟨S_, .i32⟩
  | 73 => ⟨S4x1, .i32⟩
  | 74 => ⟨S4x1, .i32⟩
  | 75 => ⟨S1x129, .i32⟩
  | 76 => ⟨S_, .i32⟩
  | 77 => ⟨S1x129, .i32⟩
  | 78 => ⟨S1x129, .i32⟩
  | 79 => ⟨S4x129, .i32⟩
  | 80 => ⟨S4x129, .i32⟩
  | 81 => ⟨S4x129, .i32⟩
  | 82 => ⟨S_, .i32⟩
  | 83 => ⟨S4x129, .i32⟩
  | 84 => ⟨S4x129, .i1⟩
  | 85 => ⟨S_, .i32⟩
  | 86 => ⟨S4x129, .i32⟩
  | 87 => ⟨S4x129, .i32⟩
  | 88 => ⟨S_, .i32⟩
  | 89 => ⟨S4x129, .i32⟩
  | 90 => ⟨S4x129, .i1⟩
  | 91 => ⟨S_, .i32⟩
  | 92 => ⟨S4x129, .i32⟩
  | 93 => ⟨S4x129, .i32⟩
  | 94 => ⟨S4x129, .i32⟩
  | 95 => ⟨S4x129x1, .i32⟩
  | 96 => ⟨S32x4x129x16x64, .f32⟩
  | 97 => ⟨S_, .i32⟩
  | 98 => ⟨S4x129, .i32⟩
  | 99 => ⟨S4x129, .i1⟩
  | 100 => ⟨S_, .i32⟩
  | 101 => ⟨S4x129, .i32⟩
  | 102 => ⟨S4x129, .i32⟩
  | 103 => ⟨S4x129, .i32⟩
  | 104 => ⟨S4x129x1, .i32⟩
  | 105 => ⟨S32x4x129x16x64, .f32⟩
  | 106 => ⟨S32x4x16x129, .f32⟩
  | 107 => ⟨S_, .f32⟩
  | 108 => ⟨S32x4x16x129, .f32⟩
  | 109 => ⟨S32x4x16x129, .f32⟩
  | 110 => ⟨S1x4x1x129, .i1⟩
  | 111 => ⟨S_, .f32⟩
  | 112 => ⟨S_, .f32⟩
  | 113 => ⟨S32x4x16x129, .i1⟩
  | 114 => ⟨S32x4x16x129, .f32⟩
  | 115 => ⟨S32x4x16x129, .f32⟩
  | 116 => ⟨S_, .f32⟩
  | 117 => ⟨S32x4x16, .f32⟩
  | 118 => ⟨S32x4x16x1, .f32⟩
  | 119 => ⟨S32x4x16x129, .f32⟩
  | 120 => ⟨S32x4x16x129, .f32⟩
  | 121 => ⟨S32x4x16x129, .f32⟩
  | 122 => ⟨S_, .f32⟩
  | 123 => ⟨S32x4x16, .f32⟩
  | 124 => ⟨S32x4x16x64, .f32⟩
  | 125 => ⟨S129, .i32⟩
  | 126 => ⟨S4, .i32⟩
  | 127 => ⟨S4x1, .i32⟩
  | _ => ⟨S16512x8192, .f32⟩

abbrev hbmTy0_1 (i : Nat) : BufTy := match i % 128 with
  | 0 => ⟨S_, .i32⟩
  | 1 => ⟨S4x1, .i32⟩
  | 2 => ⟨S4x1, .i32⟩
  | 3 => ⟨S1x129, .i32⟩
  | 4 => ⟨S_, .i32⟩
  | 5 => ⟨S1x129, .i32⟩
  | 6 => ⟨S1x129, .i32⟩
  | 7 => ⟨S4x129, .i32⟩
  | 8 => ⟨S4x129, .i32⟩
  | 9 => ⟨S4x129, .i32⟩
  | 10 => ⟨S_, .i32⟩
  | 11 => ⟨S4x129, .i32⟩
  | 12 => ⟨S4x129, .i1⟩
  | 13 => ⟨S_, .i32⟩
  | 14 => ⟨S4x129, .i32⟩
  | 15 => ⟨S4x129, .i32⟩
  | 16 => ⟨S_, .i32⟩
  | 17 => ⟨S4x129, .i32⟩
  | 18 => ⟨S4x129, .i1⟩
  | 19 => ⟨S_, .i32⟩
  | 20 => ⟨S4x129, .i32⟩
  | 21 => ⟨S4x129, .i32⟩
  | 22 => ⟨S4x129, .i32⟩
  | 23 => ⟨S4x129x1, .i32⟩
  | 24 => ⟨S32x4x129x16x64, .f32⟩
  | 25 => ⟨S_, .i32⟩
  | 26 => ⟨S4x129, .i32⟩
  | 27 => ⟨S4x129, .i1⟩
  | 28 => ⟨S_, .i32⟩
  | 29 => ⟨S4x129, .i32⟩
  | 30 => ⟨S4x129, .i32⟩
  | 31 => ⟨S4x129, .i32⟩
  | 32 => ⟨S4x129x1, .i32⟩
  | 33 => ⟨S32x4x129x16x64, .f32⟩
  | 34 => ⟨S32x4x16x129, .f32⟩
  | 35 => ⟨S_, .f32⟩
  | 36 => ⟨S32x4x16x129, .f32⟩
  | 37 => ⟨S32x4x16x129, .f32⟩
  | 38 => ⟨S1x4x1x129, .i1⟩
  | 39 => ⟨S_, .f32⟩
  | 40 => ⟨S_, .f32⟩
  | 41 => ⟨S32x4x16x129, .i1⟩
  | 42 => ⟨S32x4x16x129, .f32⟩
  | 43 => ⟨S32x4x16x129, .f32⟩
  | 44 => ⟨S_, .f32⟩
  | 45 => ⟨S32x4x16, .f32⟩
  | 46 => ⟨S32x4x16x1, .f32⟩
  | 47 => ⟨S32x4x16x129, .f32⟩
  | 48 => ⟨S32x4x16x129, .f32⟩
  | 49 => ⟨S32x4x16x129, .f32⟩
  | 50 => ⟨S_, .f32⟩
  | 51 => ⟨S32x4x16, .f32⟩
  | 52 => ⟨S32x4x16x64, .f32⟩
  | 53 => ⟨S1x32x4x16, .f32⟩
  | 54 => ⟨S1x32x4x16, .f32⟩
  | 55 => ⟨S1x32x4x16, .f32⟩
  | 56 => ⟨S3x32x4x16, .f32⟩
  | 57 => ⟨S1x32x4x16, .f32⟩
  | 58 => ⟨S1x32x4x16, .f32⟩
  | 59 => ⟨S1x32x4x16, .f32⟩
  | 60 => ⟨S3x32x4x16, .f32⟩
  | 61 => ⟨S1x32x4x16x64, .f32⟩
  | 62 => ⟨S1x32x4x16x64, .f32⟩
  | 63 => ⟨S1x32x4x16x64, .f32⟩
  | 64 => ⟨S3x32x4x16x64, .f32⟩
  | 65 => ⟨S_, .f32⟩
  | 66 => ⟨S32x4x16, .f32⟩
  | 67 => ⟨S1x32x4x16, .f32⟩
  | 68 => ⟨S3x32x4x16, .f32⟩
  | 69 => ⟨S3x32x4x16, .f32⟩
  | 70 => ⟨S3x32x4x16, .f32⟩
  | 71 => ⟨S3x32x4x16x1, .f32⟩
  | 72 => ⟨S3x32x4x16x64, .f32⟩
  | 73 => ⟨S3x32x4x16x64, .f32⟩
  | 74 => ⟨S_, .f32⟩
  | 75 => ⟨S32x4x16x64, .f32⟩
  | 76 => ⟨S3x32x4x16, .f32⟩
  | 77 => ⟨S_, .f32⟩
  | 78 => ⟨S32x4x16, .f32⟩
  | 79 => ⟨S32x4x16x1, .f32⟩
  | 80 => ⟨S32x4x16x64, .f32⟩
  | 81 => ⟨S32x4x16x64, .f32⟩
  | 82 => ⟨S32x4x1024, .f32⟩
  | _ => ⟨S16512x8192, .f32⟩

abbrev hbmTy (i : Nat) : BufTy := match i / 128 with
  | 0 => hbmTy0_0 i
  | 1 => hbmTy0_1 i
  | _ => ⟨S16512x8192, .f32⟩

abbrev bufTy : (tb : Table) → Fin (tcTables nBuf tb) → BufTy
  | .hbm, ⟨i, _⟩ => hbmTy i
  | _, _ => ⟨S16512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_1 : Ref sig .tc := ⟨.hbm, 26, rfl⟩
abbrev main_v21 : Ref sig .tc := ⟨.hbm, 27, rfl⟩
abbrev main_v22 : Ref sig .tc := ⟨.hbm, 28, rfl⟩
abbrev main_c_2 : Ref sig .tc := ⟨.hbm, 29, rfl⟩
abbrev main_v23 : Ref sig .tc := ⟨.hbm, 30, rfl⟩
abbrev main_v24 : Ref sig .tc := ⟨.hbm, 31, rfl⟩
abbrev main_c_3 : Ref sig .tc := ⟨.hbm, 32, rfl⟩
abbrev main_v25 : Ref sig .tc := ⟨.hbm, 33, rfl⟩
abbrev main_v26 : Ref sig .tc := ⟨.hbm, 34, rfl⟩
abbrev main_c_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_5 : Ref sig .tc := ⟨.hbm, 41, rfl⟩
abbrev main_v32 : Ref sig .tc := ⟨.hbm, 42, rfl⟩
abbrev main_v33 : Ref sig .tc := ⟨.hbm, 43, rfl⟩
abbrev main_c_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_7 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c_12 : Ref sig .tc := ⟨.hbm, 82, rfl⟩
abbrev main_v62 : Ref sig .tc := ⟨.hbm, 83, rfl⟩
abbrev main_v63 : Ref sig .tc := ⟨.hbm, 84, rfl⟩
abbrev main_c_13 : Ref sig .tc := ⟨.hbm, 85, rfl⟩
abbrev main_v64 : Ref sig .tc := ⟨.hbm, 86, rfl⟩
abbrev main_v65 : Ref sig .tc := ⟨.hbm, 87, rfl⟩
abbrev main_c_14 : Ref sig .tc := ⟨.hbm, 88, rfl⟩
abbrev main_v66 : Ref sig .tc := ⟨.hbm, 89, rfl⟩
abbrev main_v67 : Ref sig .tc := ⟨.hbm, 90, rfl⟩
abbrev main_c_15 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_16 : Ref sig .tc := ⟨.hbm, 97, rfl⟩
abbrev main_v73 : Ref sig .tc := ⟨.hbm, 98, rfl⟩
abbrev main_v74 : Ref sig .tc := ⟨.hbm, 99, rfl⟩
abbrev main_c_17 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_18 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_19 : Ref sig .tc := ⟨.hbm, 111, rfl⟩
abbrev main_call1_v0 : Ref sig .tc := ⟨.hbm, 112, rfl⟩
abbrev main_call1_v1 : Ref sig .tc := ⟨.hbm, 113, rfl⟩
abbrev main_call1_v2 : Ref sig .tc := ⟨.hbm, 114, rfl⟩
abbrev main_v84 : Ref sig .tc := ⟨.hbm, 115, rfl⟩
abbrev main_cst_20 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_21 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_c_22 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_c_23 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_c_24 : Ref sig .tc := ⟨.hbm, 138, rfl⟩
abbrev main_v103 : Ref sig .tc := ⟨.hbm, 139, rfl⟩
abbrev main_v104 : Ref sig .tc := ⟨.hbm, 140, rfl⟩
abbrev main_c_25 : Ref sig .tc := ⟨.hbm, 141, rfl⟩
abbrev main_v105 : Ref sig .tc := ⟨.hbm, 142, rfl⟩
abbrev main_v106 : Ref sig .tc := ⟨.hbm, 143, rfl⟩
abbrev main_c_26 : Ref sig .tc := ⟨.hbm, 144, rfl⟩
abbrev main_v107 : Ref sig .tc := ⟨.hbm, 145, rfl⟩
abbrev main_v108 : Ref sig .tc := ⟨.hbm, 146, rfl⟩
abbrev main_c_27 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_c_28 : Ref sig .tc := ⟨.hbm, 153, rfl⟩
abbrev main_v114 : Ref sig .tc := ⟨.hbm, 154, rfl⟩
abbrev main_v115 : Ref sig .tc := ⟨.hbm, 155, rfl⟩
abbrev main_c_29 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_cst_30 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_cst_31 : Ref sig .tc := ⟨.hbm, 167, rfl⟩
abbrev main_call2_v0 : Ref sig .tc := ⟨.hbm, 168, rfl⟩
abbrev main_call2_v1 : Ref sig .tc := ⟨.hbm, 169, rfl⟩
abbrev main_call2_v2 : Ref sig .tc := ⟨.hbm, 170, rfl⟩
abbrev main_v125 : Ref sig .tc := ⟨.hbm, 171, rfl⟩
abbrev main_cst_32 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_cst_33 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_cst_34 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_cst_35 : Ref sig .tc := ⟨.hbm, 202, rfl⟩
abbrev main_v153 : Ref sig .tc := ⟨.hbm, 203, rfl⟩
abbrev main_v154 : Ref sig .tc := ⟨.hbm, 204, rfl⟩
abbrev main_cst_36 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩

abbrev nD : Nat := 1
abbrev τ : Topo := Topo.v7x

variable {F : FTy → Type} [FloatOps F]
-- ==== Proj.lean ====
abbrev S2x8192x2048 : Shape := ⟨3, ![2, 8192, 2048]⟩
abbrev S32x4x2048 : Shape := ⟨3, ![32, 4, 2048]⟩
abbrev S1x2048 : Shape := ⟨2, ![1, 2048]⟩
abbrev S1x2048x8224 : Shape := ⟨3, ![1, 2048, 8224]⟩
abbrev S2048x8224 : Shape := ⟨2, ![2048, 8224]⟩
abbrev S2048x3072 : Shape := ⟨2, ![2048, 3072]⟩
abbrev S2048x2048 : Shape := ⟨2, ![2048, 2048]⟩
abbrev S2048x8192 : Shape := ⟨2, ![2048, 8192]⟩
abbrev S2048x32 : Shape := ⟨2, ![2048, 32]⟩
abbrev S_ : Shape := ⟨0, ![]⟩
abbrev S2048x128 : Shape := ⟨2, ![2048, 128]⟩
abbrev S16384x2048 : Shape := ⟨2, ![16384, 2048]⟩
abbrev S128x2048 : Shape := ⟨2, ![128, 2048]⟩
abbrev S16512x2048 : Shape := ⟨2, ![16512, 2048]⟩
abbrev S2048 : Shape := ⟨1, ![2048]⟩
abbrev S16512x8192 : Shape := ⟨2, ![16512, 8192]⟩
abbrev S16512x128 : Shape := ⟨2, ![16512, 128]⟩
abbrev S384x2048 : Shape := ⟨2, ![384, 2048]⟩
abbrev S2048x1024 : Shape := ⟨2, ![2048, 1024]⟩
abbrev S384x1024 : Shape := ⟨2, ![384, 1024]⟩
abbrev S384x128 : Shape := ⟨2, ![384, 128]⟩
abbrev S384 : Shape := ⟨1, ![384]⟩
abbrev S384x1 : Shape := ⟨2, ![384, 1]⟩

abbrev nBuf : Space → Nat
  | .hbm => 22
  | .vmem => 11
  | .smem => 0
  | _ => 0

abbrev bufTy : (tb : Table) → Fin (tcTables nBuf tb) → BufTy
  | .hbm, ⟨0, _⟩ => ⟨S2x8192x2048, .f32⟩
  | .hbm, ⟨1, _⟩ => ⟨S32x4x2048, .f32⟩
  | .hbm, ⟨2, _⟩ => ⟨S1x2048, .f32⟩
  | .hbm, ⟨3, _⟩ => ⟨S1x2048x8224, .f32⟩
  | .hbm, ⟨4, _⟩ => ⟨S2048x8224, .f32⟩
  | .hbm, ⟨5, _⟩ => ⟨S2048x3072, .f32⟩
  | .hbm, ⟨6, _⟩ => ⟨S2048x3072, .f32⟩
  | .hbm, ⟨7, _⟩ => ⟨S2048x2048, .f32⟩
  | .hbm, ⟨8, _⟩ => ⟨S2048x8192, .f32⟩
  | .hbm, ⟨9, _⟩ => ⟨S2048x8192, .bf16⟩
  | .hbm, ⟨10, _⟩ => ⟨S2048x32, .f32⟩
  | .hbm, ⟨11, _⟩ => ⟨S_, .i32⟩
  | .hbm, ⟨12, _⟩ => ⟨S_, .f32⟩
  | .hbm, ⟨13, _⟩ => ⟨S2048x128, .f32⟩
  | .hbm, ⟨14, _⟩ => ⟨S2048x128, .bf16⟩
  | .hbm, ⟨15, _⟩ => ⟨S16384x2048, .f32⟩
  | .hbm, ⟨16, _⟩ => ⟨S128x2048, .f32⟩
  | .hbm, ⟨17, _⟩ => ⟨S16512x2048, .f32⟩
  | .hbm, ⟨18, _⟩ => ⟨S2048, .f32⟩
  | .hbm, ⟨19, _⟩ => ⟨S1x2048, .f32⟩
  | .hbm, ⟨20, _⟩ => ⟨S16512x8192, .f32⟩
  | .hbm, ⟨21, _⟩ => ⟨S16512x128, .f32⟩
  | .local _ .vmem, ⟨0, _⟩ => ⟨S384x2048, .f32⟩
  | .local _ .vmem, ⟨1, _⟩ => ⟨S384x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x128, .bf16⟩
  | .local _ .vmem, ⟨6, _⟩ => ⟨S384x1024, .f32⟩
  | .local _ .vmem, ⟨7, _⟩ => ⟨S384x1024, .f32⟩
  | .local _ .vmem, ⟨8, _⟩ => ⟨S384x128, .f32⟩
  | .local _ .vmem, ⟨9, _⟩ => ⟨S384x128, .f32⟩
  | .local _ .vmem, ⟨10, _⟩ => ⟨S384x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![43, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S384x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ProjRefIdeal.lean ====
abbrev S2x8192x2048 : Shape := ⟨3, ![2, 8192, 2048]⟩
abbrev S32x4x2048 : Shape := ⟨3, ![32, 4, 2048]⟩
abbrev S1x2048 : Shape := ⟨2, ![1, 2048]⟩
abbrev S1x2048x8224 : Shape := ⟨3, ![1, 2048, 8224]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2048x8224 : Shape := ⟨2, ![2048, 8224]⟩
abbrev S2x8192x8224 : Shape := ⟨3, ![2, 8192, 8224]⟩
abbrev S2x8192x1024 : Shape := ⟨3, ![2, 8192, 1024]⟩
abbrev S2x8192x3072 : Shape := ⟨3, ![2, 8192, 3072]⟩
abbrev S2x8192x32 : Shape := ⟨3, ![2, 8192, 32]⟩
abbrev S2x8192x8192 : Shape := ⟨3, ![2, 8192, 8192]⟩
abbrev S32x4 : Shape := ⟨2, ![32, 4]⟩
abbrev S32x4x1 : Shape := ⟨3, ![32, 4, 1]⟩
abbrev S32x4x8224 : Shape := ⟨3, ![32, 4, 8224]⟩
abbrev S32x4x1024 : Shape := ⟨3, ![32, 4, 1024]⟩
abbrev S32x4x3072 : Shape := ⟨3, ![32, 4, 3072]⟩
abbrev S32x4x32 : Shape := ⟨3, ![32, 4, 32]⟩
abbrev S32x4x8192 : Shape := ⟨3, ![32, 4, 8192]⟩
abbrev S16384x8192 : Shape := ⟨2, ![16384, 8192]⟩
abbrev S128x8192 : Shape := ⟨2, ![128, 8192]⟩
abbrev S16512x8192 : Shape := ⟨2, ![16512, 8192]⟩
abbrev S16384x32 : Shape := ⟨2, ![16384, 32]⟩
abbrev S128x32 : Shape := ⟨2, ![128, 32]⟩
abbrev S16512x32 : Shape := ⟨2, ![16512, 32]⟩
abbrev S16512x128 : Shape := ⟨2, ![16512, 128]⟩

abbrev nBuf : Space → Nat
  | .hbm => 65
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S32x4x2048, .f32⟩
  | .hbm, ⟨2, _⟩ => ⟨S1x2048, .f32⟩
  | .hbm, ⟨3, _⟩ => ⟨S1x2048x8224, .f32⟩
  | .hbm, ⟨4, _⟩ => ⟨S2048, .f32⟩
  | .hbm, ⟨5, _⟩ => ⟨S2x8192x2048, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x2048, .f32⟩
  | .hbm, ⟨17, _⟩ => ⟨S2x8192x2048, .f32⟩
  | .hbm, ⟨18, _⟩ => ⟨S1x1x2048, .f32⟩
  | .hbm, ⟨19, _⟩ => ⟨S2x8192x2048, .f32⟩
  | .hbm, ⟨20, _⟩ => ⟨S2x8192x2048, .f32⟩
  | .hbm, ⟨21, _⟩ => ⟨S2048x8224, .f32⟩
  | .hbm, ⟨22, _⟩ => ⟨S2x8192x8224, .f32⟩
  | .hbm, ⟨23, _⟩ => ⟨S2x8192x1024, .f32⟩
  | .hbm, ⟨24, _⟩ => ⟨S2x8192x1024, .f32⟩
  | .hbm, ⟨25, _⟩ => ⟨S2x8192x1024, .f32⟩
  | .hbm, ⟨26, _⟩ => ⟨S2x8192x2048, .f32⟩
  | .hbm, ⟨27, _⟩ => ⟨S2x8192x3072, .f32⟩
  | .hbm, ⟨28, _⟩ => ⟨S2x8192x32, .f32⟩
  | .hbm, ⟨29, _⟩ => ⟨S2x8192x8192, .f32⟩
  | .hbm, ⟨30, _⟩ => ⟨S2048, .f32⟩
  | .hbm, ⟨31, _⟩ => ⟨S32x4x2048, .f32⟩
  | .hbm, ⟨32, _⟩ => ⟨S_, .f32⟩
  | .hbm, ⟨33, _⟩ => ⟨S32x4, .f32⟩
  | .hbm, ⟨34, _⟩ => ⟨S32x4x1, .f32⟩
  | .hbm, ⟨35, _⟩ => ⟨S_, .f32⟩
  | .hbm, ⟨36, _⟩ => ⟨S32x4x1, .f32⟩
  | .hbm, ⟨37, _⟩ => ⟨S32x4x1, .f32⟩
  | .hbm, ⟨38, _⟩ => ⟨S_, .f32⟩
  | .hbm, ⟨39, _⟩ => ⟨S32x4x1, .f32⟩
  | .hbm, ⟨40, _⟩ => ⟨S32x4x1, .f32⟩
  | .hbm, ⟨41, _⟩ => ⟨S32x4x1, .f32⟩
  | .hbm, ⟨42, _⟩ => ⟨S32x4x2048, .f32⟩
  | .hbm, ⟨43, _⟩ => ⟨S32x4x2048, .f32⟩
  | .hbm, ⟨44, _⟩ => ⟨S1x1x2048, .f32⟩
  | .hbm, ⟨45, _⟩ => ⟨S32x4x2048, .f32⟩
  | .hbm, ⟨46, _⟩ => ⟨S32x4x2048, .f32⟩
  | .hbm, ⟨47, _⟩ => ⟨S2048x8224, .f32⟩
  | .hbm, ⟨48, _⟩ => ⟨S32x4x8224, .f32⟩
  | .hbm, ⟨49, _⟩ => ⟨S32x4x1024, .f32⟩
  | .hbm, ⟨50, _⟩ => ⟨S32x4x1024, .f32⟩
  | .hbm, ⟨51, _⟩ => ⟨S32x4x1024, .f32⟩
  | .hbm, ⟨52, _⟩ => ⟨S32x4x2048, .f32⟩
  | .hbm, ⟨53, _⟩ => ⟨S32x4x3072, .f32⟩
  | .hbm, ⟨54, _⟩ => ⟨S32x4x32, .f32⟩
  | .hbm, ⟨55, _⟩ => ⟨S32x4x8192, .f32⟩
  | .hbm, ⟨56, _⟩ => ⟨S16384x8192, .f32⟩
  | .hbm, ⟨57, _⟩ => ⟨S128x8192, .f32⟩
  | .hbm, ⟨58, _⟩ => ⟨S16512x8192, .f32⟩
  | .hbm, ⟨59, _⟩ => ⟨S16384x32, .f32⟩
  | .hbm, ⟨60, _⟩ => ⟨S128x32, .f32⟩
  | .hbm, ⟨61, _⟩ => ⟨S16512x32, .f32⟩
  | .hbm, ⟨62, _⟩ => ⟨S_, .i32⟩
  | .hbm, ⟨63, _⟩ => ⟨S_, .f32⟩
  | .hbm, ⟨64, _⟩ => ⟨S16512x128, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_c : Ref sig .tc := ⟨.hbm, 62, rfl⟩
abbrev main_call0_v0 : Ref sig .tc := ⟨.hbm, 63, rfl⟩
abbrev main_v52 : Ref sig .tc := ⟨.hbm, 64, rfl⟩

abbrev nD : Nat := 1
abbrev τ : Topo := Topo.v7x

variable {F : FTy → Type} [FloatOps F]
-- ==== Gmm.lean ====
abbrev S161 : Shape := ⟨1, ![161]⟩
abbrev S1 : Shape := ⟨1, ![1]⟩
abbrev S82432x2048 : Shape := ⟨2, ![82432, 2048]⟩
abbrev S32x2048x2048 : Shape := ⟨3, ![32, 2048, 2048]⟩
abbrev S32x1x2048 : Shape := ⟨3, ![32, 1, 2048]⟩
abbrev S512x2048 : Shape := ⟨2, ![512, 2048]⟩
abbrev S1x2048x512 : Shape := ⟨3, ![1, 2048, 512]⟩
abbrev S1x1x512 : Shape := ⟨3, ![1, 1, 512]⟩
abbrev S512x512 : Shape := ⟨2, ![512, 512]⟩
abbrev S2048x512 : Shape := ⟨2, ![2048, 512]⟩
abbrev S1x512 : Shape := ⟨2, ![1, 512]⟩

abbrev nBuf : Space → Nat
  | .hbm => 6
  | .vmem => 14
  | .smem => 2
  | _ => 0

abbrev bufTy : (tb : Table) → Fin (tcTables nBuf tb) → BufTy
  | .hbm, ⟨0, _⟩ => ⟨S82432x2048, .bf16⟩
  | .hbm, ⟨1, _⟩ => ⟨S32x2048x2048, .f32⟩
  | .hbm, ⟨2, _⟩ => ⟨S32x2048x2048, .f32⟩
  | .hbm, ⟨3, _⟩ => ⟨S32x1x2048, .f32⟩
  | .hbm, ⟨4, _⟩ => ⟨S32x1x2048, .f32⟩
  | .hbm, ⟨5, _⟩ => ⟨S82432x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S512x512, .bf16⟩
  | .local _ .vmem, ⟨11, _⟩ => ⟨S512x512, .bf16⟩
  | .local _ .vmem, ⟨12, _⟩ => ⟨S2048x512, .bf16⟩
  | .local _ .vmem, ⟨13, _⟩ => ⟨S2048x512, .bf16⟩
  | .local _ .smem, ⟨0, _⟩ => ⟨S161, .i32⟩
  | .local _ .smem, ⟨1, _⟩ => ⟨S1, .i32⟩
  | _, _ => ⟨S82432x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 161], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S161.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S161) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S161.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S161) ![v0.toNat] S1.size (k0_off1_inb i)) numel1_S1
  let c0_i32 : BitVec 32 := 0#32
  let c0_i32_0 : BitVec 32 := 0#32
  ![v1.toNat, c0_i32.toNat, arg0.toNat]

def cc0_transform_3 (k0_off1_inb : ∀ i : grid0.Coords, ∀ a, (k0_off1 i) a + S1.size a ≤ S161.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S161) ![v0.toNat] S1.size (k0_off1_inb i)) numel1_S1
  let c0_i32 : BitVec 32 := 0#32
  let c0_i32_0 : BitVec 32 := 0#32
  ![v1.toNat, c0_i32.toNat, arg0.toNat]

def cc0_transform_4 (k0_off1_inb : ∀ i : grid0.Coords, ∀ a, (k0_off1 i) a + S1.size a ≤ S161.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S161) ![v0.toNat] S1.size (k0_off1_inb i)) numel1_S1
  let c0_i32 : BitVec 32 := 0#32
  let c0_i32_0 : BitVec 32 := 0#32
  ![v1.toNat, c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GmmRefIdeal.lean ====
abbrev S161 : Shape := ⟨1, ![161]⟩
abbrev S1 : Shape := ⟨1, ![1]⟩
abbrev S82432x2048 : Shape := ⟨2, ![82432, 2048]⟩
abbrev S32x2048x2048 : Shape := ⟨3, ![32, 2048, 2048]⟩
abbrev S32x1x2048 : Shape := ⟨3, ![32, 1, 2048]⟩
abbrev S161x512x2048 : Shape := ⟨3, ![161, 512, 2048]⟩
abbrev S_ : Shape := ⟨0, ![]⟩
abbrev S161x1 : Shape := ⟨2, ![161, 1]⟩
abbrev S161x2048x2048 : Shape := ⟨3, ![161, 2048, 2048]⟩
abbrev S161x1x2048 : Shape := ⟨3, ![161, 1, 2048]⟩
abbrev S161x1x1 : Shape := ⟨3, ![161, 1, 1]⟩

abbrev nBuf : Space → Nat
  | .hbm => 90
  | .vmem => 0
  | .smem => 0
  | _ => 0

abbrev bufTy : (tb : Table) → Fin (tcTables nBuf tb) → BufTy
  | .hbm, ⟨0, _⟩ => ⟨S161, .i32⟩
  | .hbm, ⟨1, _⟩ => ⟨S1, .i32⟩
  | .hbm, ⟨2, _⟩ => ⟨S82432x2048, .bf16⟩
  | .hbm, ⟨3, _⟩ => ⟨S32x2048x2048, .f32⟩
  | .hbm, ⟨4, _⟩ => ⟨S32x2048x2048, .f32⟩
  | .hbm, ⟨5, _⟩ => ⟨S32x1x2048, .f32⟩
  | .hbm, ⟨6, _⟩ => ⟨S32x1x2048, .f32⟩
  | .hbm, ⟨7, _⟩ => ⟨S82432x2048, .f32⟩
  | .hbm, ⟨8, _⟩ => ⟨S161x512x2048, .f32⟩
  | .hbm, ⟨9, _⟩ => ⟨S_, .i32⟩
  | .hbm, ⟨10, _⟩ => ⟨S161, .i32⟩
  | .hbm, ⟨11, _⟩ => ⟨S161, .i1⟩
  | .hbm, ⟨12, _⟩ => ⟨S_, .i32⟩
  | .hbm, ⟨13, _⟩ => ⟨S161, .i32⟩
  | .hbm, ⟨14, _⟩ => ⟨S161, .i32⟩
  | .hbm, ⟨15, _⟩ => ⟨S161, .i32⟩
  | .hbm, ⟨16, _⟩ => ⟨S161x1, .i32⟩
  | .hbm, ⟨17, _⟩ => ⟨S161x2048x2048, .f32⟩
  | .hbm, ⟨18, _⟩ => ⟨S161x512x2048, .f32⟩
  | .hbm, ⟨19, _⟩ => ⟨S_, .i32⟩
  | .hbm, ⟨20, _⟩ => ⟨S161, .i32⟩
  | .hbm, ⟨21, _⟩ => ⟨S161, .i1⟩
  | .hbm, ⟨22, _⟩ => ⟨S_, .i32⟩
  | .hbm, ⟨23, _⟩ => ⟨S161, .i32⟩
  | .hbm, ⟨24, _⟩ => ⟨S161, .i32⟩
  | .hbm, ⟨25, _⟩ => ⟨S161, .i32⟩
  | .hbm, ⟨26, _⟩ => ⟨S161x1, .i32⟩
  | .hbm, ⟨27, _⟩ => ⟨S161x1x2048, .f32⟩
  | .hbm, ⟨28, _⟩ => ⟨S161x512x2048, .f32⟩
  | .hbm, ⟨29, _⟩ => ⟨S161x512x2048, .f32⟩
  | .hbm, ⟨30, _⟩ => ⟨S_, .i32⟩
  | .hbm, ⟨31, _⟩ => ⟨S161, .i32⟩
  | .hbm, ⟨32, _⟩ => ⟨S161, .i1⟩
  | .hbm, ⟨33, _⟩ => ⟨S_, .i32⟩
  | .hbm, ⟨34, _⟩ => ⟨S161, .i32⟩
  | .hbm, ⟨35, _⟩ => ⟨S161, .i32⟩
  | .hbm, ⟨36, _⟩ => ⟨S161, .i32⟩
  | .hbm, ⟨37, _⟩ => ⟨S161x1, .i32⟩
  | .hbm, ⟨38, _⟩ => ⟨S161x2048x2048, .f32⟩
  | .hbm, ⟨39, _⟩ => ⟨S161x512x2048, .f32⟩
  | .hbm, ⟨40, _⟩ => ⟨S_, .i32⟩
  | .hbm, ⟨41, _⟩ => ⟨S161, .i32⟩
  | .hbm, ⟨42, _⟩ => ⟨S161, .i1⟩
  | .hbm, ⟨43, _⟩ => ⟨S_, .i32⟩
  | .hbm, ⟨44, _⟩ => ⟨S161, .i32⟩
  | .hbm, ⟨45, _⟩ => ⟨S161, .i32⟩
  | .hbm, ⟨46, _⟩ => ⟨S161, .i32⟩
  | .hbm, ⟨47, _⟩ => ⟨S161x1, .i32⟩
  | .hbm, ⟨48, _⟩ => ⟨S161x1x2048, .f32⟩
  | .hbm, ⟨49, _⟩ => ⟨S161x512x2048, .f32⟩
  | .hbm, ⟨50, _⟩ => ⟨S161x512x2048, .f32⟩
  | .hbm, ⟨51, _⟩ => ⟨S_, .f32⟩
  | .hbm, ⟨52, _⟩ => ⟨S161x512x2048, .f32⟩
  | .hbm, ⟨53, _⟩ => ⟨S161x512x2048, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S161x512x2048, .f32⟩
  | .hbm, ⟨58, _⟩ => ⟨S161x512x2048, .f32⟩
  | .hbm, ⟨59, _⟩ => ⟨S_, .f32⟩
  | .hbm, ⟨60, _⟩ => ⟨S161x512x2048, .f32⟩
  | .hbm, ⟨61, _⟩ => ⟨S161x512x2048, .f32⟩
  | .hbm, ⟨62, _⟩ => ⟨S_, .f32⟩
  | .hbm, ⟨63, _⟩ => ⟨S161x512x2048, .f32⟩
  | .hbm, ⟨64, _⟩ => ⟨S161x512x2048, .f32⟩
  | .hbm, ⟨65, _⟩ => ⟨S161x512x2048, .f32⟩
  | .hbm, ⟨66, _⟩ => ⟨S_, .f32⟩
  | .hbm, ⟨67, _⟩ => ⟨S161x512x2048, .f32⟩
  | .hbm, ⟨68, _⟩ => ⟨S161x512x2048, .f32⟩
  | .hbm, ⟨69, _⟩ => ⟨S161x512x2048, .f32⟩
  | .hbm, ⟨70, _⟩ => ⟨S161x512x2048, .f32⟩
  | .hbm, ⟨71, _⟩ => ⟨S_, .f32⟩
  | .hbm, ⟨72, _⟩ => ⟨S161x512x2048, .f32⟩
  | .hbm, ⟨73, _⟩ => ⟨S161x512x2048, .f32⟩
  | .hbm, ⟨74, _⟩ => ⟨S_, .f32⟩
  | .hbm, ⟨75, _⟩ => ⟨S161x512x2048, .f32⟩
  | .hbm, ⟨76, _⟩ => ⟨S161x512x2048, .f32⟩
  | .hbm, ⟨77, _⟩ => ⟨S161x512x2048, .f32⟩
  | .hbm, ⟨78, _⟩ => ⟨S161, .i32⟩
  | .hbm, ⟨79, _⟩ => ⟨S161x1x1, .i32⟩
  | .hbm, ⟨80, _⟩ => ⟨S_, .i32⟩
  | .hbm, ⟨81, _⟩ => ⟨S161x1x1, .i32⟩
  | .hbm, ⟨82, _⟩ => ⟨S161x1x1, .i1⟩
  | .hbm, ⟨83, _⟩ => ⟨S_, .f32⟩
  | .hbm, ⟨84, _⟩ => ⟨S_, .f32⟩
  | .hbm, ⟨85, _⟩ => ⟨S161x512x2048, .i1⟩
  | .hbm, ⟨86, _⟩ => ⟨S161x512x2048, .f32⟩
  | .hbm, ⟨87, _⟩ => ⟨S161x512x2048, .f32⟩
  | .hbm, ⟨88, _⟩ => ⟨S82432x2048, .f32⟩
  | .hbm, ⟨89, _⟩ => ⟨S82432x2048, .bf16⟩
  | _, _ => ⟨S161, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_cst_8 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_10 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_11 : Ref sig .tc := ⟨.hbm, 71, rfl⟩
abbrev main_v46 : Ref sig .tc := ⟨.hbm, 72, rfl⟩
abbrev main_v47 : Ref sig .tc := ⟨.hbm, 73, rfl⟩
abbrev main_cst_12 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_13 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩

abbrev nD : Nat := 1
abbrev τ : Topo := Topo.v7x

variable {F : FTy → Type} [FloatOps F]
-- ==== Down.lean ====
abbrev S161 : Shape := ⟨1, ![161]⟩
abbrev S1 : Shape := ⟨1, ![1]⟩
abbrev S82432x2048 : Shape := ⟨2, ![82432, 2048]⟩
abbrev S32x2048x2048 : Shape := ⟨3, ![32, 2048, 2048]⟩
abbrev S32x1x2048 : Shape := ⟨3, ![32, 1, 2048]⟩
abbrev S512x2048 : Shape := ⟨2, ![512, 2048]⟩
abbrev S1x2048x512 : Shape := ⟨3, ![1, 2048, 512]⟩
abbrev S1x1x512 : Shape := ⟨3, ![1, 1, 512]⟩
abbrev S512x512 : Shape := ⟨2, ![512, 512]⟩
abbrev S2048x512 : Shape := ⟨2, ![2048, 512]⟩
abbrev S1x512 : Shape := ⟨2, ![1, 512]⟩

abbrev nBuf : Space → Nat
  | .hbm => 4
  | .vmem => 9
  | .smem => 2
  | _ => 0

abbrev bufTy : (tb : Table) → Fin (tcTables nBuf tb) → BufTy
  | .hbm, ⟨0, _⟩ => ⟨S82432x2048, .bf16⟩
  | .hbm, ⟨1, _⟩ => ⟨S32x2048x2048, .f32⟩
  | .hbm, ⟨2, _⟩ => ⟨S32x1x2048, .f32⟩
  | .hbm, ⟨3, _⟩ => ⟨S82432x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x1x512, .f32⟩
  | .local _ .vmem, ⟨5, _⟩ => ⟨S1x1x512, .f32⟩
  | .local _ .vmem, ⟨6, _⟩ => ⟨S512x512, .f32⟩
  | .local _ .vmem, ⟨7, _⟩ => ⟨S512x512, .f32⟩
  | .local _ .vmem, ⟨8, _⟩ => ⟨S2048x512, .bf16⟩
  | .local _ .smem, ⟨0, _⟩ => ⟨S161, .i32⟩
  | .local _ .smem, ⟨1, _⟩ => ⟨S1, .i32⟩
  | _, _ => ⟨S82432x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 161], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S161.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S161) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S161.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S161) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S161 : Shape := ⟨1, ![161]⟩
abbrev S1 : Shape := ⟨1, ![1]⟩
abbrev S82432x2048 : Shape := ⟨2, ![82432, 2048]⟩
abbrev S32x2048x2048 : Shape := ⟨3, ![32, 2048, 2048]⟩
abbrev S32x1x2048 : Shape := ⟨3, ![32, 1, 2048]⟩
abbrev S161x512x2048 : Shape := ⟨3, ![161, 512, 2048]⟩
abbrev S_ : Shape := ⟨0, ![]⟩
abbrev S161x1 : Shape := ⟨2, ![161, 1]⟩
abbrev S161x2048x2048 : Shape := ⟨3, ![161, 2048, 2048]⟩
abbrev S161x1x2048 : Shape := ⟨3, ![161, 1, 2048]⟩
abbrev S161x1x1 : Shape := ⟨3, ![161, 1, 1]⟩

abbrev nBuf : Space → Nat
  | .hbm => 39
  | .vmem => 0
  | .smem => 0
  | _ => 0

abbrev bufTy : (tb : Table) → Fin (tcTables nBuf tb) → BufTy
  | .hbm, ⟨0, _⟩ => ⟨S161, .i32⟩
  | .hbm, ⟨1, _⟩ => ⟨S1, .i32⟩
  | .hbm, ⟨2, _⟩ => ⟨S82432x2048, .bf16⟩
  | .hbm, ⟨3, _⟩ => ⟨S32x2048x2048, .f32⟩
  | .hbm, ⟨4, _⟩ => ⟨S32x1x2048, .f32⟩
  | .hbm, ⟨5, _⟩ => ⟨S82432x2048, .f32⟩
  | .hbm, ⟨6, _⟩ => ⟨S161x512x2048, .f32⟩
  | .hbm, ⟨7, _⟩ => ⟨S_, .i32⟩
  | .hbm, ⟨8, _⟩ => ⟨S161, .i32⟩
  | .hbm, ⟨9, _⟩ => ⟨S161, .i1⟩
  | .hbm, ⟨10, _⟩ => ⟨S_, .i32⟩
  | .hbm, ⟨11, _⟩ => ⟨S161, .i32⟩
  | .hbm, ⟨12, _⟩ => ⟨S161, .i32⟩
  | .hbm, ⟨13, _⟩ => ⟨S161, .i32⟩
  | .hbm, ⟨14, _⟩ => ⟨S161x1, .i32⟩
  | .hbm, ⟨15, _⟩ => ⟨S161x2048x2048, .f32⟩
  | .hbm, ⟨16, _⟩ => ⟨S161x512x2048, .f32⟩
  | .hbm, ⟨17, _⟩ => ⟨S_, .i32⟩
  | .hbm, ⟨18, _⟩ => ⟨S161, .i32⟩
  | .hbm, ⟨19, _⟩ => ⟨S161, .i1⟩
  | .hbm, ⟨20, _⟩ => ⟨S_, .i32⟩
  | .hbm, ⟨21, _⟩ => ⟨S161, .i32⟩
  | .hbm, ⟨22, _⟩ => ⟨S161, .i32⟩
  | .hbm, ⟨23, _⟩ => ⟨S161, .i32⟩
  | .hbm, ⟨24, _⟩ => ⟨S161x1, .i32⟩
  | .hbm, ⟨25, _⟩ => ⟨S161x1x2048, .f32⟩
  | .hbm, ⟨26, _⟩ => ⟨S161x512x2048, .f32⟩
  | .hbm, ⟨27, _⟩ => ⟨S161x512x2048, .f32⟩
  | .hbm, ⟨28, _⟩ => ⟨S161, .i32⟩
  | .hbm, ⟨29, _⟩ => ⟨S161x1x1, .i32⟩
  | .hbm, ⟨30, _⟩ => ⟨S_, .i32⟩
  | .hbm, ⟨31, _⟩ => ⟨S161x1x1, .i32⟩
  | .hbm, ⟨32, _⟩ => ⟨S161x1x1, .i1⟩
  | .hbm, ⟨33, _⟩ => ⟨S_, .f32⟩
  | .hbm, ⟨34, _⟩ => ⟨S_, .f32⟩
  | .hbm, ⟨35, _⟩ => ⟨S161x512x2048, .i1⟩
  | .hbm, ⟨36, _⟩ => ⟨S161x512x2048, .f32⟩
  | .hbm, ⟨37, _⟩ => ⟨S161x512x2048, .f32⟩
  | .hbm, ⟨38, _⟩ => ⟨S82432x2048, .f32⟩
  | _, _ => ⟨S161, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== ConvS.lean ====
abbrev S16512x8192 : Shape := ⟨2, ![16512, 8192]⟩
abbrev S16512x128 : Shape := ⟨2, ![16512, 128]⟩
abbrev S1x32x3x3072 : Shape := ⟨4, ![1, 32, 3, 3072]⟩
abbrev S1x32x32x64x128 : Shape := ⟨5, ![1, 32, 32, 64, 128]⟩
abbrev S1x4x3072 : Shape := ⟨3, ![1, 4, 3072]⟩
abbrev S1x3072 : Shape := ⟨2, ![1, 3072]⟩
abbrev S1x32 : Shape := ⟨2, ![1, 32]⟩
abbrev S1x2048 : Shape := ⟨2, ![1, 2048]⟩
abbrev S128x8192 : Shape := ⟨2, ![128, 8192]⟩
abbrev S32x4x8192 : Shape := ⟨3, ![32, 4, 8192]⟩
abbrev S32x4x3072 : Shape := ⟨3, ![32, 4, 3072]⟩
abbrev S_ : Shape := ⟨0, ![]⟩
abbrev S32x128x3072 : Shape := ⟨3, ![32, 128, 3072]⟩
abbrev S4096x3072 : Shape := ⟨2, ![4096, 3072]⟩
abbrev S32x4x2048 : Shape := ⟨3, ![32, 4, 2048]⟩
abbrev S32x128x2048 : Shape := ⟨3, ![32, 128, 2048]⟩
abbrev S4096x2048 : Shape := ⟨2, ![4096, 2048]⟩
abbrev S128x128 : Shape := ⟨2, ![128, 128]⟩
abbrev S32x4x128 : Shape := ⟨3, ![32, 4, 128]⟩
abbrev S32x128x128 : Shape := ⟨3, ![32, 128, 128]⟩
abbrev S4096x128 : Shape := ⟨2, ![4096, 128]⟩
abbrev S32x3x3072 : Shape := ⟨3, ![32, 3, 3072]⟩
abbrev S32x8x3072 : Shape := ⟨3, ![32, 8, 3072]⟩
abbrev S32x32x64x128 : Shape := ⟨4, ![32, 32, 64, 128]⟩
abbrev S32x2048x128 : Shape := ⟨3, ![32, 2048, 128]⟩
abbrev S2048 : Shape := ⟨1, ![2048]⟩
abbrev S128 : Shape := ⟨1, ![128]⟩
abbrev S128x1 : Shape := ⟨2, ![128, 1]⟩
abbrev S128x2048 : Shape := ⟨2, ![128, 2048]⟩
abbrev S2048x1 : Shape := ⟨2, ![2048, 1]⟩
abbrev S1x128 : Shape := ⟨2, ![1, 128]⟩
abbrev S2048x128 : Shape := ⟨2, ![2048, 128]⟩
abbrev S4x3072 : Shape := ⟨2, ![4, 3072]⟩
abbrev S3072 : Shape := ⟨1, ![3072]⟩
abbrev S32 : Shape := ⟨1, ![32]⟩
abbrev S32x64 : Shape := ⟨2, ![32, 64]⟩
abbrev S128x3072 : Shape := ⟨2, ![128, 3072]⟩
abbrev S1x8x3072 : Shape := ⟨3, ![1, 8, 3072]⟩
abbrev S1x2048x128 : Shape := ⟨3, ![1, 2048, 128]⟩
abbrev S136x3072 : Shape := ⟨2, ![136, 3072]⟩
abbrev S8x3072 : Shape := ⟨2, ![8, 3072]⟩
abbrev S128x512 : Shape := ⟨2, ![128, 512]⟩
abbrev S384x128 : Shape := ⟨2, ![384, 128]⟩
abbrev S384x2048 : Shape := ⟨2, ![384, 2048]⟩
abbrev S512x128 : Shape := ⟨2, ![512, 128]⟩
abbrev S128x256 : Shape := ⟨2, ![128, 256]⟩
abbrev S256x128 : Shape := ⟨2, ![256, 128]⟩

abbrev nBuf : Space → Nat
  | .hbm => 91
  | .vmem => 26
  | .smem => 0
  | _ => 0

abbrev bufTy : (tb : Table) → Fin (tcTables nBuf tb) → BufTy
  | .hbm, ⟨0, _⟩ => ⟨S16512x8192, .f32⟩
  | .hbm, ⟨1, _⟩ => ⟨S16512x128, .f32⟩
  | .hbm, ⟨2, _⟩ => ⟨S1x32x3x3072, .f32⟩
  | .hbm, ⟨3, _⟩ => ⟨S1x32x32x64x128, .f32⟩
  | .hbm, ⟨4, _⟩ => ⟨S1x4x3072, .f32⟩
  | .hbm, ⟨5, _⟩ => ⟨S1x3072, .f32⟩
  | .hbm, ⟨6, _⟩ => ⟨S1x32, .f32⟩
  | .hbm, ⟨7, _⟩ => ⟨S1x32, .f32⟩
  | .hbm, ⟨8, _⟩ => ⟨S1x32, .f32⟩
  | .hbm, ⟨9, _⟩ => ⟨S1x2048, .f32⟩
  | .hbm, ⟨10, _⟩ => ⟨S128x8192, .f32⟩
  | .hbm, ⟨11, _⟩ => ⟨S32x4x8192, .f32⟩
  | .hbm, ⟨12, _⟩ => ⟨S32x4x3072, .f32⟩
  | .hbm, ⟨13, _⟩ => ⟨S_, .i32⟩
  | .hbm, ⟨14, _⟩ => ⟨S_, .f32⟩
  | .hbm, ⟨15, _⟩ => ⟨S32x128x3072, .f32⟩
  | .hbm, ⟨16, _⟩ => ⟨S4096x3072, .f32⟩
  | .hbm, ⟨17, _⟩ => ⟨S32x4x2048, .f32⟩
  | .hbm, ⟨18, _⟩ => ⟨S_, .i32⟩
  | .hbm, ⟨19, _⟩ => ⟨S_, .f32⟩
  | .hbm, ⟨20, _⟩ => ⟨S32x128x2048, .f32⟩
  | .hbm, ⟨21, _⟩ => ⟨S4096x2048, .f32⟩
  | .hbm, ⟨22, _⟩ => ⟨S128x128, .f32⟩
  | .hbm, ⟨23, _⟩ => ⟨S32x4x128, .f32⟩
  | .hbm, ⟨24, _⟩ => ⟨S_, .i32⟩
  | .hbm, ⟨25, _⟩ => ⟨S_, .f32⟩
  | .hbm, ⟨26, _⟩ => ⟨S32x128x128, .f32⟩
  | .hbm, ⟨27, _⟩ => ⟨S4096x128, .f32⟩
  | .hbm, ⟨28, _⟩ => ⟨S32x3x3072, .f32⟩
  | .hbm, ⟨29, _⟩ => ⟨S_, .i32⟩
  | .hbm, ⟨30, _⟩ => ⟨S_, .f32⟩
  | .hbm, ⟨31, _⟩ => ⟨S32x8x3072, .f32⟩
  | .hbm, ⟨32, _⟩ => ⟨S32x32x64x128, .f32⟩
  | .hbm, ⟨33, _⟩ => ⟨S32x2048x128, .f32⟩
  | .hbm, ⟨34, _⟩ => ⟨S2048, .i32⟩
  | .hbm, ⟨35, _⟩ => ⟨S_, .i32⟩
  | .hbm, ⟨36, _⟩ => ⟨S_, .i32⟩
  | .hbm, ⟨37, _⟩ => ⟨S2048, .i32⟩
  | .hbm, ⟨38, _⟩ => ⟨S2048, .i32⟩
  | .hbm, ⟨39, _⟩ => ⟨S2048, .i32⟩
  | .hbm, ⟨40, _⟩ => ⟨S_, .i32⟩
  | .hbm, ⟨41, _⟩ => ⟨S2048, .i32⟩
  | .hbm, ⟨42, _⟩ => ⟨S2048, .i1⟩
  | .hbm, ⟨43, _⟩ => ⟨S2048, .i32⟩
  | .hbm, ⟨44, _⟩ => ⟨S2048, .i32⟩
  | .hbm, ⟨45, _⟩ => ⟨S_, .i32⟩
  | .hbm, ⟨46, _⟩ => ⟨S2048, .i32⟩
  | .hbm, ⟨47, _⟩ => ⟨S2048, .i1⟩
  | .hbm, ⟨48, _⟩ => ⟨S2048, .i1⟩
  | .hbm, ⟨49, _⟩ => ⟨S_, .i32⟩
  | .hbm, ⟨50, _⟩ => ⟨S2048, .i32⟩
  | .hbm, ⟨51, _⟩ => ⟨S2048, .i32⟩
  | .hbm, ⟨52, _⟩ => ⟨S2048, .i32⟩
  | .hbm, ⟨53, _⟩ => ⟨S128, .i32⟩
  | .hbm, ⟨54, _⟩ => ⟨S128x1, .i32⟩
  | .hbm, ⟨55, _⟩ => ⟨S1x2048, .i32⟩
  | .hbm, ⟨56, _⟩ => ⟨S128x2048, .i32⟩
  | .hbm, ⟨57, _⟩ => ⟨S128x2048, .i32⟩
  | .hbm, ⟨58, _⟩ => ⟨S128x2048, .i1⟩
  | .hbm, ⟨59, _⟩ => ⟨S128x2048, .bf16⟩
  | .hbm, ⟨60, _⟩ => ⟨S2048x1, .i32⟩
  | .hbm, ⟨61, _⟩ => ⟨S128, .i32⟩
  | .hbm, ⟨62, _⟩ => ⟨S1x128, .i32⟩
  | .hbm, ⟨63, _⟩ => ⟨S2048x128, .i32⟩
  | .hbm, ⟨64, _⟩ => ⟨S2048x128, .i32⟩
  | .hbm, ⟨65, _⟩ => ⟨S2048x128, .i1⟩
  | .hbm, ⟨66, _⟩ => ⟨S2048x128, .bf16⟩
  | .hbm, ⟨67, _⟩ => ⟨S4x3072, .f32⟩
  | .hbm, ⟨68, _⟩ => ⟨S3072, .f32⟩
  | .hbm, ⟨69, _⟩ => ⟨S1x3072, .f32⟩
  | .hbm, ⟨70, _⟩ => ⟨S32, .f32⟩
  | .hbm, ⟨71, _⟩ => ⟨S_, .i32⟩
  | .hbm, ⟨72, _⟩ => ⟨S_, .f32⟩
  | .hbm, ⟨73, _⟩ => ⟨S128, .f32⟩
  | .hbm, ⟨74, _⟩ => ⟨S1x128, .f32⟩
  | .hbm, ⟨75, _⟩ => ⟨S32, .f32⟩
  | .hbm, ⟨76, _⟩ => ⟨S_, .i32⟩
  | .hbm, ⟨77, _⟩ => ⟨S_, .f32⟩
  | .hbm, ⟨78, _⟩ => ⟨S128, .f32⟩
  | .hbm, ⟨79, _⟩ => ⟨S1x128, .f32⟩
  | .hbm, ⟨80, _⟩ => ⟨S32, .f32⟩
  | .hbm, ⟨81, _⟩ => ⟨S32x64, .f32⟩
  | .hbm, ⟨82, _⟩ => ⟨S2048, .f32⟩
  | .hbm, ⟨83, _⟩ => ⟨S1x2048, .f32⟩
  | .hbm, ⟨84, _⟩ => ⟨S2048, .f32⟩
  | .hbm, ⟨85, _⟩ => ⟨S1x2048, .f32⟩
  | .hbm, ⟨86, _⟩ => ⟨S4096x2048, .bf16⟩
  | .hbm, ⟨87, _⟩ => ⟨S32x8x3072, .f32⟩
  | .hbm, ⟨88, _⟩ => ⟨S32x2048x128, .f32⟩
  | .hbm, ⟨89, _⟩ => ⟨S32x3x3072, .f32⟩
  | .hbm, ⟨90, _⟩ => ⟨S1x32x3x3072, .f32⟩
  | .local _ .vmem, ⟨0, _⟩ => ⟨S128x3072, .f32⟩
  | .local _ .vmem, ⟨1, _⟩ => ⟨S128x3072, .f32⟩
  | .local _ .vmem, ⟨2, _⟩ => ⟨S128x2048, .f32⟩
  | .local _ .vmem, ⟨3, _⟩ => ⟨S128x2048, .f32⟩
  | .local _ .vmem, ⟨4, _⟩ => ⟨S128x128, .f32⟩
  | .local _ .vmem, ⟨5, _⟩ => ⟨S128x128, .f32⟩
  | .local _ .vmem, ⟨6, _⟩ => ⟨S1x8x3072, .f32⟩
  | .local _ .vmem, ⟨7, _⟩ => ⟨S1x8x3072, .f32⟩
  | .local _ .vmem, ⟨8, _⟩ => ⟨S1x2048x128, .f32⟩
  | .local _ .vmem, ⟨9, _⟩ => ⟨S1x2048x128, .f32⟩
  | .local _ .vmem, ⟨10, _⟩ => ⟨S4x3072, .f32⟩
  | .local _ .vmem, ⟨11, _⟩ => ⟨S1x3072, .f32⟩
  | .local _ .vmem, ⟨12, _⟩ => ⟨S1x128, .f32⟩
  | .local _ .vmem, ⟨13, _⟩ => ⟨S1x128, .f32⟩
  | .local _ .vmem, ⟨14, _⟩ => ⟨S1x2048, .f32⟩
  | .local _ .vmem, ⟨15, _⟩ => ⟨S1x2048, .f32⟩
  | .local _ .vmem, ⟨16, _⟩ => ⟨S128x2048, .bf16⟩
  | .local _ .vmem, ⟨17, _⟩ => ⟨S2048x128, .bf16⟩
  | .local _ .vmem, ⟨18, _⟩ => ⟨S128x2048, .bf16⟩
  | .local _ .vmem, ⟨19, _⟩ => ⟨S128x2048, .bf16⟩
  | .local _ .vmem, ⟨20, _⟩ => ⟨S1x8x3072, .f32⟩
  | .local _ .vmem, ⟨21, _⟩ => ⟨S1x8x3072, .f32⟩
  | .local _ .vmem, ⟨22, _⟩ => ⟨S1x2048x128, .f32⟩
  | .local _ .vmem, ⟨23, _⟩ => ⟨S1x2048x128, .f32⟩
  | .local _ .vmem, ⟨24, _⟩ => ⟨S2048x128, .f32⟩
  | .local _ .vmem, ⟨25, _⟩ => ⟨S136x3072, .f32⟩
  | _, _ => ⟨S16512x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_call1_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_1 : Ref sig .tc := ⟨.hbm, 24, rfl⟩
abbrev main_call2_v0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_call3_v0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_call4_v0 : Ref sig .tc := ⟨.hbm, 36, rfl⟩
abbrev main_call4_v1 : Ref sig .tc := ⟨.hbm, 37, rfl⟩
abbrev main_call4_v2 : Ref sig .tc := ⟨.hbm, 38, rfl⟩
abbrev main_call4_v3 : Ref sig .tc := ⟨.hbm, 39, rfl⟩
abbrev main_call4_v4 : Ref sig .tc := ⟨.hbm, 40, rfl⟩
abbrev main_call4_v5 : Ref sig .tc := ⟨.hbm, 41, rfl⟩
abbrev main_call4_v6 : Ref sig .tc := ⟨.hbm, 42, rfl⟩
abbrev main_call4_v7 : Ref sig .tc := ⟨.hbm, 43, rfl⟩
abbrev main_call4_v8 : Ref sig .tc := ⟨.hbm, 44, rfl⟩
abbrev main_call4_c : Ref sig .tc := ⟨.hbm, 45, rfl⟩
abbrev main_call4_v9 : Ref sig .tc := ⟨.hbm, 46, rfl⟩
abbrev main_call4_v10 : Ref sig .tc := ⟨.hbm, 47, rfl⟩
abbrev main_call4_v11 : Ref sig .tc := ⟨.hbm, 48, rfl⟩
abbrev main_call4_c_0 : Ref sig .tc := ⟨.hbm, 49, rfl⟩
abbrev main_call4_v12 : Ref sig .tc := ⟨.hbm, 50, rfl⟩
abbrev main_call4_v13 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_c_4 : Ref sig .tc := ⟨.hbm, 71, rfl⟩
abbrev main_call5_v0 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_c_5 : Ref sig .tc := ⟨.hbm, 76, rfl⟩
abbrev main_call6_v0 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47_0 : Ref sig .tc := ⟨.hbm, 86, rfl⟩
abbrev main_v47_1 : Ref sig .tc := ⟨.hbm, 87, rfl⟩
abbrev main_v47_2 : Ref sig .tc := ⟨.hbm, 88, rfl⟩
abbrev main_v48 : Ref sig .tc := ⟨.hbm, 89, rfl⟩
abbrev main_v49 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2048x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S128x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x3072 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x2048x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== ConvSRefIdeal.lean ====
abbrev S16512x8192 : Shape := ⟨2, ![16512, 8192]⟩
abbrev S16512x128 : Shape := ⟨2, ![16512, 128]⟩
abbrev S1x32x3x3072 : Shape := ⟨4, ![1, 32, 3, 3072]⟩
abbrev S1x32x32x64x128 : Shape := ⟨5, ![1, 32, 32, 64, 128]⟩
abbrev S1x4x3072 : Shape := ⟨3, ![1, 4, 3072]⟩
abbrev S1x3072 : Shape := ⟨2, ![1, 3072]⟩
abbrev S1x32 : Shape := ⟨2, ![1, 32]⟩
abbrev S1x2048 : Shape := ⟨2, ![1, 2048]⟩
abbrev S128x3072 : Shape := ⟨2, ![128, 3072]⟩
abbrev S32x4x3072 : Shape := ⟨3, ![32, 4, 3072]⟩
abbrev S32x3x3072 : Shape := ⟨3, ![32, 3, 3072]⟩
abbrev S32x7x3072 : Shape := ⟨3, ![32, 7, 3072]⟩

abbrev nBuf : Space → Nat
  | .hbm => 16
  | .vmem => 0
  | .smem => 0
  | _ => 0

abbrev bufTy : (tb : Table) → Fin (tcTables nBuf tb) → BufTy
  | .hbm, ⟨0, _⟩ => ⟨S16512x8192, .f32⟩
  | .hbm, ⟨1, _⟩ => ⟨S16512x128, .f32⟩
  | .hbm, ⟨2, _⟩ => ⟨S1x32x3x3072, .f32⟩
  | .hbm, ⟨3, _⟩ => ⟨S1x32x32x64x128, .f32⟩
  | .hbm, ⟨4, _⟩ => ⟨S1x4x3072, .f32⟩
  | .hbm, ⟨5, _⟩ => ⟨S1x3072, .f32⟩
  | .hbm, ⟨6, _⟩ => ⟨S1x32, .f32⟩
  | .hbm, ⟨7, _⟩ => ⟨S1x32, .f32⟩
  | .hbm, ⟨8, _⟩ => ⟨S1x32, .f32⟩
  | .hbm, ⟨9, _⟩ => ⟨S1x2048, .f32⟩
  | .hbm, ⟨10, _⟩ => ⟨S128x3072, .f32⟩
  | .hbm, ⟨11, _⟩ => ⟨S32x4x3072, .f32⟩
  | .hbm, ⟨12, _⟩ => ⟨S32x3x3072, .f32⟩
  | .hbm, ⟨13, _⟩ => ⟨S32x7x3072, .f32⟩
  | .hbm, ⟨14, _⟩ => ⟨S32x3x3072, .f32⟩
  | .hbm, ⟨15, _⟩ => ⟨S1x32x3x3072, .f32⟩
  | _, _ => ⟨S16512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩

abbrev nD : Nat := 1
abbrev τ : Topo := Topo.v7x

variable {F : FTy → Type} [FloatOps F]
-- ==== ConvP.lean ====
abbrev S16512x8192 : Shape := ⟨2, ![16512, 8192]⟩
abbrev S16512x128 : Shape := ⟨2, ![16512, 128]⟩
abbrev S1x4x3072 : Shape := ⟨3, ![1, 4, 3072]⟩
abbrev S1x3072 : Shape := ⟨2, ![1, 3072]⟩
abbrev S1x32 : Shape := ⟨2, ![1, 32]⟩
abbrev S1x2048 : Shape := ⟨2, ![1, 2048]⟩
abbrev S_ : Shape := ⟨0, ![]⟩
abbrev S2x8x3072 : Shape := ⟨3, ![2, 8, 3072]⟩
abbrev S2x2048x128 : Shape := ⟨3, ![2, 2048, 128]⟩
abbrev S2048 : Shape := ⟨1, ![2048]⟩
abbrev S128 : Shape := ⟨1, ![128]⟩
abbrev S128x1 : Shape := ⟨2, ![128, 1]⟩
abbrev S128x2048 : Shape := ⟨2, ![128, 2048]⟩
abbrev S2048x1 : Shape := ⟨2, ![2048, 1]⟩
abbrev S1x128 : Shape := ⟨2, ![1, 128]⟩
abbrev S2048x128 : Shape := ⟨2, ![2048, 128]⟩
abbrev S4x3072 : Shape := ⟨2, ![4, 3072]⟩
abbrev S3072 : Shape := ⟨1, ![3072]⟩
abbrev S32 : Shape := ⟨1, ![32]⟩
abbrev S32x64 : Shape := ⟨2, ![32, 64]⟩
abbrev S16384x2048 : Shape := ⟨2, ![16384, 2048]⟩
abbrev S128x3072 : Shape := ⟨2, ![128, 3072]⟩
abbrev S128x128 : Shape := ⟨2, ![128, 128]⟩
abbrev S1x8x3072 : Shape := ⟨3, ![1, 8, 3072]⟩
abbrev S1x2048x128 : Shape := ⟨3, ![1, 2048, 128]⟩
abbrev S136x3072 : Shape := ⟨2, ![136, 3072]⟩
abbrev S8x3072 : Shape := ⟨2, ![8, 3072]⟩
abbrev S128x512 : Shape := ⟨2, ![128, 512]⟩
abbrev S384x128 : Shape := ⟨2, ![384, 128]⟩
abbrev S384x2048 : Shape := ⟨2, ![384, 2048]⟩
abbrev S512x128 : Shape := ⟨2, ![512, 128]⟩
abbrev S128x256 : Shape := ⟨2, ![128, 256]⟩
abbrev S256x128 : Shape := ⟨2, ![256, 128]⟩
abbrev S2x3x3072 : Shape := ⟨3, ![2, 3, 3072]⟩
abbrev S1x2x3x3072 : Shape := ⟨4, ![1, 2, 3, 3072]⟩

abbrev nBuf : Space → Nat
  | .hbm => 69
  | .vmem => 26
  | .smem => 0
  | _ => 0

abbrev bufTy : (tb : Table) → Fin (tcTables nBuf tb) → BufTy
  | .hbm, ⟨0, _⟩ => ⟨S16512x8192, .f32⟩
  | .hbm, ⟨1, _⟩ => ⟨S16512x128, .f32⟩
  | .hbm, ⟨2, _⟩ => ⟨S1x4x3072, .f32⟩
  | .hbm, ⟨3, _⟩ => ⟨S1x3072, .f32⟩
  | .hbm, ⟨4, _⟩ => ⟨S1x32, .f32⟩
  | .hbm, ⟨5, _⟩ => ⟨S1x32, .f32⟩
  | .hbm, ⟨6, _⟩ => ⟨S1x32, .f32⟩
  | .hbm, ⟨7, _⟩ => ⟨S1x2048, .f32⟩
  | .hbm, ⟨8, _⟩ => ⟨S_, .f32⟩
  | .hbm, ⟨9, _⟩ => ⟨S2x8x3072, .f32⟩
  | .hbm, ⟨10, _⟩ => ⟨S_, .f32⟩
  | .hbm, ⟨11, _⟩ => ⟨S2x2048x128, .f32⟩
  | .hbm, ⟨12, _⟩ => ⟨S2048, .i32⟩
  | .hbm, ⟨13, _⟩ => ⟨S_, .i32⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S2048, .i1⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S2048, .i32⟩
  | .hbm, ⟨31, _⟩ => ⟨S128, .i32⟩
  | .hbm, ⟨32, _⟩ => ⟨S128x1, .i32⟩
  | .hbm, ⟨33, _⟩ => ⟨S1x2048, .i32⟩
  | .hbm, ⟨34, _⟩ => ⟨S128x2048, .i32⟩
  | .hbm, ⟨35, _⟩ => ⟨S128x2048, .i32⟩
  | .hbm, ⟨36, _⟩ => ⟨S128x2048, .i1⟩
  | .hbm, ⟨37, _⟩ => ⟨S128x2048, .bf16⟩
  | .hbm, ⟨38, _⟩ => ⟨S2048x1, .i32⟩
  | .hbm, ⟨39, _⟩ => ⟨S128, .i32⟩
  | .hbm, ⟨40, _⟩ => ⟨S1x128, .i32⟩
  | .hbm, ⟨41, _⟩ => ⟨S2048x128, .i32⟩
  | .hbm, ⟨42, _⟩ => ⟨S2048x128, .i32⟩
  | .hbm, ⟨43, _⟩ => ⟨S2048x128, .i1⟩
  | .hbm, ⟨44, _⟩ => ⟨S2048x128, .bf16⟩
  | .hbm, ⟨45, _⟩ => ⟨S4x3072, .f32⟩
  | .hbm, ⟨46, _⟩ => ⟨S3072, .f32⟩
  | .hbm, ⟨47, _⟩ => ⟨S1x3072, .f32⟩
  | .hbm, ⟨48, _⟩ => ⟨S32, .f32⟩
  | .hbm, ⟨49, _⟩ => ⟨S_, .i32⟩
  | .hbm, ⟨50, _⟩ => ⟨S_, .f32⟩
  | .hbm, ⟨51, _⟩ => ⟨S128, .f32⟩
  | .hbm, ⟨52, _⟩ => ⟨S1x128, .f32⟩
  | .hbm, ⟨53, _⟩ => ⟨S32, .f32⟩
  | .hbm, ⟨54, _⟩ => ⟨S_, .i32⟩
  | .hbm, ⟨55, _⟩ => ⟨S_, .f32⟩
  | .hbm, ⟨56, _⟩ => ⟨S128, .f32⟩
  | .hbm, ⟨57, _⟩ => ⟨S1x128, .f32⟩
  | .hbm, ⟨58, _⟩ => ⟨S32, .f32⟩
  | .hbm, ⟨59, _⟩ => ⟨S32x64, .f32⟩
  | .hbm, ⟨60, _⟩ => ⟨S2048, .f32⟩
  | .hbm, ⟨61, _⟩ => ⟨S1x2048, .f32⟩
  | .hbm, ⟨62, _⟩ => ⟨S2048, .f32⟩
  | .hbm, ⟨63, _⟩ => ⟨S1x2048, .f32⟩
  | .hbm, ⟨64, _⟩ => ⟨S16384x2048, .bf16⟩
  | .hbm, ⟨65, _⟩ => ⟨S2x8x3072, .f32⟩
  | .hbm, ⟨66, _⟩ => ⟨S2x2048x128, .f32⟩
  | .hbm, ⟨67, _⟩ => ⟨S2x3x3072, .f32⟩
  | .hbm, ⟨68, _⟩ => ⟨S1x2x3x3072, .f32⟩
  | .local _ .vmem, ⟨0, _⟩ => ⟨S128x3072, .f32⟩
  | .local _ .vmem, ⟨1, _⟩ => ⟨S128x3072, .f32⟩
  | .local _ .vmem, ⟨2, _⟩ => ⟨S128x2048, .f32⟩
  | .local _ .vmem, ⟨3, _⟩ => ⟨S128x2048, .f32⟩
  | .local _ .vmem, ⟨4, _⟩ => ⟨S128x128, .f32⟩
  | .local _ .vmem, ⟨5, _⟩ => ⟨S128x128, .f32⟩
  | .local _ .vmem, ⟨6, _⟩ => ⟨S1x8x3072, .f32⟩
  | .local _ .vmem, ⟨7, _⟩ => ⟨S1x8x3072, .f32⟩
  | .local _ .vmem, ⟨8, _⟩ => ⟨S1x2048x128, .f32⟩
  | .local _ .vmem, ⟨9, _⟩ => ⟨S1x2048x128, .f32⟩
  | .local _ .vmem, ⟨10, _⟩ => ⟨S4x3072, .f32⟩
  | .local _ .vmem, ⟨11, _⟩ => ⟨S1x3072, .f32⟩
  | .local _ .vmem, ⟨12, _⟩ => ⟨S1x128, .f32⟩
  | .local _ .vmem, ⟨13, _⟩ => ⟨S1x128, .f32⟩
  | .local _ .vmem, ⟨14, _⟩ => ⟨S1x2048, .f32⟩
  | .local _ .vmem, ⟨15, _⟩ => ⟨S1x2048, .f32⟩
  | .local _ .vmem, ⟨16, _⟩ => ⟨S128x2048, .bf16⟩
  | .local _ .vmem, ⟨17, _⟩ => ⟨S2048x128, .bf16⟩
  | .local _ .vmem, ⟨18, _⟩ => ⟨S128x2048, .bf16⟩
  | .local _ .vmem, ⟨19, _⟩ => ⟨S128x2048, .bf16⟩
  | .local _ .vmem, ⟨20, _⟩ => ⟨S1x8x3072, .f32⟩
  | .local _ .vmem, ⟨21, _⟩ => ⟨S1x8x3072, .f32⟩
  | .local _ .vmem, ⟨22, _⟩ => ⟨S1x2048x128, .f32⟩
  | .local _ .vmem, ⟨23, _⟩ => ⟨S1x2048x128, .f32⟩
  | .local _ .vmem, ⟨24, _⟩ => ⟨S2048x128, .f32⟩
  | .local _ .vmem, ⟨25, _⟩ => ⟨S136x3072, .f32⟩
  | _, _ => ⟨S16512x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_1 : Ref sig .tc := ⟨.hbm, 49, rfl⟩
abbrev main_call1_v0 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_c_2 : Ref sig .tc := ⟨.hbm, 54, rfl⟩
abbrev main_call2_v0 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33_0 : Ref sig .tc := ⟨.hbm, 64, rfl⟩
abbrev main_v33_1 : Ref sig .tc := ⟨.hbm, 65, rfl⟩
abbrev main_v33_2 : Ref sig .tc := ⟨.hbm, 66, rfl⟩
abbrev main_v34 : Ref sig .tc := ⟨.hbm, 67, rfl⟩
abbrev main_v35 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c3_i32 : BitVec 32 := 3#32
  let c0_i32 : BitVec 32 := 0#32
  ![v1.toNat, c3_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2048x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S128x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x3072 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x2048x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== ConvPRefIdeal.lean ====
abbrev S16512x8192 : Shape := ⟨2, ![16512, 8192]⟩
abbrev S16512x128 : Shape := ⟨2, ![16512, 128]⟩
abbrev S1x4x3072 : Shape := ⟨3, ![1, 4, 3072]⟩
abbrev S1x3072 : Shape := ⟨2, ![1, 3072]⟩
abbrev S1x32 : Shape := ⟨2, ![1, 32]⟩
abbrev S1x2048 : Shape := ⟨2, ![1, 2048]⟩
abbrev S16384x3072 : Shape := ⟨2, ![16384, 3072]⟩
abbrev S2x8192x3072 : Shape := ⟨3, ![2, 8192, 3072]⟩
abbrev S_ : Shape := ⟨0, ![]⟩
abbrev S2x3x3072 : Shape := ⟨3, ![2, 3, 3072]⟩
abbrev S2x8195x3072 : Shape := ⟨3, ![2, 8195, 3072]⟩
abbrev S1x2x3x3072 : Shape := ⟨4, ![1, 2, 3, 3072]⟩

abbrev nBuf : Space → Nat
  | .hbm => 15
  | .vmem => 0
  | .smem => 0
  | _ => 0

abbrev bufTy : (tb : Table) → Fin (tcTables nBuf tb) → BufTy
  | .hbm, ⟨0, _⟩ => ⟨S16512x8192, .f32⟩
  | .hbm, ⟨1, _⟩ => ⟨S16512x128, .f32⟩
  | .hbm, ⟨2, _⟩ => ⟨S1x4x3072, .f32⟩
  | .hbm, ⟨3, _⟩ => ⟨S1x3072, .f32⟩
  | .hbm, ⟨4, _⟩ => ⟨S1x32, .f32⟩
  | .hbm, ⟨5, _⟩ => ⟨S1x32, .f32⟩
  | .hbm, ⟨6, _⟩ => ⟨S1x32, .f32⟩
  | .hbm, ⟨7, _⟩ => ⟨S1x2048, .f32⟩
  | .hbm, ⟨8, _⟩ => ⟨S16384x3072, .f32⟩
  | .hbm, ⟨9, _⟩ => ⟨S2x8192x3072, .f32⟩
  | .hbm, ⟨10, _⟩ => ⟨S_, .f32⟩
  | .hbm, ⟨11, _⟩ => ⟨S2x3x3072, .f32⟩
  | .hbm, ⟨12, _⟩ => ⟨S2x8195x3072, .f32⟩
  | .hbm, ⟨13, _⟩ => ⟨S2x3x3072, .f32⟩
  | .hbm, ⟨14, _⟩ => ⟨S1x2x3x3072, .f32⟩
  | _, _ => ⟨S16512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== Proof.AttnMath.lean ====
/- The mathematics of the decoding step's attention over the extended reals: a softmax taken branch by branch and
   merged by the branches' maxima is the softmax over all keys, each key weighted by the number of branches that
   reach it. Nothing here mentions a program. -/
module

public import Idealize.ShloMosaic.Lib.Pipeline.ValueKit
public import Idealize.ShloMosaic.Lib.Pointwise

@[expose] public section

set_option maxRecDepth 16384

noncomputable section

namespace Cert.AttnMath

open Idealize.ShloMosaic
open scoped BigOperators

/-- A finite nonnegative factor goes under a sum. -/
theorem mul_sum_of_nonneg {ι : Type} (s : Finset ι) (f : ι → EReal) {c : EReal} (h0 : 0 ≤ c) (ht : c ≠ ⊤) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 ht, ih]

theorem exp_nonneg (x : EReal) : 0 ≤ Ideal.exp x := by
  induction x with
  | bot => exact le_refl _
  | top => exact le_top
  | coe r => exact EReal.coe_nonneg.2 (Real.exp_pos r).le

theorem exp_ne_top {x : EReal} (h : x ≠ ⊤) : Ideal.exp x ≠ ⊤ := by
  induction x with
  | bot => exact EReal.zero_ne_top
  | top => exact absurd rfl h
  | coe r => exact EReal.coe_ne_top _

theorem exp_bot : Ideal.exp ⊥ = 0 := rfl

/-- The weight of a branch's maximum is finite. -/
theorem sub_ne_top {m M : EReal} (h : m ≤ M) : m - M ≠ ⊤ := by
  induction M with
  | bot => rw [le_bot_iff.1 h]; decide
  | top => rw [EReal.sub_top]; exact bot_ne_top
  | coe r =>
    induction m with
    | bot => rw [EReal.bot_sub]; exact bot_ne_top
    | top => exact absurd (top_le_iff.1 h) (EReal.coe_ne_top _)
    | coe s => rw [← EReal.coe_sub]; exact EReal.coe_ne_top _

/-- Changing the reference point of an exponential, at every extended real. -/
theorem exp_merge {s m M : EReal} (h1 : s ≤ m) (h2 : m ≤ M) :
    Ideal.exp (m - M) * Ideal.exp (s - m) = Ideal.exp (s - M) := by
  induction M with
  | top => rw [EReal.sub_top, EReal.sub_top, exp_bot, zero_mul]
  | bot =>
    obtain rfl := le_bot_iff.1 h2
    rw [le_bot_iff.1 h1, EReal.bot_sub, exp_bot, zero_mul]
  | coe r =>
    induction m with
    | top => exact absurd (top_le_iff.1 h2) (EReal.coe_ne_top _)
    | bot => rw [le_bot_iff.1 h1, EReal.bot_sub, EReal.bot_sub, exp_bot, zero_mul]
    | coe q =>
      induction s with
      | top => exact absurd (top_le_iff.1 h1) (EReal.coe_ne_top _)
      | bot => rw [EReal.bot_sub, EReal.bot_sub, exp_bot, mul_zero]
      | coe p =>
        rw [← EReal.coe_sub, ← EReal.coe_sub, ← EReal.coe_sub]
        show ((Real.exp (q - r) : ℝ) : EReal) * ((Real.exp (p - q) : ℝ) : EReal) = ((Real.exp (p - r) : ℝ) : EReal)
        rw [← EReal.coe_mul, ← Real.exp_add]
        congr 2; ring

/-- The reference's maxima: of a branch, and of the three branches. -/
def bmax (S : Fin 3 → Fin 129 → EReal) (b : Fin 3) : EReal := Finset.univ.sup (S b)
def tmax (S : Fin 3 → Fin 129 → EReal) : EReal := Finset.univ.sup (bmax S)

theorem le_bmax (S : Fin 3 → Fin 129 → EReal) (b : Fin 3) (t : Fin 129) : S b t ≤ bmax S b :=
  Finset.le_sup (f := S b) (Finset.mem_univ t)
theorem bmax_le (S : Fin 3 → Fin 129 → EReal) (b : Fin 3) : bmax S b ≤ tmax S :=
  Finset.le_sup (f := bmax S) (Finset.mem_univ b)

/-- One branch of the merge, its numerator. -/
theorem branch_num (S : Fin 3 → Fin 129 → EReal) (W : Fin 3 → Fin 129 → EReal) (b : Fin 3) :
    Ideal.exp (bmax S b - tmax S) * ∑ t, Ideal.exp (S b t - bmax S b) * W b t
      = ∑ t, Ideal.exp (S b t - tmax S) * W b t := by
  rw [mul_sum_of_nonneg _ _ (exp_nonneg _) (exp_ne_top (sub_ne_top (bmax_le S b)))]
  refine Finset.sum_congr rfl fun t _ => ?_
  rw [← mul_assoc, exp_merge (le_bmax S b t) (bmax_le S b)]

/-- One branch of the merge, its denominator. -/
theorem branch_den (S : Fin 3 → Fin 129 → EReal) (b : Fin 3) :
    Ideal.exp (bmax S b - tmax S) * ∑ t, Ideal.exp (S b t - bmax S b)
      = ∑ t, Ideal.exp (S b t - tmax S) := by
  rw [mul_sum_of_nonneg _ _ (exp_nonneg _) (exp_ne_top (sub_ne_top (bmax_le S b)))]
  exact Finset.sum_congr rfl fun t _ => exp_merge (le_bmax S b t) (bmax_le S b)

/-- The indicator of a proposition. -/
def ind (p : Prop) [Decidable p] : EReal := if p then 1 else 0

theorem ind_nonneg (p : Prop) [Decidable p] : 0 ≤ ind p := by unfold ind; split <;> simp
theorem ind_mul (p : Prop) [Decidable p] (x : EReal) : ind p * x = if p then x else 0 := by
  unfold ind; split <;> simp

/-- How many of three propositions hold. -/
def cnt (p : Fin 3 → Prop) [∀ b, Decidable (p b)] : EReal := ind (p 0) + ind (p 1) + ind (p 2)

theorem cnt_mul (p : Fin 3 → Prop) [∀ b, Decidable (p b)] (x : EReal) :
    cnt p * x = ∑ b, if p b then x else 0 := by
  unfold cnt
  rw [EReal.right_distrib_of_nonneg (add_nonneg (ind_nonneg _) (ind_nonneg _)) (ind_nonneg _),
    EReal.right_distrib_of_nonneg (ind_nonneg _) (ind_nonneg _), ind_mul, ind_mul, ind_mul, Fin.sum_univ_three]

theorem cnt_pos (p : Fin 3 → Prop) [∀ b, Decidable (p b)] : 0 < cnt p ↔ ∃ b, p b := by
  constructor
  · intro h
    by_contra hn
    have hn' : ∀ b, ¬ p b := fun b hb => hn ⟨b, hb⟩
    simp [cnt, ind, hn'] at h
  · rintro ⟨b, hb⟩
    have h1 : (0 : EReal) < ind (p b) := by simp [ind, hb]
    refine lt_of_lt_of_le h1 ?_
    unfold cnt
    fin_cases b
    · exact le_add_of_le_of_nonneg (le_add_of_le_of_nonneg le_rfl (ind_nonneg _)) (ind_nonneg _)
    · exact le_add_of_le_of_nonneg (le_add_of_nonneg_of_le (ind_nonneg _) le_rfl) (ind_nonneg _)
    · exact le_add_of_nonneg_of_le (add_nonneg (ind_nonneg _) (ind_nonneg _)) le_rfl

/-- The keys one branch reaches, summed over the cached rows and the new ones, are its steps. -/
theorem sum_keys (key : Fin 129 → ℕ) (hinj : Function.Injective key) (hlt : ∀ t, key t < 2056)
    (p : Fin 2048 → Prop) [∀ c, Decidable (p c)] (p' : Fin 8 → Prop) [∀ c, Decidable (p' c)]
    (hp : ∀ c, p c ↔ ∃ t, key t = c.val) (hp' : ∀ j, p' j ↔ ∃ t, key t = 2048 + j.val)
    (g : Fin 2048 → EReal) (g' : Fin 8 → EReal) (T : Fin 129 → EReal)
    (hg : ∀ t c, key t = c.val → T t = g c) (hg' : ∀ t j, key t = 2048 + j.val → T t = g' j) :
    (∑ c, if p c then g c else 0) + (∑ j, if p' j then g' j else 0) = ∑ t, T t := by
  have e1 : ∀ c, (if p c then g c else 0) = ∑ t, if key t = c.val then T t else 0 := by
    intro c
    by_cases h : p c
    · obtain ⟨t, ht⟩ := (hp c).1 h
      rw [if_pos h, Finset.sum_eq_single t, if_pos ht, hg t c ht]
      · intro s _ hs
        rw [if_neg]
        exact fun h' => hs (hinj (h'.trans ht.symm))
      · exact fun h' => absurd (Finset.mem_univ _) h'
    · rw [if_neg h]
      refine (Finset.sum_eq_zero fun t _ => if_neg fun ht => h ((hp c).2 ⟨t, ht⟩)).symm
  have e2 : ∀ j, (if p' j then g' j else 0) = ∑ t, if key t = 2048 + j.val then T t else 0 := by
    intro c
    by_cases h : p' c
    · obtain ⟨t, ht⟩ := (hp' c).1 h
      rw [if_pos h, Finset.sum_eq_single t, if_pos ht, hg' t c ht]
      · intro s _ hs
        rw [if_neg]
        exact fun h' => hs (hinj (h'.trans ht.symm))
      · exact fun h' => absurd (Finset.mem_univ _) h'
    · rw [if_neg h]
      refine (Finset.sum_eq_zero fun t _ => if_neg fun ht => h ((hp' c).2 ⟨t, ht⟩)).symm
  rw [Finset.sum_congr rfl fun c _ => e1 c, Finset.sum_congr rfl fun c _ => e2 c, Finset.sum_comm,
    Finset.sum_comm (s := (Finset.univ : Finset (Fin 8))), ← Finset.sum_add_distrib]
  refine Finset.sum_congr rfl fun t _ => ?_
  by_cases h : key t < 2048
  · rw [Finset.sum_eq_single (⟨key t, h⟩ : Fin 2048), if_pos rfl, Finset.sum_eq_zero, add_zero]
    · intro j _; rw [if_neg]; omega
    · intro c _ hc; rw [if_neg]; intro h'; exact hc (Fin.ext h'.symm)
    · exact fun h' => absurd (Finset.mem_univ _) h'
  · have h2 := hlt t
    rw [Finset.sum_eq_zero, zero_add, Finset.sum_eq_single (⟨key t - 2048, by omega⟩ : Fin 8), if_pos]
    · show key t = 2048 + (key t - 2048); omega
    · intro c _ hc; rw [if_neg]; intro h'; refine hc (Fin.ext ?_); show c.val = key t - 2048; omega
    · exact fun h' => absurd (Finset.mem_univ _) h'
    · intro c _; rw [if_neg]; have := c.isLt; omega

section Main

variable (key : Fin 3 → Fin 129 → ℕ) (hinj : ∀ b, Function.Injective (key b)) (hlt : ∀ b t, key b t < 2056)
  (p : Fin 2048 → Fin 3 → Prop) [∀ c b, Decidable (p c b)] (p' : Fin 8 → Fin 3 → Prop) [∀ c b, Decidable (p' c b)]
  (hp : ∀ b c, p c b ↔ ∃ t, key b t = c.val) (hp' : ∀ b j, p' j b ↔ ∃ t, key b t = 2048 + j.val)
  (sc : Fin 2048 → EReal) (sn : Fin 8 → EReal) (vc : Fin 2048 → EReal) (vn : Fin 8 → EReal)
  (S W : Fin 3 → Fin 129 → EReal)
  (hS : ∀ b t c, key b t = c.val → S b t = sc c) (hS' : ∀ b t j, key b t = 2048 + j.val → S b t = sn j)
  (hW : ∀ b t c, key b t = c.val → W b t = vc c) (hW' : ∀ b t j, key b t = 2048 + j.val → W b t = vn j)

/-- A key's score, minus infinity where no branch reaches it. -/
def masked {n : ℕ} (p : Fin n → Fin 3 → Prop) [∀ c b, Decidable (p c b)] (s : Fin n → EReal) (c : Fin n) : EReal :=
  if 0 < cnt (p c) then s c else ⊥

/-- The kernel's maximum over the cached and the new keys. -/
def kmax (sc : Fin 2048 → EReal) (sn : Fin 8 → EReal) : EReal :=
  max (Finset.univ.sup (masked p sc)) (Finset.univ.sup (masked p' sn))

include hp hp' hS hS' hlt in
theorem kmax_eq : kmax p p' sc sn = tmax S := by
  refine le_antisymm (max_le (Finset.sup_le fun c _ => ?_) (Finset.sup_le fun c _ => ?_)) (Finset.sup_le fun b _ => Finset.sup_le fun t _ => ?_)
  · unfold masked; split
    · rename_i h
      obtain ⟨b, hb⟩ := (cnt_pos _).1 h
      obtain ⟨t, ht⟩ := (hp b c).1 hb
      rw [← hS b t c ht]
      exact (le_bmax S b t).trans (bmax_le S b)
    · exact bot_le
  · unfold masked; split
    · rename_i h
      obtain ⟨b, hb⟩ := (cnt_pos _).1 h
      obtain ⟨t, ht⟩ := (hp' b c).1 hb
      rw [← hS' b t c ht]
      exact (le_bmax S b t).trans (bmax_le S b)
    · exact bot_le
  · by_cases h : key b t < 2048
    · refine le_trans (le_of_eq ?_) ((Finset.le_sup (f := masked p sc) (Finset.mem_univ ⟨key b t, h⟩)).trans (le_max_left _ _))
      unfold masked
      rw [if_pos ((cnt_pos _).2 ⟨b, (hp b _).2 ⟨t, rfl⟩⟩), hS b t ⟨key b t, h⟩ rfl]
    · have h2 := hlt b t
      have h3 : key b t = 2048 + (⟨key b t - 2048, by omega⟩ : Fin 8).val := by show key b t = 2048 + (key b t - 2048); omega
      refine le_trans (le_of_eq ?_) ((Finset.le_sup (f := masked p' sn) (Finset.mem_univ ⟨key b t - 2048, by omega⟩)).trans (le_max_right _ _))
      unfold masked
      rw [if_pos ((cnt_pos _).2 ⟨b, (hp' b _).2 ⟨t, h3⟩⟩), hS' b t _ h3]

include hinj hp hp' hS hS' hW hW' hlt in
/-- THE EQUATION: the kernel's quotient over all keys is the merge of the three branches' softmaxes. -/
theorem attn_eq :
    Ideal.div
      ((∑ c, cnt (p c) * Ideal.exp (masked p sc c - kmax p p' sc sn) * vc c)
        + ∑ j, cnt (p' j) * Ideal.exp (masked p' sn j - kmax p p' sc sn) * vn j)
      ((∑ c, cnt (p c) * Ideal.exp (masked p sc c - kmax p p' sc sn))
        + ∑ j, cnt (p' j) * Ideal.exp (masked p' sn j - kmax p p' sc sn))
    = Ideal.div
      (∑ b, Ideal.exp (bmax S b - tmax S) * ∑ t, Ideal.exp (S b t - bmax S b) * W b t)
      (∑ b, Ideal.exp (bmax S b - tmax S) * ∑ t, Ideal.exp (S b t - bmax S b)) := by
  rw [kmax_eq key hlt p p' hp hp' sc sn S hS hS']
  have hm : ∀ b t c, key b t = c.val → masked p sc c = S b t := fun b t c h => by
    unfold masked; rw [if_pos ((cnt_pos _).2 ⟨b, (hp b c).2 ⟨t, h⟩⟩), hS b t c h]
  have hm' : ∀ b t j, key b t = 2048 + j.val → masked p' sn j = S b t := fun b t c h => by
    unfold masked; rw [if_pos ((cnt_pos _).2 ⟨b, (hp' b c).2 ⟨t, h⟩⟩), hS' b t c h]
  congr 1
  · rw [Finset.sum_congr rfl fun c _ => (mul_assoc _ _ _).trans (cnt_mul (p c) _),
      Finset.sum_congr rfl fun c _ => (mul_assoc _ _ _).trans (cnt_mul (p' c) _), Finset.sum_comm,
      Finset.sum_comm (s := (Finset.univ : Finset (Fin 8))), ← Finset.sum_add_distrib]
    refine Finset.sum_congr rfl fun b _ => ?_
    rw [branch_num]
    refine sum_keys (key b) (hinj b) (hlt b) (fun c => p c b) (fun c => p' c b) (hp b) (hp' b) _ _ _ ?_ ?_
    · intro t c h; rw [hm b t c h, hW b t c h]
    · intro t c h; rw [hm' b t c h, hW' b t c h]
  · rw [Finset.sum_congr rfl fun c _ => cnt_mul (p c) _,
      Finset.sum_congr rfl fun c _ => cnt_mul (p' c) _, Finset.sum_comm,
      Finset.sum_comm (s := (Finset.univ : Finset (Fin 8))), ← Finset.sum_add_distrib]
    refine Finset.sum_congr rfl fun b _ => ?_
    rw [branch_den]
    refine sum_keys (key b) (hinj b) (hlt b) (fun c => p c b) (fun c => p' c b) (hp b) (hp' b) _ _ _ ?_ ?_
    · intro t c h; rw [hm b t c h]
    · intro t c h; rw [hm' b t c h]

end Main

end Cert.AttnMath

end
-- ==== Proof.AttnCount.lean ====
/- What the body of the decoding step's attention stores at a row and a lane: the quotient of two weighted sums over the
   cached and the new keys, each key counted as often as the branches reach it. -/
module

public import proofs.«01_k».proof.Proof.Gen.AttnIdeal.Skeleton
public import proofs.«01_k».proof.Proof.AttnMath
public import Idealize.ShloMosaic.Lib.Pipeline.ValueKit
public import Idealize.ShloMosaic.Lib.Pointwise

@[expose] public section

set_option maxRecDepth 16384

noncomputable section

namespace Cert.AttnIdeal.Point

open Idealize.ShloMosaic Idealize.ShloMosaic.TcCoe Idealize.SL.Sem
open Cert.AttnIdeal Cert.AttnIdeal.Gen Cert.AttnMath

/-! ## The counts -/

/-- One branch's test of a key at distance `x`: within the window, and on the branch's grid. -/
def hit (w d x : BitVec 32) : BitVec 1 :=
  IntOp.andi (IntOp.andi (IntOp.cmpi .sge x 0#32) (IntOp.cmpi .sle x w))
    (IntOp.cmpi .eq (Scalar.select (IntOp.andi (IntOp.xori (IntOp.cmpi .slt (IntOp.remsi .vector x d) 0#32) (IntOp.cmpi .slt d 0#32))
      (IntOp.cmpi .ne (IntOp.remsi .vector x d) 0#32)) (IntOp.addi (IntOp.remsi .vector x d) d) (IntOp.remsi .vector x d)) 0#32)

/-- The query of row `r` of the stacked pair of heads. -/
def qword (r : ℕ) : BitVec 32 :=
  Scalar.select (IntOp.andi (IntOp.xori (IntOp.cmpi .slt (IntOp.remsi .vector (BitVec.ofNat 32 r) 4#32) 0#32) (IntOp.cmpi .slt 4#32 0#32))
    (IntOp.cmpi .ne (IntOp.remsi .vector (BitVec.ofNat 32 r) 4#32) 0#32)) (IntOp.addi (IntOp.remsi .vector (BitVec.ofNat 32 r) 4#32) 4#32)
    (IntOp.remsi .vector (BitVec.ofNat 32 r) 4#32)

/-- The distances from a row's query back to a cached key and to a new one. -/
def wordC (r c : ℕ) : BitVec 32 := IntOp.subi (IntOp.addi 2048#32 (qword r)) (BitVec.ofNat 32 c)
def wordN (r c : ℕ) : BitVec 32 := IntOp.subi (qword r) (BitVec.ofNat 32 c)

/-- The branches' windows and dilations, as words and as numbers. -/
def wd : Fin 3 → BitVec 32 := ![128#32, 512#32, 2048#32]
def dl : Fin 3 → BitVec 32 := ![1#32, 4#32, 16#32]
def dil : Fin 3 → ℕ := ![1, 4, 16]

abbrev pC (r c : ℕ) (b : Fin 3) : Prop := hit (wd b) (dl b) (wordC r c) = 1#1
abbrev pN (r c : ℕ) (b : Fin 3) : Prop := IntOp.cmpi .slt (BitVec.ofNat 32 c) 4#32 = 1#1 ∧ hit (wd b) (dl b) (wordN r c) = 1#1

theorem qword_eq : ∀ r : Fin 8, qword r.val = BitVec.ofNat 32 (r.val % 4) := by decide +kernel

theorem wordC_eq (r : Fin 8) (c : Fin 2048) : wordC r.val c.val = BitVec.ofNat 32 (2048 + r.val % 4 - c.val) := by
  have h1 := r.isLt
  have h2 := c.isLt
  unfold wordC
  rw [qword_eq]
  show (2048#32 + BitVec.ofNat 32 (r.val % 4)) - BitVec.ofNat 32 c.val = _
  refine BitVec.eq_of_toNat_eq ?_
  simp only [BitVec.toNat_sub, BitVec.toNat_add, BitVec.toNat_ofNat]
  omega

theorem hit_iff : ∀ (b : Fin 3) (n : Fin 2052), hit (wd b) (dl b) (BitVec.ofNat 32 n.val) = 1#1 ↔ (n.val ≤ 128 * dil b ∧ n.val % dil b = 0) := by
  decide +kernel

theorem pC_iff (r : Fin 8) (c : Fin 2048) (b : Fin 3) : pC r.val c.val b
    ↔ (c.val ≤ 2048 + r.val % 4 ∧ 2048 + r.val % 4 - c.val ≤ 128 * dil b ∧ (2048 + r.val % 4 - c.val) % dil b = 0) := by
  have h2 := c.isLt
  show hit (wd b) (dl b) (wordC r.val c.val) = 1#1 ↔ _
  rw [wordC_eq]
  exact (hit_iff b ⟨2048 + r.val % 4 - c.val, by omega⟩).trans ⟨fun h => ⟨by omega, h⟩, fun h => h.2⟩

theorem pN_iff : ∀ (r : Fin 8) (c : Fin 8) (b : Fin 3), pN r.val c.val b
    ↔ (c.val ≤ r.val % 4 ∧ (r.val % 4 - c.val) % dil b = 0) := by
  decide +kernel

/-- The key that step `t` of branch `b` reaches from query `q`. -/
def key (q : ℕ) (b : Fin 3) (t : Fin 129) : ℕ := 2048 + q - dil b * t.val

theorem key_inj {q : ℕ} (b : Fin 3) : Function.Injective (key q b) := by
  intro t s h
  refine Fin.ext ?_
  have h1 := t.isLt
  have h2 := s.isLt
  fin_cases b <;> simp [key, dil] at h <;> omega

theorem key_lt {q : ℕ} (hq : q < 4) (b : Fin 3) (t : Fin 129) : key q b t < 2056 := by
  unfold key; omega

theorem pC_key (r : Fin 8) (b : Fin 3) (c : Fin 2048) : pC r.val c.val b ↔ ∃ t, key (r.val % 4) b t = c.val := by
  rw [pC_iff]
  have hc := c.isLt
  constructor
  · rintro ⟨h1, h2, h3⟩
    fin_cases b
    · refine ⟨⟨2048 + r.val % 4 - c.val, ?_⟩, ?_⟩ <;> simp [key, dil] at h2 h3 ⊢ <;> omega
    · refine ⟨⟨(2048 + r.val % 4 - c.val) / 4, ?_⟩, ?_⟩ <;> simp [key, dil] at h2 h3 ⊢ <;> omega
    · refine ⟨⟨(2048 + r.val % 4 - c.val) / 16, ?_⟩, ?_⟩ <;> simp [key, dil] at h2 h3 ⊢ <;> omega
  · rintro ⟨t, ht⟩
    have h1 := t.isLt
    fin_cases b <;> simp [key, dil] at ht ⊢ <;> omega

theorem pN_key (r : Fin 8) (b : Fin 3) (c : Fin 8) : pN r.val c.val b ↔ ∃ t, key (r.val % 4) b t = 2048 + c.val := by
  rw [pN_iff]
  have hc := c.isLt
  constructor
  · rintro ⟨h1, h3⟩
    fin_cases b
    · refine ⟨⟨r.val % 4 - c.val, ?_⟩, ?_⟩ <;> simp [key, dil] at h3 ⊢ <;> omega
    · refine ⟨⟨(r.val % 4 - c.val) / 4, ?_⟩, ?_⟩ <;> simp [key, dil] at h3 ⊢ <;> omega
    · refine ⟨⟨(r.val % 4 - c.val) / 16, ?_⟩, ?_⟩ <;> simp [key, dil] at h3 ⊢ <;> omega
  · rintro ⟨t, ht⟩
    have h1 := t.isLt
    fin_cases b <;> simp [key, dil] at ht ⊢ <;> omega

/-- A test's bit, widened and converted, is its indicator. -/
theorem bit_ind (b : BitVec 1) : FloatOps.sitofp (F := Ideal) .f32 (BitVec.setWidth 32 b) = ind (b = 1#1) := by
  have h : b = 0#1 ∨ b = 1#1 := by revert b; decide
  rcases h with rfl | rfl
  · show (((BitVec.setWidth 32 0#1).toInt : ℝ) : EReal) = _
    rw [show (BitVec.setWidth 32 0#1).toInt = 0 from rfl]; simp [ind]
  · show (((BitVec.setWidth 32 1#1).toInt : ℝ) : EReal) = _
    rw [show (BitVec.setWidth 32 1#1).toInt = 1 from rfl]; simp [ind]

/-- The counts over the cached rows, as the body computes them. -/
def cntC : FVec Ideal S8x2048 .f32 :=
  k0_pay19 (k0_pay14 (k0_pay11 4#32 k0_pay9 k0_pay10) (k0_pay12 4#32 k0_pay9 k0_pay10) (k0_pay13 4#32 k0_pay9 k0_pay10) 512#32)
    (k0_pay15 (k0_pay11 4#32 k0_pay9 k0_pay10)) (k0_pay16 (k0_pay11 4#32 k0_pay9 k0_pay10)) (k0_pay17 (k0_pay11 4#32 k0_pay9 k0_pay10))
    (k0_pay18 (k0_pay11 4#32 k0_pay9 k0_pay10))

theorem word_at (r : Fin 8) (c : Fin 2048) : k0_pay11 4#32 k0_pay9 k0_pay10 (ix2 r c) = wordC r.val c.val := by
  pointwise [k0_pay11, k0_pay9, k0_pay10]
  rfl

theorem cntC_at (r : Fin 8) (c : Fin 2048) : cntC (ix2 r c) = cnt (pC r.val c.val) := by
  have e0 : k0_pay12 (F := Ideal) 4#32 k0_pay9 k0_pay10 (ix2 r c) = ind (pC r.val c.val 0) := by
    pointwise [k0_pay12]
    rw [word_at r c]
    refine (bit_ind _).trans ?_
    rfl
  have e1 : ∀ v79 : FVec Ideal S8x2048 .f32, k0_pay14 (k0_pay11 4#32 k0_pay9 k0_pay10) v79 (k0_pay13 4#32 k0_pay9 k0_pay10) 512#32 (ix2 r c)
      = v79 (ix2 r c) + ind (pC r.val c.val 1) := by
    intro v79
    pointwise [k0_pay14, k0_pay13]
    rw [word_at r c]
    refine congrArg (v79 (ix2 r c) + ·) ((bit_ind _).trans ?_)
    rfl
  have e2 : ∀ v106 : FVec Ideal S8x2048 .f32, k0_pay19 v106
    (k0_pay15 (k0_pay11 4#32 k0_pay9 k0_pay10)) (k0_pay16 (k0_pay11 4#32 k0_pay9 k0_pay10)) (k0_pay17 (k0_pay11 4#32 k0_pay9 k0_pay10))
    (k0_pay18 (k0_pay11 4#32 k0_pay9 k0_pay10)) (ix2 r c)
      = v106 (ix2 r c) + ind (pC r.val c.val 2) := by
    intro v106
    pointwise [k0_pay19, k0_pay15, k0_pay16, k0_pay17, k0_pay18]
    rw [word_at r c]
    refine congrArg (v106 (ix2 r c) + ·) ((bit_ind _).trans ?_)
    rfl
  unfold cntC
  rw [e2, e1, e0]
  rfl

theorem select_ind (b x y z : BitVec 1) :
    Scalar.select b (ind (x = 1#1) + ind (y = 1#1) + ind (z = 1#1)) 0 = ind (b = 1#1 ∧ x = 1#1) + ind (b = 1#1 ∧ y = 1#1) + ind (b = 1#1 ∧ z = 1#1) := by
  have h : b = 0#1 ∨ b = 1#1 := by revert b; decide
  rcases h with rfl | rfl
  · simp [Scalar.select, ind]
  · simp [Scalar.select, ind]

/-- The counts over the new rows, as the body computes them. -/
def cntN : FVec Ideal S8x8 .f32 :=
  k0_pay29 k0_pay20 k0_pay21 (k0_pay27 k0_pay21 (k0_pay22 (F := Ideal)) k0_pay23 1#32 k0_pay24 k0_pay25 k0_pay26 0#1) (k0_pay28 k0_pay21) 16#32 0#1

theorem wordN_at (r : Fin 8) (c : Fin 8) : k0_pay21 (ix2 r c) = wordN r.val c.val := by
  pointwise [k0_pay21]
  rfl

theorem cntN_at (r : Fin 8) (c : Fin 8) : cntN (ix2 r c) = cnt (pN r.val c.val) := by
  have e0 : k0_pay27 k0_pay21 (k0_pay22 (F := Ideal)) k0_pay23 1#32 k0_pay24 k0_pay25 k0_pay26 0#1 (ix2 r c)
      = ind (hit (wd 0) (dl 0) (wordN r.val c.val) = 1#1) + ind (hit (wd 1) (dl 1) (wordN r.val c.val) = 1#1) := by
    pointwise [k0_pay27, k0_pay22, k0_pay23, k0_pay24, k0_pay25, k0_pay26]
    rw [wordN_at r c]
    refine congrArg₂ (· + ·) ((bit_ind _).trans ?_) ((bit_ind _).trans ?_)
    · rfl
    · rfl
  have e1 : cntN (ix2 r c) = Scalar.select (IntOp.cmpi .slt (BitVec.ofNat 32 c.val) 4#32)
      ((k0_pay27 k0_pay21 (k0_pay22 (F := Ideal)) k0_pay23 1#32 k0_pay24 k0_pay25 k0_pay26 0#1 (ix2 r c) : EReal)
        + ind (hit (wd 2) (dl 2) (wordN r.val c.val) = 1#1)) 0 := by
    unfold cntN
    generalize k0_pay27 k0_pay21 (k0_pay22 (F := Ideal)) k0_pay23 1#32 k0_pay24 k0_pay25 k0_pay26 0#1 = x
    pointwise [k0_pay29, k0_pay20, k0_pay28]
    rw [wordN_at r c]
    refine congrArg (fun z => Scalar.select (IntOp.cmpi .slt (BitVec.ofNat 32 c.val) 4#32) (x (ix2 r c) + z) 0) ((bit_ind _).trans ?_)
    rfl
  rw [e1, e0]
  exact select_ind _ _ _ _

end Cert.AttnIdeal.Point

end
-- ==== Proof.AttnKernel.lean ====
/- What the body of the decoding step's attention stores at a row and a lane: the quotient of two weighted sums over the
   cached and the new keys, each key counted as often as the branches reach it. -/
module

public import proofs.«01_k».proof.Proof.Gen.AttnIdeal.Skeleton
public import proofs.«01_k».proof.Proof.AttnMath
public import Idealize.ShloMosaic.Lib.Pipeline.ValueKit
public import Idealize.ShloMosaic.Lib.Pointwise
public import proofs.«01_k».proof.Proof.AttnCount

@[expose] public section

set_option maxRecDepth 16384

noncomputable section

namespace Cert.AttnIdeal.Point

open Idealize.ShloMosaic Idealize.ShloMosaic.TcCoe Idealize.SL.Sem
open Cert.AttnIdeal Cert.AttnIdeal.Gen Cert.AttnMath

/-! ## Scores and values -/

/-- The score's scale. -/
def scale : EReal := Ideal.ofBits .f32 0x3E000000#32

theorem scale_eq : scale = ((1/8 : ℝ) : EReal) := by
  unfold scale; simp [Ideal.ofBits, Ideal.ieee, -EReal.coe_mul]; norm_num
theorem scale_nonneg : 0 ≤ scale := by rw [scale_eq]; exact EReal.coe_nonneg.2 (by norm_num)
theorem scale_ne_top : scale ≠ ⊤ := by rw [scale_eq]; exact EReal.coe_ne_top _

/-- Row `4 h + q` of the stacked pair of heads and lane `64 h + d` of the pair's lanes. -/
def row (h : Fin 2) (q : Fin 4) : Fin 8 := ⟨4 * h.val + q.val, by omega⟩
def ln (h : Fin 2) (d : Fin 64) : Fin 128 := ⟨64 * h.val + d.val, by omega⟩

theorem lane_bit : ∀ x : Fin 128, IntOp.cmpi .slt (BitVec.ofNat 32 x.val) 64#32 = if x.val < 64 then 1#1 else 0#1 := by decide +kernel

/-- A masked product over the pair's lanes is the product over the head's own. -/
theorem lanes_sum (h : Fin 2) (f : Fin 128 → EReal) (g : Fin 128 → EReal) :
    (∑ x : Fin 128, (if x.val / 64 = h.val then f x else 0) * g x) = ∑ d : Fin 64, f (ln h d) * g (ln h d) := by
  rw [Fin.sum_univ_two_halves 64 64 rfl]
  obtain rfl | rfl : h = 0 ∨ h = 1 := by revert h; decide
  · refine (congrArg₂ (· + ·) (Finset.sum_congr rfl fun x _ => ?_) (Finset.sum_eq_zero fun x _ => ?_)).trans (add_zero _)
    · have hx := x.isLt
      rw [if_pos (show x.val / 64 = (0 : Fin 2).val by show x.val / 64 = 0; omega)]
      have : (⟨x.val, by omega⟩ : Fin 128) = ln 0 x := Fin.ext (by simp [ln])
      rw [← this]
    · rw [if_neg (show ¬ (64 + x.val) / 64 = (0 : Fin 2).val by show ¬ (64 + x.val) / 64 = 0; omega), zero_mul]
  · refine (congrArg₂ (· + ·) (Finset.sum_eq_zero fun x _ => ?_) (Finset.sum_congr rfl fun x _ => ?_)).trans (zero_add _)
    · have hx := x.isLt
      rw [if_neg (show ¬ x.val / 64 = (1 : Fin 2).val by show ¬ x.val / 64 = 1; omega), zero_mul]
    · have hx := x.isLt
      rw [if_pos (show (64 + x.val) / 64 = (1 : Fin 2).val by show (64 + x.val) / 64 = 1; omega)]
      rfl

/-- The masked, scaled query rows. -/
theorem q_at (x0 : Vec Ideal S4x128 .f32) (h : Fin 2) (q : Fin 4) (x : Fin 128) :
    k0_pay3 x0 (ix2 (row h q) x) = if x.val / 64 = h.val then (x0 (ix2 q x) : EReal) * scale else 0 := by
  pointwise [k0_pay3, k0_pay2]
  rw [lane_bit x]
  obtain rfl | rfl : h = 0 ∨ h = 1 := by revert h; decide
  · have e : (row 0 q).val < 4 := by simp [row]
    rw [dif_pos e]
    by_cases hx : x.val < 64
    · rw [if_pos hx, if_pos (show x.val / 64 = (0 : Fin 2).val by show x.val / 64 = 0; omega)]
      have : (⟨(row 0 q).val, e⟩ : Fin 4) = q := Fin.ext (by simp [row])
      show (x0 (ix2 ⟨(row 0 q).val, e⟩ x) : EReal) * scale = _
      rw [this]
    · rw [if_neg hx, if_neg (show ¬ x.val / 64 = (0 : Fin 2).val by show ¬ x.val / 64 = 0; omega)]; rfl
  · have e : ¬ (row 1 q).val < 4 := by simp [row]
    rw [dif_neg e]
    by_cases hx : x.val < 64
    · rw [if_pos hx, if_neg (show ¬ x.val / 64 = (1 : Fin 2).val by show ¬ x.val / 64 = 1; omega)]; rfl
    · rw [if_neg hx, if_pos (show x.val / 64 = (1 : Fin 2).val by show x.val / 64 = 1; omega)]
      have : (⟨(row 1 q).val - 4, by simp [row]⟩ : Fin 4) = q := Fin.ext (by simp [row])
      show (x0 (ix2 ⟨(row 1 q).val - 4, _⟩ x) : EReal) * scale = _
      rw [this]

/-- A cached key's score. -/
def scC (x0 : Vec Ideal S4x128 .f32) (kc : Vec Ideal S1x2048x128 .f32) (h : Fin 2) (q : Fin 4) (c : Fin 2048) : EReal :=
  ∑ d : Fin 64, (x0 (ix2 q (ln h d)) : EReal) * scale * (kc (ix3 0 c (ln h d)) : EReal)

/-- A new key's score (the rows past the fourth are padding). -/
def scN (x0 : Vec Ideal S4x128 .f32) (kn : Vec Ideal S4x128 .f32) (h : Fin 2) (q : Fin 4) (j : Fin 8) : EReal :=
  ∑ d : Fin 64, (x0 (ix2 q (ln h d)) : EReal) * scale * (if e : j.val < 4 then (kn (ix2 ⟨j.val, e⟩ (ln h d)) : EReal) else 0)

def vN (vn : Vec Ideal S4x128 .f32) (l : Fin 128) (j : Fin 8) : EReal :=
  if e : j.val < 4 then (vn (ix2 ⟨j.val, e⟩ l) : EReal) else 0

theorem scC_at (x0 : Vec Ideal S4x128 .f32) (kc : Vec Ideal S1x2048x128 .f32) (h : Fin 2) (q : Fin 4) (c : Fin 2048) :
    k0_pay7 x0 kc (ix2 (row h q) c) = scC x0 kc h q c := by
  pointwise [k0_pay7]
  simp only [q_at]
  exact lanes_sum h (fun x => (x0 (ix2 q x) : EReal) * scale) (fun x => kc (ix3 0 c x))

theorem scN_at (x0 : Vec Ideal S4x128 .f32) (kn : Vec Ideal S4x128 .f32) (h : Fin 2) (q : Fin 4) (j : Fin 8) :
    k0_pay8 x0 kn (ix2 (row h q) j) = scN x0 kn h q j := by
  pointwise [k0_pay8, k0_pay4]
  simp only [q_at]
  exact lanes_sum h (fun x => (x0 (ix2 q x) : EReal) * scale) (fun x => if e : j.val < 4 then (kn (ix2 ⟨j.val, e⟩ x) : EReal) else 0)

theorem vC_at (vc : Vec Ideal S1x2048x128 .f32) (c : Fin 2048) (l : Fin 128) : k0_pay6 vc (ix2 c l) = vc (ix3 0 c l) := by
  pointwise [k0_pay6]

theorem vN_at (vn : Vec Ideal S4x128 .f32) (j : Fin 8) (l : Fin 128) : k0_pay5 vn (ix2 j l) = vN vn l j := by
  pointwise [k0_pay5, k0_pay4]
  rfl

/-- The mask is minus infinity. -/
theorem mask_eq : (Named.named (F := Ideal) κ "mask" 0xF149F2CA#32 : Ideal .f32) = (⊥ : EReal) := rfl
theorem ninf : Ideal.ofBits .f32 0xFF800000#32 = (⊥ : EReal) := by simp [Ideal.ofBits, Ideal.ieee]

/-! ## What the body stores -/

/-- The stored block, from the rows loaded. -/
def body (x0 x1 x2 : Vec Ideal S4x128 .f32) (kc vc : Vec Ideal S1x2048x128 .f32) : FVec Ideal S1x4x128 .f32 :=
  k0_pay1 k0_pay2 (k0_pay5 x2) (k0_pay6 vc)
    (k0_pay33 (k0_pay7 x0 kc) (k0_pay8 x0 x1) cntC k0_pay20 k0_pay21 (k0_pay27 k0_pay21 (k0_pay22 (F := Ideal)) k0_pay23 1#32 k0_pay24 k0_pay25 k0_pay26 0#1) (k0_pay28 k0_pay21) 16#32 0#1)
    (k0_pay34 (k0_pay7 x0 kc) (k0_pay8 x0 x1) cntC k0_pay20 k0_pay21 (k0_pay27 k0_pay21 (k0_pay22 (F := Ideal)) k0_pay23 1#32 k0_pay24 k0_pay25 k0_pay26 0#1) (k0_pay28 k0_pay21) 16#32 0#1)
    (k0_pay35 (k0_pay7 x0 kc) (k0_pay8 x0 x1) cntC k0_pay20 k0_pay21 (k0_pay27 k0_pay21 (k0_pay22 (F := Ideal)) k0_pay23 1#32 k0_pay24 k0_pay25 k0_pay26 0#1) (k0_pay28 k0_pay21) 16#32 0#1)

section Rows
variable (x0 x1 : Vec Ideal S4x128 .f32) (kc : Vec Ideal S1x2048x128 .f32) (h : Fin 2) (q : Fin 4)

/-- The row's maximum. -/
abbrev mx : EReal := kmax (fun c => pC (row h q).val c.val) (fun c => pN (row h q).val c.val) (scC x0 kc h q) (scN x0 x1 h q)

theorem max_at : k0_pay32 (k0_pay7 x0 kc) (k0_pay8 x0 x1) cntC k0_pay20 k0_pay21 (k0_pay27 k0_pay21 (k0_pay22 (F := Ideal)) k0_pay23 1#32 k0_pay24 k0_pay25 k0_pay26 0#1) (k0_pay28 k0_pay21) 16#32 0#1 (ix2 (row h q) 0)
    = mx x0 x1 kc h q := by
  have e := fun c : Fin 8 => cntN_at (row h q) c
  unfold cntN at e
  pointwise [k0_pay32, k0_pay30, k0_pay31]
  simp only [cntC_at, e, scC_at, scN_at, mask_eq, ninf]
  rfl

theorem pC_at (c : Fin 2048) : k0_pay33 (k0_pay7 x0 kc) (k0_pay8 x0 x1) cntC k0_pay20 k0_pay21 (k0_pay27 k0_pay21 (k0_pay22 (F := Ideal)) k0_pay23 1#32 k0_pay24 k0_pay25 k0_pay26 0#1) (k0_pay28 k0_pay21) 16#32 0#1 (ix2 (row h q) c)
    = cnt (pC (row h q).val c.val) * Ideal.exp (masked (fun c : Fin 2048 => pC (row h q).val c.val) (scC x0 kc h q) c - mx x0 x1 kc h q) := by
  have e := max_at x0 x1 kc h q
  pointwise [k0_pay33, k0_pay30, e]
  simp only [cntC_at, scC_at, mask_eq]
  rfl

theorem pN_at (c : Fin 8) : k0_pay34 (k0_pay7 x0 kc) (k0_pay8 x0 x1) cntC k0_pay20 k0_pay21 (k0_pay27 k0_pay21 (k0_pay22 (F := Ideal)) k0_pay23 1#32 k0_pay24 k0_pay25 k0_pay26 0#1) (k0_pay28 k0_pay21) 16#32 0#1 (ix2 (row h q) c)
    = cnt (pN (row h q).val c.val) * Ideal.exp (masked (fun c : Fin 8 => pN (row h q).val c.val) (scN x0 x1 h q) c - mx x0 x1 kc h q) := by
  have e := max_at x0 x1 kc h q
  have e' := fun c : Fin 8 => cntN_at (row h q) c
  unfold cntN at e'
  pointwise [k0_pay34, k0_pay31, e]
  simp only [e', scN_at, mask_eq]
  rfl

theorem den_at : k0_pay35 (k0_pay7 x0 kc) (k0_pay8 x0 x1) cntC k0_pay20 k0_pay21 (k0_pay27 k0_pay21 (k0_pay22 (F := Ideal)) k0_pay23 1#32 k0_pay24 k0_pay25 k0_pay26 0#1) (k0_pay28 k0_pay21) 16#32 0#1 (ix2 (row h q) 0)
    = ∑ c, cnt (pC (row h q).val c.val) * Ideal.exp (masked (fun c : Fin 2048 => pC (row h q).val c.val) (scC x0 kc h q) c - mx x0 x1 kc h q) := by
  pointwise [k0_pay35]
  exact Finset.sum_congr rfl fun c _ => pC_at x0 x1 kc h q c

end Rows

/-- The quotient the body stores for query `q` of head `h` of the pair at lane `d`. -/
def KER (x0 x1 x2 : Vec Ideal S4x128 .f32) (kc vc : Vec Ideal S1x2048x128 .f32) (h : Fin 2) (q : Fin 4) (d : Fin 64) : EReal :=
  Ideal.div
    ((∑ c, cnt (pC (row h q).val c.val) * Ideal.exp (masked (fun c : Fin 2048 => pC (row h q).val c.val) (scC x0 kc h q) c - mx x0 x1 kc h q) * (vc (ix3 0 c (ln h d)) : EReal))
      + ∑ j, cnt (pN (row h q).val j.val) * Ideal.exp (masked (fun c : Fin 8 => pN (row h q).val c.val) (scN x0 x1 h q) j - mx x0 x1 kc h q) * vN x2 (ln h d) j)
    ((∑ c, cnt (pC (row h q).val c.val) * Ideal.exp (masked (fun c : Fin 2048 => pC (row h q).val c.val) (scC x0 kc h q) c - mx x0 x1 kc h q))
      + ∑ j, cnt (pN (row h q).val j.val) * Ideal.exp (masked (fun c : Fin 8 => pN (row h q).val c.val) (scN x0 x1 h q) j - mx x0 x1 kc h q))

theorem body_at (x0 x1 x2 : Vec Ideal S4x128 .f32) (kc vc : Vec Ideal S1x2048x128 .f32) (h : Fin 2) (q : Fin 4) (d : Fin 64) :
    body x0 x1 x2 kc vc (ix3 0 q (ln h d)) = KER x0 x1 x2 kc vc h q d := by
  have key : ∀ (v22 : FVec Ideal S8x128 .bf16) (v28 : FVec Ideal S2048x128 .bf16) (v255 : FVec Ideal S8x2048 .f32) (v259 : FVec Ideal S8x8 .f32) (v261 : FVec Ideal S8x1 .f32),
      k0_pay1 k0_pay2 v22 v28 v255 v259 v261 (ix3 0 q (ln h d))
        = Ideal.div ((∑ x, (v255 (ix2 (row h q) x) : EReal) * v28 (ix2 x (ln h d))) + ∑ x, (v259 (ix2 (row h q) x) : EReal) * v22 (ix2 x (ln h d)))
            ((v261 (ix2 (row h q) 0) : EReal) + ∑ x, (v259 (ix2 (row h q) x) : EReal)) := by
    intro v22 v28 v255 v259 v261
    pointwise [k0_pay1, k0_pay2]
    rw [lane_bit (ln h d)]
    obtain rfl | rfl : h = 0 ∨ h = 1 := by revert h; decide
    · rw [if_pos (show (ln 0 d).val < 64 by simp [ln])]
      have : row 0 q = ⟨q.val, by omega⟩ := Fin.ext (by simp [row])
      show _ = Ideal.div ((∑ x, (v255 (ix2 (row 0 q) x) : EReal) * v28 (ix2 x (ln 0 d))) + ∑ x, (v259 (ix2 (row 0 q) x) : EReal) * v22 (ix2 x (ln 0 d)))
            ((v261 (ix2 (row 0 q) 0) : EReal) + ∑ x, (v259 (ix2 (row 0 q) x) : EReal))
      rw [this]; rfl
    · rw [if_neg (show ¬ (ln 1 d).val < 64 by simp [ln])]
      rfl
  unfold body
  refine (key _ _ _ _ _).trans ?_
  unfold KER
  simp only [pC_at, pN_at, den_at, vC_at, vN_at]

end Cert.AttnIdeal.Point

end
-- ==== Proof.AttnSpec.lean ====
/- The attention of the decoding step in closed form: three dilated branches over the cached and the new keys, each branch
   a softmax of its own, the branches merged by their maxima. -/
module

public import proofs.«01_k».proof.Proof.AttnKernel

@[expose] public section

set_option maxRecDepth 16384

noncomputable section

namespace Cert.AttnSpec

open Idealize.ShloMosaic Idealize.ShloMosaic.TcCoe Idealize.SL.Sem
open Cert.AttnIdeal.Point Cert.AttnMath

/-- The projected rows and a cache, as arrays of extended reals. -/
abbrev Proj := (⟨2, ![16512, 8192]⟩ : Shape).Idx → EReal
abbrev Cache := (⟨5, ![1, 32, 2048, 16, 64]⟩ : Shape).Idx → EReal

/-- The projection's entry of batch element `b`'s step `q`, head `h`, lane `d`, in the columns from `off`. -/
def new (A : Proj) (off : ℕ) (hoff : off ≤ 7168) (b : Fin 32) (h : Fin 16) (d : Fin 64) (q : ℕ) (hq : q < 4) : EReal :=
  A (ix2 ⟨16384 + 4 * b.val + q, by omega⟩ ⟨off + 64 * h.val + d.val, by omega⟩)

/-- Key or value number `c`: from the cache, or from the projection. -/
def entry (A : Proj) (C : Cache) (off : ℕ) (hoff : off ≤ 7168) (b : Fin 32) (h : Fin 16) (d : Fin 64) (c : ℕ) : EReal :=
  if e : c < 2048 then C (ix5 0 b ⟨c, e⟩ h d) else if e' : c - 2048 < 4 then new A off hoff b h d (c - 2048) e' else 0

section Attend
variable (A : Proj) (K V : Cache) (b : Fin 32) (q : Fin 4) (h : Fin 16)

/-- The scores. -/
def S (br : Fin 3) (t : Fin 129) : EReal :=
  (∑ d : Fin 64, new A 3072 (by omega) b h d q.val q.isLt * entry A K 4096 (by omega) b h d (key q.val br t)) * scale
/-- The values. -/
def W (d : Fin 64) (br : Fin 3) (t : Fin 129) : EReal := entry A V 5120 (by omega) b h d (key q.val br t)

/-- The merged attention. -/
def att (d : Fin 64) : EReal :=
  Ideal.div
    (∑ br, Ideal.exp (bmax (S A K b q h) br - tmax (S A K b q h)) * ∑ t, Ideal.exp (S A K b q h br t - bmax (S A K b q h) br) * W A V b q h d br t)
    (∑ br, Ideal.exp (bmax (S A K b q h) br - tmax (S A K b q h)) * ∑ t, Ideal.exp (S A K b q h br t - bmax (S A K b q h) br))
end Attend

/-- The result as an array. -/
def out (A : Proj) (K V : Cache) : (⟨3, ![32, 4, 1024]⟩ : Shape).Idx → EReal := fun j =>
  att A K V (j 0) (j 1) ⟨(j 2).val / 64, by have : (j 2).val < 1024 := (j 2).isLt; omega⟩ ⟨(j 2).val % 64, by omega⟩

/-! ## The kernel's quotient is the merged attention -/

theorem mul3 (x k : EReal) : x * scale * k = scale * (x * k) := by rw [mul_comm x scale, mul_assoc]

/-- The pair's rows and cache blocks, as the body finds them: head `h` of pair `hp`. -/
theorem ker_eq (A : Proj) (K V : Cache) (b : Fin 32) (hp : Fin 8)
    (x0 x1 x2 : Vec Ideal Cert.AttnIdeal.S4x128 .f32) (kc vc : Vec Ideal Cert.AttnIdeal.S1x2048x128 .f32) (h : Fin 2) (q : Fin 4) (d : Fin 64)
    (h0 : ∀ (q : Fin 4) (d : Fin 64), (x0 (ix2 q (ln h d)) : EReal) = new A 3072 (by omega) b ⟨2 * hp.val + h.val, by omega⟩ d q.val q.isLt)
    (h1 : ∀ (q : Fin 4) (d : Fin 64), (x1 (ix2 q (ln h d)) : EReal) = new A 4096 (by omega) b ⟨2 * hp.val + h.val, by omega⟩ d q.val q.isLt)
    (h2 : ∀ (q : Fin 4) (d : Fin 64), (x2 (ix2 q (ln h d)) : EReal) = new A 5120 (by omega) b ⟨2 * hp.val + h.val, by omega⟩ d q.val q.isLt)
    (hk : ∀ (c : Fin 2048) (d : Fin 64), (kc (ix3 0 c (ln h d)) : EReal) = K (ix5 0 b c ⟨2 * hp.val + h.val, by omega⟩ d))
    (hv : ∀ (c : Fin 2048) (d : Fin 64), (vc (ix3 0 c (ln h d)) : EReal) = V (ix5 0 b c ⟨2 * hp.val + h.val, by omega⟩ d)) :
    KER x0 x1 x2 kc vc h q d = att A K V b q ⟨2 * hp.val + h.val, by omega⟩ d := by
  have hr : (row h q).val % 4 = q.val := by have := q.isLt; have := h.isLt; show (4 * h.val + q.val) % 4 = q.val; omega
  unfold KER att
  refine attn_eq (key q.val) (fun b => key_inj b) (fun b t => key_lt q.isLt b t) (fun c => pC (row h q).val c.val) (fun j => pN (row h q).val j.val)
    (fun b c => by rw [← hr]; exact pC_key (row h q) b c) (fun b c => by rw [← hr]; exact pN_key (row h q) b c)
    (scC x0 kc h q) (scN x0 x1 h q) _ _ _ _ ?_ ?_ ?_ ?_
  · intro br t c e
    have hc := c.isLt
    unfold S scC
    rw [mul_comm, mul_sum_of_nonneg _ _ scale_nonneg scale_ne_top]
    refine Finset.sum_congr rfl fun d _ => ?_
    rw [mul3, h0, hk, e]
    unfold entry
    rw [dif_pos hc]
  · intro br t c e
    have hlt : key q.val br t - 2048 < 4 := by unfold key; have := q.isLt; omega
    have hc : c.val < 4 := by omega
    unfold S scN
    rw [mul_comm, mul_sum_of_nonneg _ _ scale_nonneg scale_ne_top]
    refine Finset.sum_congr rfl fun d _ => ?_
    rw [mul3, h0, dif_pos hc, h1, e]
    unfold entry
    rw [dif_neg (by omega), dif_pos (by omega)]
    simp only [Nat.add_sub_cancel_left]
  · intro br t c e
    have hc := c.isLt
    show W A V b q _ d br t = vc (ix3 0 c (ln h d))
    unfold W entry
    rw [hv, e, dif_pos hc]
  · intro br t c e
    have hlt : key q.val br t - 2048 < 4 := by unfold key; have := q.isLt; omega
    have hc : c.val < 4 := by omega
    unfold W vN
    rw [dif_pos hc, h2, e]
    unfold entry
    rw [dif_neg (by omega), dif_pos (by omega)]
    simp only [Nat.add_sub_cancel_left]

end Cert.AttnSpec

end
-- ==== Proof.AttnValue.lean ====
/- The result array of the decoding step's attention: every grid point writes one batch element's rows of one pair of heads. -/
module

public import proofs.«01_k».proof.Proof.AttnSpec
public import proofs.«01_k».proof.Proof.Gen.AttnIdeal.Frame
public import Idealize.ShloMosaic.Lib.Pipeline.ValueKit
public import Idealize.ShloMosaic.Lib.Pointwise
public import Idealize.ShloMosaic.Lib.Claim

@[expose] public section

set_option maxRecDepth 16384

noncomputable section

namespace Cert.AttnIdeal.Value'

open Idealize.ShloMosaic Idealize.ShloMosaic.TcCoe Idealize.SL.Sem
open Idealize.ShloMosaic.Pipeline (Dat)
open Cert.AttnIdeal Cert.AttnIdeal.Gen Cert.AttnIdeal.Point Cert.AttnMath
open Cert.AttnSpec (new)

variable (m : (ℓ : Loc nD τ sig) → Buf (Elt Ideal) ℓ)

theorem idx : ∀ t : Fin cfg0.N, win0_0.index t = ![128, 24 + t.val % 8] ∧ win0_1.index t = ![128, 32 + t.val % 8] ∧ win0_2.index t = ![128, 40 + t.val % 8]
    ∧ win0_3.index t = ![t.val / 8, 0, t.val % 8] ∧ win0_4.index t = ![t.val / 8, 0, t.val % 8] ∧ win0_5.index t = ![t.val / 8, 0, t.val % 8] :=
  (by decide +kernel : ∀ t : Fin grid0.N, _)

theorem off : ∀ t : Fin cfg0.N, k0_off1 (grid0.coords t) 0 = 4 * (t.val / 8) ∧ k0_off1 (grid0.coords t) 1 = 0 :=
  (by decide +kernel : ∀ t : Fin grid0.N, _)

/-- The four rows of a batch element in a block of 128 rows. -/
abbrev rows (i : grid0.Coords) (x : Vec Ideal S128x128 .f32) : Vec Ideal S4x128 .f32 :=
  View.ld x (Rect.unit (s := S128x128) (k0_off1 i) S4x128.size (k0_off1_inb i))

theorem lt128 (t : Fin cfg0.N) (q : Fin 4) : 4 * (t.val / 8) + q.val < 128 := by
  have ht : t.val < 256 := Nat.lt_of_lt_of_eq t.isLt N_0
  omega

theorem rows_at (t : Fin cfg0.N) (x : Vec Ideal S128x128 .f32) (q : Fin 4) (l : Fin 128) :
    rows (grid0.coords t) x (ix2 q l) = x (ix2 ⟨4 * (t.val / 8) + q.val, lt128 t q⟩ l) := by
  refine congrArg x (funext fun a => Fin.ext ?_)
  match a with
  | ⟨0, _⟩ =>
    refine (Rect.emb_apply _ _ _).trans ?_
    show k0_off1 (grid0.coords t) 0 + 1 * q.val = 4 * (t.val / 8) + q.val
    rw [(off t).1, Nat.one_mul]
  | ⟨1, _⟩ =>
    refine (Rect.emb_apply _ _ _).trans ?_
    show k0_off1 (grid0.coords t) 1 + 1 * l.val = l.val
    rw [(off t).2, Nat.one_mul, Nat.zero_add]

theorem lt32 (t : Fin cfg0.N) : t.val / 8 < 32 := by
  have ht : t.val < 256 := Nat.lt_of_lt_of_eq t.isLt N_0
  omega

/-- The arguments on a core. -/
abbrev A0 (c : Dev nD) : Cert.AttnSpec.Proj := m ((c.tc : Thread nD τ).loc main_arg0)
abbrev K0 (c : Dev nD) : Cert.AttnSpec.Cache := m ((c.tc : Thread nD τ).loc main_arg1)
abbrev W0 (c : Dev nD) : Cert.AttnSpec.Cache := m ((c.tc : Thread nD τ).loc main_arg2)

section Blocks
variable (c : Dev nD) (t : Fin cfg0.N) (h : Fin 2)

theorem rows0 (q : Fin 4) (d : Fin 64) : (rows (grid0.coords t) (iblk m c 0 t) (ix2 q (ln h d)) : EReal)
    = new (A0 m c) 3072 (by omega) ⟨t.val / 8, lt32 t⟩ ⟨2 * (t.val % 8) + h.val, by omega⟩ d q.val q.isLt := by
  refine (rows_at t _ q (ln h d)).trans ?_
  unfold new ln A0
  blk_ext [iblk, V, idx t]

theorem rows1 (q : Fin 4) (d : Fin 64) : (rows (grid0.coords t) (iblk m c 1 t) (ix2 q (ln h d)) : EReal)
    = new (A0 m c) 4096 (by omega) ⟨t.val / 8, lt32 t⟩ ⟨2 * (t.val % 8) + h.val, by omega⟩ d q.val q.isLt := by
  refine (rows_at t _ q (ln h d)).trans ?_
  unfold new ln A0
  blk_ext [iblk, V, idx t]

theorem rows2 (q : Fin 4) (d : Fin 64) : (rows (grid0.coords t) (iblk m c 2 t) (ix2 q (ln h d)) : EReal)
    = new (A0 m c) 5120 (by omega) ⟨t.val / 8, lt32 t⟩ ⟨2 * (t.val % 8) + h.val, by omega⟩ d q.val q.isLt := by
  refine (rows_at t _ q (ln h d)).trans ?_
  unfold new ln A0
  blk_ext [iblk, V, idx t]

theorem cache_at (A : FVec Ideal S1x32x2048x16x64 .f32) (b : Fin 32) (x : Fin 2048) (l : Fin 1024) :
    shapeCast S32x2048x1024 (shapeCast S32x2048x16x64 A shapeCasts_S1x32x2048x16x64_S32x2048x16x64) shapeCasts_S32x2048x16x64_S32x2048x1024 (ix3 b x l)
      = A (ix5 0 b x ⟨l.val / 64, by omega⟩ ⟨l.val % 64, by omega⟩) := by
  pointwise

theorem v1 : V m c main_v1 = shapeCast S32x2048x1024 (shapeCast S32x2048x16x64 (m ((c.tc : Thread nD τ).loc main_arg1)) shapeCasts_S1x32x2048x16x64_S32x2048x16x64) shapeCasts_S32x2048x16x64_S32x2048x1024 := by
  unfold V
  simp only [hostOps0]
  after_results_simp
  rfl

theorem v3 : V m c main_v3 = shapeCast S32x2048x1024 (shapeCast S32x2048x16x64 (m ((c.tc : Thread nD τ).loc main_arg2)) shapeCasts_S1x32x2048x16x64_S32x2048x16x64) shapeCasts_S32x2048x16x64_S32x2048x1024 := by
  unfold V
  simp only [hostOps0]
  after_results_simp
  rfl

theorem keys_block (x : Fin 2048) (l : Fin 128) : (iblk m c 3 t (ix3 0 x l) : EReal) = V m c main_v1 (ix3 ⟨t.val / 8, lt32 t⟩ x ⟨128 * (t.val % 8) + l.val, by omega⟩) := by
  blk_ext [iblk, idx t]
theorem vals_block (x : Fin 2048) (l : Fin 128) : (iblk m c 4 t (ix3 0 x l) : EReal) = V m c main_v3 (ix3 ⟨t.val / 8, lt32 t⟩ x ⟨128 * (t.val % 8) + l.val, by omega⟩) := by
  blk_ext [iblk, idx t]

theorem head_lane (C : Cert.AttnSpec.Cache) (b : Fin 32) (x : Fin 2048) (hp : Fin 8) (h : Fin 2) (d : Fin 64) (h1 h2) :
    C (ix5 0 b x ⟨(128 * hp.val + (64 * h.val + d.val)) / 64, h1⟩ ⟨(128 * hp.val + (64 * h.val + d.val)) % 64, h2⟩) = C (ix5 0 b x ⟨2 * hp.val + h.val, by omega⟩ d) := by
  have e1 : (⟨(128 * hp.val + (64 * h.val + d.val)) / 64, h1⟩ : Fin 16) = ⟨2 * hp.val + h.val, by omega⟩ := Fin.ext (by show (128 * hp.val + (64 * h.val + d.val)) / 64 = 2 * hp.val + h.val; omega)
  have e2 : (⟨(128 * hp.val + (64 * h.val + d.val)) % 64, h2⟩ : Fin 64) = d := Fin.ext (by show (128 * hp.val + (64 * h.val + d.val)) % 64 = d.val; omega)
  rw [e1, e2]

theorem keys (x : Fin 2048) (d : Fin 64) : (iblk m c 3 t (ix3 0 x (ln h d)) : EReal)
    = K0 m c (ix5 0 ⟨t.val / 8, lt32 t⟩ x ⟨2 * (t.val % 8) + h.val, by omega⟩ d) := by
  refine (keys_block m c t x (ln h d)).trans ((congrFun (v1 m c) _).trans ((cache_at _ _ x _).trans ?_))
  exact head_lane (K0 m c) ⟨t.val / 8, lt32 t⟩ x ⟨t.val % 8, by omega⟩ h d _ _

theorem vals (x : Fin 2048) (d : Fin 64) : (iblk m c 4 t (ix3 0 x (ln h d)) : EReal)
    = W0 m c (ix5 0 ⟨t.val / 8, lt32 t⟩ x ⟨2 * (t.val % 8) + h.val, by omega⟩ d) := by
  refine (vals_block m c t x (ln h d)).trans ((congrFun (v3 m c) _).trans ((cache_at _ _ x _).trans ?_))
  exact head_lane (W0 m c) ⟨t.val / 8, lt32 t⟩ x ⟨t.val % 8, by omega⟩ h d _ _

/-- What a grid point stores is the merged attention. -/
theorem point (q : Fin 4) (d : Fin 64) :
    body (rows (grid0.coords t) (iblk m c 0 t)) (rows (grid0.coords t) (iblk m c 1 t)) (rows (grid0.coords t) (iblk m c 2 t)) (iblk m c 3 t) (iblk m c 4 t) (ix3 0 q (ln h d))
      = Cert.AttnSpec.att (A0 m c) (K0 m c) (W0 m c) ⟨t.val / 8, lt32 t⟩ q ⟨2 * (t.val % 8) + h.val, by omega⟩ d :=
  (body_at _ _ _ _ _ h q d).trans (Cert.AttnSpec.ker_eq (A0 m c) (K0 m c) (W0 m c) ⟨t.val / 8, lt32 t⟩ ⟨t.val % 8, by omega⟩ _ _ _ _ _ h q d
    (rows0 m c t h) (rows1 m c t h) (rows2 m c t h) (keys m c t h) (vals m c t h))
end Blocks

theorem final (c : Dev nD) : (dats m 0 c).arrAt 5 cfg0.N
    = Cert.AttnSpec.out (m ((c.tc : Thread nD τ).loc main_arg0)) (m ((c.tc : Thread nD τ).loc main_arg1)) (m ((c.tc : Thread nD τ).loc main_arg2)) := by
  refine (dats m 0 c).arrAt_eq_of_covers 5 _ (by decide +kernel) fun t _ y => ?_
  blk_simp [idx t]
  rw [after0_5]
  unfold outsAt0
  frame_out
  show body (rows (grid0.coords t) (iblk m c 0 t)) (rows (grid0.coords t) (iblk m c 1 t)) (rows (grid0.coords t) (iblk m c 2 t)) (iblk m c 3 t) (iblk m c 4 t) y = _
  have hy0 : (y 0).val < 1 := (y 0).isLt
  have hy2 : (y 2).val < 128 := (y 2).isLt
  have ey : y = ix3 0 (y 1) (ln ⟨(y 2).val / 64, by omega⟩ ⟨(y 2).val % 64, by omega⟩) := by
    unfold ln
    blk_ext
  refine (congrArg _ ey).trans ((point m c t ⟨(y 2).val / 64, by omega⟩ (y 1) ⟨(y 2).val % 64, by omega⟩).trans ?_)
  unfold Cert.AttnSpec.out
  have ht : t.val < 256 := Nat.lt_of_lt_of_eq t.isLt N_0
  congr 1
  · refine Fin.ext ?_
    blk_simp [idx t]
  · refine Fin.ext ?_
    blk_simp [idx t]
  · refine Fin.ext ?_
    blk_simp [idx t]
    show 2 * (t.val % 8) + (y 2).val / 64 = (t.val % 8 * 128 + (y 2).val) / 64
    omega
  · refine Fin.ext ?_
    blk_simp [idx t]
    show (y 2).val % 64 = (t.val % 8 * 128 + (y 2).val) % 64
    omega

end Cert.AttnIdeal.Value'

end
-- ==== Proof.AttnRef.lean ====
/- The reference of the decoding step's attention, read at an index: the merged attention in closed form. -/
module

public import proofs.«01_k».proof.Proof.AttnSpec
public import proofs.«01_k».proof.Proof.Gen.AttnRefIdeal.Run
public import Idealize.ShloMosaic.Lib.Pointwise

@[expose] public section

set_option maxRecDepth 16384

noncomputable section

namespace Cert.AttnRefIdeal.At

open Idealize.ShloMosaic Idealize.ShloMosaic.TcCoe Idealize.SL.Sem
open Cert.AttnRefIdeal Cert.AttnRefIdeal.Gen Cert.AttnRefIdeal.Value Cert.AttnMath
open Cert.AttnIdeal.Point (key dil scale ninf)
open Cert.AttnSpec (Proj Cache new entry)

/-! ## The gather -/

abbrev rowsDims := gather_S32x2052x16x64_S4x129x1_S32x4x129x16x64_034_1_n_n_1_2_3211664

/-- The gathered rows: the key named by the start index, clamped to the array. -/
theorem gather_at (x : FVec Ideal S32x2052x16x64 .f32) (idx : IVec S4x129x1 32) (b : Fin 32) (q : Fin 4) (t : Fin 129) (h : Fin 16) (d : Fin 64) :
    Host.gather gather_S32x2052x16x64_S4x129x1_S32x4x129x16x64_034_1_n_n_1_2_3211664 x idx (ix5 b q t h d)
      = x (ix4 b ⟨min (idx (ix3 q t 0)).toInt.toNat 2051, by omega⟩ h d) := by
  unfold Host.gather
  congr 1
  funext a
  refine Fin.ext ?_
  show rowsDims.start (ix5 b q t h d) idx a + rowsDims.batchCoord (ix5 b q t h d) a + rowsDims.offCoord (ix5 b q t h d) a = _
  rw [GatherDims.batchCoord_eq_zero _ _ _ (show a ∉ ([] : List (Fin 4)) from List.not_mem_nil), Nat.add_zero]
  have hs (ha : a ≠ (1 : Fin 4)) : rowsDims.start (ix5 b q t h d) idx a = 0 := by
    unfold GatherDims.start
    exact dif_neg fun h => ha (List.mem_singleton.mp h)
  have hk (ha : a ≠ (1 : Fin 4)) : a ∈ rowsDims.sKept :=
    (GatherDims.mem_sKept _ _).mpr ⟨fun h => ha (List.mem_singleton.mp h), List.not_mem_nil⟩
  have ho (ha : a ≠ (1 : Fin 4)) : rowsDims.offCoord (ix5 b q t h d) a
      = ((ix5 b q t h d) (rowsDims.offsetDims[rowsDims.sKept.idxOf a]'(by
          rw [rowsDims.offset_length]
          exact List.idxOf_lt_length_iff.2 (hk ha)))).val := by
    unfold GatherDims.offCoord
    exact dif_pos (hk ha)
  match a with
  | ⟨0, _⟩ => rw [hs (Fin.ne_of_val_ne (show (0 : ℕ) ≠ 1 by decide)), ho (Fin.ne_of_val_ne (show (0 : ℕ) ≠ 1 by decide)), Nat.zero_add]; rfl
  | ⟨2, _⟩ => rw [hs (Fin.ne_of_val_ne (show (2 : ℕ) ≠ 1 by decide)), ho (Fin.ne_of_val_ne (show (2 : ℕ) ≠ 1 by decide)), Nat.zero_add]; rfl
  | ⟨3, _⟩ => rw [hs (Fin.ne_of_val_ne (show (3 : ℕ) ≠ 1 by decide)), ho (Fin.ne_of_val_ne (show (3 : ℕ) ≠ 1 by decide)), Nat.zero_add]; rfl
  | ⟨1, _⟩ =>
    rw [GatherDims.offCoord_eq_zero _ _ _ (fun h => ((GatherDims.mem_sKept _ _).mp h).1 (List.mem_singleton.mpr rfl)), Nat.add_zero]
    unfold GatherDims.start
    refine (dif_pos (show (1 : Fin 4) ∈ ([1] : List (Fin 4)) from List.mem_singleton.mpr rfl)).trans ?_
    refine congrArg (fun i => min (idx i).toInt.toNat 2051) (?_ : rowsDims.siIdx (ix5 b q t h d) _ = ix3 q t 0)
    funext c
    refine Fin.ext ?_
    match c with
    | ⟨0, _⟩ => rfl
    | ⟨1, _⟩ => rfl
    | ⟨2, _⟩ => rfl

/-! ## The start indices -/

theorem word_key : ∀ (q : Fin 4) (t : Fin 129) (br : Fin 3),
    IntOp.subi (IntOp.addi 2048#32 (BitVec.ofNat 32 q.val)) (IntOp.muli (BitVec.ofNat 32 (dil br)) (BitVec.ofNat 32 t.val)) = BitVec.ofNat 32 (key q.val br t) := by
  decide +kernel

/-- A branch's start index after the clamp and the wrap of negative indices. -/
def wrap (w : BitVec 32) : BitVec 32 :=
  Scalar.select (IntOp.cmpi .slt (IntOp.maxsi w 0#32) 0#32) (IntOp.addi (IntOp.maxsi w 0#32) 2052#32) (IntOp.maxsi w 0#32)

theorem wrap_key : ∀ (q : Fin 4) (t : Fin 129) (br : Fin 3),
    min (wrap (BitVec.ofNat 32 (key q.val br t))).toInt.toNat 2051 = key q.val br t ∧ IntOp.cmpi .sge (BitVec.ofNat 32 (key q.val br t)) 0#32 = 1#1 := by
  decide +kernel

theorem key_lt' (q : Fin 4) (br : Fin 3) (t : Fin 129) : key q.val br t < 2052 := by
  have := q.isLt
  unfold key
  omega

/-- The rows gathered at a branch's start indices are the branch's keys. -/
theorem gathered (x : FVec Ideal S32x2052x16x64 .f32) (w : IVec S4x129 32) (br : Fin 3) (b : Fin 32) (q : Fin 4) (t : Fin 129) (h : Fin 16) (d : Fin 64)
    (hw : w (ix2 q t) = BitVec.ofNat 32 (key q.val br t)) :
    Host.gather gather_S32x2052x16x64_S4x129x1_S32x4x129x16x64_034_1_n_n_1_2_3211664 x
      (broadcastInDim S4x129x1 ![0, 1] bcast_S4x129_S4x129x1_0_1
        (select (cmpi .slt (maxsi w (broadcastInDim S4x129 ![] bcast_S_S4x129 (constantI S_ 32 0#32))) (broadcastInDim S4x129 ![] bcast_S_S4x129 (constantI S_ 32 0#32)))
          (addi (maxsi w (broadcastInDim S4x129 ![] bcast_S_S4x129 (constantI S_ 32 0#32))) (broadcastInDim S4x129 ![] bcast_S_S4x129 (constantI S_ 32 2052#32)))
          (maxsi w (broadcastInDim S4x129 ![] bcast_S_S4x129 (constantI S_ 32 0#32))))) (ix5 b q t h d)
      = x (ix4 b ⟨key q.val br t, key_lt' q br t⟩ h d) := by
  refine (gather_at _ _ b q t h d).trans ?_
  refine congrArg (fun c => x (ix4 b c h d)) (Fin.ext ?_)
  refine Eq.trans ?_ (wrap_key q t br).1
  rw [← hw]
  show min (_ : BitVec 32).toInt.toNat 2051 = _
  refine congrArg (fun w : BitVec 32 => min w.toInt.toNat 2051) ?_
  pointwise
  rfl

variable (V0 : Valuation τ sig (Elt Ideal))

theorem v20_at (q : Fin 4) (t : Fin 129) : res_main_v20 V0 (ix2 q t) = BitVec.ofNat 32 (key q.val 0 t) := by
  have e := word_key q t 0
  pointwise [res_main_v20]
  exact e
theorem v61_at (q : Fin 4) (t : Fin 129) : res_main_v61 V0 (ix2 q t) = BitVec.ofNat 32 (key q.val 1 t) := by
  have e := word_key q t 1
  pointwise [res_main_v61]
  exact e
theorem v102_at (q : Fin 4) (t : Fin 129) : res_main_v102 V0 (ix2 q t) = BitVec.ofNat 32 (key q.val 2 t) := by
  have e := word_key q t 2
  pointwise [res_main_v102]
  exact e

/-! ## Keys and values -/

abbrev A (V0 : Valuation τ sig (Elt Ideal)) : Proj := V0 (Proc.devRef .tc main_arg0)
abbrev K (V0 : Valuation τ sig (Elt Ideal)) : Cache := V0 (Proc.devRef .tc main_arg1)
abbrev W (V0 : Valuation τ sig (Elt Ideal)) : Cache := V0 (Proc.devRef .tc main_arg2)

theorem q_at (b : Fin 32) (q : Fin 4) (h : Fin 16) (d : Fin 64) : res_main_v1 V0 (ix4 b q h d) = new (A V0) 3072 (by omega) b h d q.val q.isLt := by
  pointwise [res_main_v1]
  unfold new
  blk_ext

theorem k_at (b : Fin 32) (c : Fin 2052) (h : Fin 16) (d : Fin 64) : res_main_v8 V0 (ix4 b c h d) = entry (A V0) (K V0) 4096 (by omega) b h d c.val := by
  have hc := c.isLt
  pointwise [res_main_v8]
  unfold entry
  by_cases e : c.val < 2048
  · rw [dif_pos e, dif_pos e]
  · rw [dif_neg e, dif_neg e, dif_pos (by omega)]
    unfold new
    blk_ext

theorem v_at (b : Fin 32) (c : Fin 2052) (h : Fin 16) (d : Fin 64) : res_main_v9 V0 (ix4 b c h d) = entry (A V0) (W V0) 5120 (by omega) b h d c.val := by
  have hc := c.isLt
  pointwise [res_main_v9]
  unfold entry
  by_cases e : c.val < 2048
  · rw [dif_pos e, dif_pos e]
  · rw [dif_neg e, dif_neg e, dif_pos (by omega)]
    unfold new
    blk_ext

/-! ## Scores -/

theorem s0_at (b : Fin 32) (q : Fin 4) (h : Fin 16) (t : Fin 129) : res_main_v43 V0 (ix4 b q h t) = Cert.AttnSpec.S (A V0) (K V0) b q h 0 t := by
  have e := v20_at V0 q t
  have e' := (wrap_key q t 0).2
  have g := fun x : Fin 64 => gathered (res_main_v8 V0) (res_main_v20 V0) 0 b q t h x e
  pointwise [res_main_v43, res_main_v24, e]
  rw [e']
  simp only [g, q_at, k_at]
  rfl

theorem s1_at (b : Fin 32) (q : Fin 4) (h : Fin 16) (t : Fin 129) : res_main_v84 V0 (ix4 b q h t) = Cert.AttnSpec.S (A V0) (K V0) b q h 1 t := by
  have e := v61_at V0 q t
  have e' := (wrap_key q t 1).2
  have g := fun x : Fin 64 => gathered (res_main_v8 V0) (res_main_v61 V0) 1 b q t h x e
  pointwise [res_main_v84, res_main_v65, e]
  rw [e']
  simp only [g, q_at, k_at]
  rfl

theorem s2_at (b : Fin 32) (q : Fin 4) (h : Fin 16) (t : Fin 129) : res_main_v125 V0 (ix4 b q h t) = Cert.AttnSpec.S (A V0) (K V0) b q h 2 t := by
  have e := v102_at V0 q t
  have e' := (wrap_key q t 2).2
  have g := fun x : Fin 64 => gathered (res_main_v8 V0) (res_main_v102 V0) 2 b q t h x e
  pointwise [res_main_v125, res_main_v106, e]
  rw [e']
  simp only [g, q_at, k_at]
  rfl

theorem m0_at (b : Fin 32) (q : Fin 4) (h : Fin 16) : res_main_v44 V0 (ix3 b q h) = bmax (Cert.AttnSpec.S (A V0) (K V0) b q h) 0 := by
  pointwise [res_main_v44]
  rw [ninf]
  refine (Shape.ReducesTo.fold_fiber_r4_a3 reducesTo_S32x4x16x129_S32x4x16_d3 (ix3 b q h) (max : EReal → EReal → EReal) (⊥ : EReal) _).trans ?_
  exact Finset.fold_congr fun t _ => s0_at V0 b q h t

theorem e0_at (b : Fin 32) (q : Fin 4) (h : Fin 16) (t : Fin 129) : res_main_v48 V0 (ix4 b q h t)
    = Ideal.exp (Cert.AttnSpec.S (A V0) (K V0) b q h 0 t - bmax (Cert.AttnSpec.S (A V0) (K V0) b q h) 0) := by
  have e1 := s0_at V0 b q h t
  have e2 := m0_at V0 b q h
  pointwise [res_main_v48, e1, e2]

theorem m1_at (b : Fin 32) (q : Fin 4) (h : Fin 16) : res_main_v85 V0 (ix3 b q h) = bmax (Cert.AttnSpec.S (A V0) (K V0) b q h) 1 := by
  pointwise [res_main_v85]
  rw [ninf]
  refine (Shape.ReducesTo.fold_fiber_r4_a3 reducesTo_S32x4x16x129_S32x4x16_d3 (ix3 b q h) (max : EReal → EReal → EReal) (⊥ : EReal) _).trans ?_
  exact Finset.fold_congr fun t _ => s1_at V0 b q h t

theorem e1_at (b : Fin 32) (q : Fin 4) (h : Fin 16) (t : Fin 129) : res_main_v89 V0 (ix4 b q h t)
    = Ideal.exp (Cert.AttnSpec.S (A V0) (K V0) b q h 1 t - bmax (Cert.AttnSpec.S (A V0) (K V0) b q h) 1) := by
  have e1 := s1_at V0 b q h t
  have e2 := m1_at V0 b q h
  pointwise [res_main_v89, e1, e2]

theorem m2_at (b : Fin 32) (q : Fin 4) (h : Fin 16) : res_main_v126 V0 (ix3 b q h) = bmax (Cert.AttnSpec.S (A V0) (K V0) b q h) 2 := by
  pointwise [res_main_v126]
  rw [ninf]
  refine (Shape.ReducesTo.fold_fiber_r4_a3 reducesTo_S32x4x16x129_S32x4x16_d3 (ix3 b q h) (max : EReal → EReal → EReal) (⊥ : EReal) _).trans ?_
  exact Finset.fold_congr fun t _ => s2_at V0 b q h t

theorem e2_at (b : Fin 32) (q : Fin 4) (h : Fin 16) (t : Fin 129) : res_main_v130 V0 (ix4 b q h t)
    = Ideal.exp (Cert.AttnSpec.S (A V0) (K V0) b q h 2 t - bmax (Cert.AttnSpec.S (A V0) (K V0) b q h) 2) := by
  have e1 := s2_at V0 b q h t
  have e2 := m2_at V0 b q h
  pointwise [res_main_v130, e1, e2]

theorem mm_at (br : Fin 3) (b : Fin 32) (q : Fin 4) (h : Fin 16) : res_main_v136 V0 (ix4 br b q h) = bmax (Cert.AttnSpec.S (A V0) (K V0) b q h) br := by
  pointwise [res_main_v136]
  obtain rfl | rfl | rfl : br = 0 ∨ br = 1 ∨ br = 2 := by revert br; decide
  · exact (dif_pos (show (0 : ℕ) < 1 by decide)).trans (m0_at V0 b q h)
  · exact (dif_neg (show ¬ (1 : ℕ) < 1 by decide)).trans ((dif_pos (show (1 : ℕ) - 1 < 1 by decide)).trans (m1_at V0 b q h))
  · exact (dif_neg (show ¬ (2 : ℕ) < 1 by decide)).trans ((dif_neg (show ¬ (2 : ℕ) - 1 < 1 by decide)).trans (m2_at V0 b q h))

theorem w_at (br : Fin 3) (b : Fin 32) (q : Fin 4) (h : Fin 16) : res_main_v149 V0 (ix4 br b q h)
    = Ideal.exp (bmax (Cert.AttnSpec.S (A V0) (K V0) b q h) br - tmax (Cert.AttnSpec.S (A V0) (K V0) b q h)) := by
  have e := fun br => mm_at V0 br b q h
  pointwise [res_main_v149]
  rw [ninf, e br]
  refine congrArg (fun x : EReal => Ideal.exp (bmax (Cert.AttnSpec.S (A V0) (K V0) b q h) br - x)) ?_
  refine (Shape.ReducesTo.fold_fiber_r4_a0 reducesTo_S3x32x4x16_S32x4x16_d0 (ix3 b q h) max ⊥ _).trans ?_
  exact Finset.fold_congr fun br _ => e br

theorem three (x : Fin 3) (f : Fin 3 → EReal) : (if h : x.val < 1 then f 0 else if h : x.val - 1 < 1 then f 1 else f 2) = f x := by
  obtain rfl | rfl | rfl : x = 0 ∨ x = 1 ∨ x = 2 := by revert x; decide
  · rfl
  · rfl
  · rfl

end Cert.AttnRefIdeal.At

end
-- ==== Proof.AttnRefRun.lean ====
/- The run of the attention's reference. -/
module

public import proofs.«01_k».proof.Proof.AttnRef

@[expose] public section

set_option maxRecDepth 16384

noncomputable section

namespace Cert.AttnRefIdeal.At

open Idealize.ShloMosaic Idealize.ShloMosaic.TcCoe Idealize.SL.Sem
open Cert.AttnRefIdeal Cert.AttnRefIdeal.Gen Cert.AttnRefIdeal.Value Cert.AttnMath
open Cert.AttnIdeal.Point (key dil scale ninf)
open Cert.AttnSpec (Proj Cache new entry)

/-- The merged quotient of three branches. -/
def quot (s w : Fin 3 → Fin 129 → EReal) : EReal :=
  Ideal.div (∑ br, Ideal.exp (bmax s br - tmax s) * ∑ t, Ideal.exp (s br t - bmax s br) * w br t) (∑ br, Ideal.exp (bmax s br - tmax s) * ∑ t, Ideal.exp (s br t - bmax s br))

theorem quot_three (s : Fin 3 → Fin 129 → EReal) (w0 w1 w2 : Fin 129 → EReal) :
    Ideal.div
      (∑ x : Fin 3, Ideal.exp (bmax s x - tmax s) * (if h : x.val < 1 then ∑ t, Ideal.exp (s 0 t - bmax s 0) * w0 t
        else if h : x.val - 1 < 1 then ∑ t, Ideal.exp (s 1 t - bmax s 1) * w1 t else ∑ t, Ideal.exp (s 2 t - bmax s 2) * w2 t))
      (∑ x : Fin 3, Ideal.exp (bmax s x - tmax s) * (if h : x.val < 1 then ∑ t, Ideal.exp (s 0 t - bmax s 0)
        else if h : x.val - 1 < 1 then ∑ t, Ideal.exp (s 1 t - bmax s 1) else ∑ t, Ideal.exp (s 2 t - bmax s 2)))
      = quot s ![w0, w1, w2] :=
  congrArg₂ Ideal.div
    (Finset.sum_congr rfl fun br _ => congrArg (fun x : EReal => Ideal.exp (bmax s br - tmax s) * x)
      (three br fun br => ∑ t, Ideal.exp (s br t - bmax s br) * (![w0, w1, w2] : Fin 3 → Fin 129 → EReal) br t))
    (Finset.sum_congr rfl fun br _ => congrArg (fun x : EReal => Ideal.exp (bmax s br - tmax s) * x) (three br fun br => ∑ t, Ideal.exp (s br t - bmax s br)))

theorem att_quot (A : Proj) (K V : Cache) (b : Fin 32) (q : Fin 4) (h : Fin 16) (d : Fin 64) :
    quot (Cert.AttnSpec.S A K b q h) ![Cert.AttnSpec.W A V b q h d 0, Cert.AttnSpec.W A V b q h d 1, Cert.AttnSpec.W A V b q h d 2] = Cert.AttnSpec.att A K V b q h d := by
  have e : (![Cert.AttnSpec.W A V b q h d 0, Cert.AttnSpec.W A V b q h d 1, Cert.AttnSpec.W A V b q h d 2] : Fin 3 → Fin 129 → EReal) = Cert.AttnSpec.W A V b q h d := by
    funext br
    obtain rfl | rfl | rfl : br = 0 ∨ br = 1 ∨ br = 2 := by revert br; decide
    · rfl
    · rfl
    · rfl
  rw [e]
  rfl

/-- The reference ends with the merged attention as its result. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v159) = Cert.AttnSpec.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run m ρ)
  funext j
  idx_vars j
  show _ = Cert.AttnSpec.att (A (StableHlo.launchContents m c)) (K (StableHlo.launchContents m c)) (W (StableHlo.launchContents m c)) j0 j1 _ _
  generalize StableHlo.launchContents m c = V0
  pointwise [res_main_v24, res_main_v65, res_main_v106]
  have g0 := fun (t : Fin 129) (h : Fin 16) (d : Fin 64) => gathered (res_main_v9 V0) (res_main_v20 V0) 0 j0 j1 t h d (v20_at V0 j1 t)
  have g1 := fun (t : Fin 129) (h : Fin 16) (d : Fin 64) => gathered (res_main_v9 V0) (res_main_v61 V0) 1 j0 j1 t h d (v61_at V0 j1 t)
  have g2 := fun (t : Fin 129) (h : Fin 16) (d : Fin 64) => gathered (res_main_v9 V0) (res_main_v102 V0) 2 j0 j1 t h d (v102_at V0 j1 t)
  simp only [w_at, e0_at, e1_at, e2_at, g0, g1, g2, v_at]
  clear g0 g1 g2
  refine Eq.trans ?_ (att_quot (A V0) (K V0) (W V0) j0 j1 _ _)
  refine Eq.trans ?_ (quot_three _ _ _ _)
  simp only [Cert.AttnSpec.W]

end Cert.AttnRefIdeal.At

end
-- ==== Proof.AttnClaim.lean ====
/- The claims about the decoding step's attention. -/
module

public import proofs.«01_k».proof.Defs
public import proofs.«01_k».proof.Proof.Gen.Attn.Frame
public import proofs.«01_k».proof.Proof.Gen.AttnIdeal.Value
public import proofs.«01_k».proof.Proof.AttnValue
public import proofs.«01_k».proof.Proof.AttnRefRun
public import Idealize.ShloMosaic.Lib.Claim

@[expose] public section

set_option maxRecDepth 16384

noncomputable section

namespace Cert.Proof

open Idealize.ShloMosaic Idealize.ShloMosaic.TcCoe Idealize.SL.Sem

instance attnFacts : Cert.Attn.Facts := Cert.Attn.Gen.facts
instance attnIdealFacts : Cert.AttnIdeal.Facts := Cert.AttnIdeal.Gen.facts
instance attnRefFacts : Cert.AttnRefIdeal.Facts := Cert.AttnRefIdeal.Gen.facts

theorem attn_quiescent : Cert.quiescent_Attn := fun m ρ _ => Cert.Attn.Gen.frame m ρ
theorem attnIdeal_quiescent : Cert.quiescent_AttnIdeal := fun m ρ _ => Cert.AttnIdeal.Gen.frame m ρ
theorem attnRef_quiescent : Cert.quiescent_AttnRefIdeal := fun m g _ =>
  (θ_run _ _ _).mono (fun r h => ⟨fun c => (h c).2, sem_eq_zero_of_no_sems rfl _⟩) (Cert.AttnRefIdeal.At.run m g)

theorem attn_preserves : Cert.preserves_Attn_AttnIdeal := by
  exact IdealRules.named_const.statement _ _ _ _ _ rfl

theorem attn_algebraic : Cert.algebraic_AttnIdeal_AttnRefIdeal := by
  pair_intro
  · run_from Cert.AttnIdeal.Gen.run_main m g
  · run_from Cert.AttnRefIdeal.At.run m' g'
    exact (Cert.AttnIdeal.Value'.final m c).symm

end Cert.Proof

end
-- ==== Proof.ProjSpec.lean ====
/- The input projection in closed form: every row normalized by its root mean square and weighted, then multiplied by the
   projection's columns. -/
module

public import Idealize.ShloMosaic.Lib.Pointwise

@[expose] public section

set_option maxRecDepth 16384

noncomputable section

namespace Cert.ProjSpec

open Idealize.ShloMosaic Idealize.ShloMosaic.TcCoe

abbrev Prompt := (⟨3, ![2, 8192, 2048]⟩ : Shape).Idx → EReal
abbrev Sample := (⟨3, ![32, 4, 2048]⟩ : Shape).Idx → EReal
abbrev Norm := (⟨2, ![1, 2048]⟩ : Shape).Idx → EReal
abbrev Weight := (⟨3, ![1, 2048, 8224]⟩ : Shape).Idx → EReal

/-- The rows: the prompt's, then the sample's. -/
def X (P : Prompt) (S : Sample) (r : Fin 16512) (k : Fin 2048) : EReal :=
  if h : r.val < 16384 then P (ix3 ⟨r.val / 8192, by omega⟩ ⟨r.val % 8192, by omega⟩ k)
  else S (ix3 ⟨(r.val - 16384) / 4, by omega⟩ ⟨(r.val - 16384) % 4, by omega⟩ k)

/-- A row normalized and weighted. -/
def normed (x : Fin 2048 → EReal) (g : Norm) (k : Fin 2048) : EReal :=
  x k * Ideal.rsqrt (Ideal.div (∑ k, x k * x k) (Ideal.ofBits .f32 0x45000000#32) + Ideal.ofBits .f32 0x3727C5AC#32) * g (ix2 0 k)

/-- A normalized row times a column of the projection. -/
def prod (x : Fin 2048 → EReal) (g : Norm) (w : Weight) (j : Fin 8224) : EReal := ∑ k, normed x g k * w (ix3 0 k j)

/-- The projection's column that lands in column `j` of the wide result. -/
def perm (j : Fin 8192) : Fin 8224 := ⟨if j.val < 3072 then 5120 + j.val else j.val - 3072, by split <;> omega⟩

def wide (P : Prompt) (S : Sample) (g : Norm) (w : Weight) (r : Fin 16512) (j : Fin 8192) : EReal := prod (X P S r) g w (perm j)
def narrow (P : Prompt) (S : Sample) (g : Norm) (w : Weight) (r : Fin 16512) (j : Fin 128) : EReal :=
  if h : j.val < 32 then prod (X P S r) g w ⟨8192 + j.val, by omega⟩ else 0

/-- The two results as arrays. -/
def wideArr (P : Prompt) (S : Sample) (g : Norm) (w : Weight) : (⟨2, ![16512, 8192]⟩ : Shape).Idx → EReal := fun j => wide P S g w (j 0) (j 1)
def narrowArr (P : Prompt) (S : Sample) (g : Norm) (w : Weight) : (⟨2, ![16512, 128]⟩ : Shape).Idx → EReal := fun j => narrow P S g w (j 0) (j 1)

end Cert.ProjSpec

end
-- ==== Proof.ProjBody.lean ====
/- The input projection's body, run: in the first column block of a row block it normalizes the rows into the scratch and
   writes the narrow result; in every column block it multiplies the scratch by the block's weights. The scratch and the
   narrow result's block are carried over the column blocks of a row block. -/
module

public import proofs.«01_k».proof.Proof.Gen.ProjIdeal.Skeleton
public import proofs.«01_k».proof.Proof.Gen.ProjIdeal.Frame
public import Idealize.ShloMosaic.Lib.Pipeline.ValueKit
public import Idealize.ShloMosaic.Lib.VecWindow
public import Idealize.ShloMosaic.Lib.Claim

@[expose] public section

set_option maxRecDepth 16384

noncomputable section

namespace Cert.ProjIdeal.Body

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first column block of a row block. -/
abbrev first (i : grid0.Coords) : Prop := k0_cond1 i = 1#1

theorem first_iff (t : Fin cfg0.N) : first (grid0.coords t) ↔ t.val % 8 = 0 := by
  have ht : t.val < 344 := Nat.lt_of_lt_of_eq t.isLt N_0
  have e0 : (grid0.coords t 0).val = t.val / 8 % 43 := Pipeline.Grid.coords_val t 0 (by decide) rfl
  have e1 : (grid0.coords t 1).val = t.val / 1 % 8 := Pipeline.Grid.coords_val t 1 (by decide) rfl
  simp only [first, k0_cond1, e0, e1]
  word_cmp

section Runs
variable (c : Dev nD) (i : grid0.Coords) (arg2 : Memref sig .tc .vmem S384x2048 .f32) (harg2 : arg2.IsWhole) (arg3 : Memref sig .tc .vmem S1x2048 .f32) (harg3 : arg3.IsWhole)
  (arg4 : Memref sig .tc .vmem S2048x1024 .bf16) (harg4 : arg4.IsWhole) (arg5 : Memref sig .tc .vmem S2048x128 .bf16) (harg5 : arg5.IsWhole)
  (arg6 : Memref sig .tc .vmem S384x1024 .f32) (harg6 : arg6.IsWhole) (arg7 : Memref sig .tc .vmem S384x128 .f32) (harg7 : arg7.IsWhole) (arg8 : Memref sig .tc .vmem S384x2048 .bf16) (harg8 : arg8.IsWhole)
  (x0 : Vec F S384x2048 .f32) (x1 : Vec F S1x2048 .f32) (x2 : Vec F S2048x1024 .bf16) (x3 : Vec F S2048x128 .bf16)

set_option maxHeartbeats 1000000 in
/-- The first column block: the scratch and both results' blocks written. -/
theorem run_first (h : first i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay4 (k0_pay2 x0 x1) x2) ∗ owns (c : Thread nD τ) arg7 fullShare (k0_pay3 x0 x1 x3) ∗ owns (c : Thread nD τ) arg8 fullShare (k0_pay2 x0 x1)) -∗ K ⟨⟩))
      ⊢ wp frame (wpE (defs₀ (F := F)) Variants.none c none) E (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | sl_exact h)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_full _ _ _ _ _).trans (congrArg₂ k0_pay4 ?_ ((View.readAt_full _ _ _).trans (harg4.read_unread _)))
    unfold run_first.sl.v3 run_first.sl.HS0_1
    exact (View.readCov_full _ _ _ _ _).trans (congrArg₂ k0_pay2 ((View.readAt_full _ _ _).trans (harg2.read_unread _)) ((View.readAt_full _ _ _).trans (harg3.read_unread _)))
  isplitl [H5]
  · iexists _; isplitr; swap; · iexact H5
    ipureintro
    refine (View.read_writes_full _ _ _ _ _).trans ?_
    rw [(View.readAt_full _ _ _).trans (harg2.read_unread _), (View.readAt_full _ _ _).trans (harg3.read_unread _), (View.readAt_full _ _ _).trans (harg5.read_unread _)]
  iexists _; isplitr; swap; · iexact HS0
  ipureintro
  unfold run_first.sl.HS0_1
  exact (View.read_writes_full _ _ _ _ _).trans (congrArg₂ k0_pay2 ((View.readAt_full _ _ _).trans (harg2.read_unread _)) ((View.readAt_full _ _ _).trans (harg3.read_unread _)))

set_option maxHeartbeats 1000000 in
/-- A later column block: the scratch read, the narrow result's block left. -/
theorem run_later (h : ¬ first i) (xs : Vec F S384x2048 .bf16) (x5 : Vec F S384x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare x5 ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay4 xs x2) ∗ owns (c : Thread nD τ) arg7 fullShare x5 ∗ owns (c : Thread nD τ) arg8 fullShare xs) -∗ K ⟨⟩))
      ⊢ wp frame (wpE (defs₀ (F := F)) Variants.none c none) E (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
  obtain rfl := harg2.eq_unread hf0; obtain rfl := harg3.eq_unread hf1; obtain rfl := harg4.eq_unread hf2; obtain rfl := harg5.eq_unread hf3
  obtain rfl := harg7.eq_unread hf5; obtain rfl := harg8.eq_unread hfs0
  sl_exec (disch := first | sl_exact h)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact (View.read_writes_full _ _ _ _ _).trans (congrArg₂ k0_pay4 ((View.readAt_full _ _ _).trans (harg8.read_unread _)) ((View.readAt_full _ _ _).trans (harg4.read_unread _)))
  isplitl [H5]
  · iexists _; isplitr; · ipureintro; exact harg7.read_unread _
    iexact H5
  iexists _; isplitr; · ipureintro; exact harg8.read_unread _
  iexact HS0

end Runs

/-! ## The points -/

abbrev ms0 (t : Fin cfg0.N) : Memref sig .tc .vmem S384x2048 .f32 := win0_0.stage (cfg0.slots t 0)
abbrev ms1 (t : Fin cfg0.N) : Memref sig .tc .vmem S1x2048 .f32 := win0_1.stage (cfg0.slots t 1)
abbrev ms2 (t : Fin cfg0.N) : Memref sig .tc .vmem S2048x1024 .bf16 := win0_2.stage (cfg0.slots t 2)
abbrev ms3 (t : Fin cfg0.N) : Memref sig .tc .vmem S2048x128 .bf16 := win0_3.stage (cfg0.slots t 3)
abbrev ms4 (t : Fin cfg0.N) : Memref sig .tc .vmem S384x1024 .f32 := win0_4.stage (cfg0.slots t 4)
abbrev ms5 (t : Fin cfg0.N) : Memref sig .tc .vmem S384x128 .f32 := win0_5.stage (cfg0.slots t 5)
abbrev scratch : Memref sig .tc .vmem S384x2048 .bf16 := Memref.whole cc0_scratch0

/-- The rows a row block normalizes, as every one of its points' blocks give them. -/
def rows (c : Dev nD) (t : Fin cfg0.N) : Vec F S384x2048 .bf16 := k0_pay2 (iblk m c 0 t) (iblk m c 1 t)

/-- The wide and the narrow result's blocks. -/
def wide (c : Dev nD) (t : Fin cfg0.N) : Vec F S384x1024 .f32 := k0_pay4 (rows m c t) (iblk m c 2 t)
def narrow (c : Dev nD) (t : Fin cfg0.N) : Vec F S384x128 .f32 := k0_pay3 (iblk m c 0 t) (iblk m c 1 t) (iblk m c 3 t)

theorem index_at : ∀ t : Fin cfg0.N, win0_0.index t = ![t.val / 8, 0] ∧ win0_1.index t = ![0, 0] ∧ win0_2.index t = ![0, t.val % 8]
    ∧ win0_3.index t = ![0, 0] ∧ win0_4.index t = ![t.val / 8, t.val % 8] ∧ win0_5.index t = ![t.val / 8, 0] :=
  (by decide +kernel : ∀ t : Fin grid0.N, _)

/-- The point before. -/
abbrev prev (t : Fin cfg0.N) : Fin cfg0.N := ⟨t.val - 1, Nat.lt_of_le_of_lt (Nat.sub_le _ _) t.isLt⟩

theorem iblk0_prev (c : Dev nD) (t : Fin cfg0.N) (h : ¬ t.val % 8 = 0) : iblk m c 0 (prev t) = iblk m c 0 t := by
  have hp : (prev t).val / 8 = t.val / 8 := by show (t.val - 1) / 8 = _; omega
  funext y
  blk_ext [iblk, index_at t, index_at (prev t), hp]

theorem iblk1_prev (c : Dev nD) (t : Fin cfg0.N) : iblk m c 1 (prev t) = iblk m c 1 t := by
  funext y
  blk_ext [iblk, index_at t, index_at (prev t)]

theorem iblk3_prev (c : Dev nD) (t : Fin cfg0.N) : iblk m c 3 (prev t) = iblk m c 3 t := by
  funext y
  blk_ext [iblk, index_at t, index_at (prev t)]

theorem rows_prev (c : Dev nD) (t : Fin cfg0.N) (h : ¬ t.val % 8 = 0) : rows m c (prev t) = rows m c t :=
  congrArg₂ k0_pay2 (iblk0_prev m c t h) (iblk1_prev m c t)

theorem narrow_prev (c : Dev nD) (t : Fin cfg0.N) (h : ¬ t.val % 8 = 0) : narrow m c (prev t) = narrow m c t := by
  unfold narrow
  exact (congrArg₂ (fun a b => k0_pay3 a b (iblk m c 3 (prev t))) (iblk0_prev m c t h) (iblk1_prev m c t)).trans
    (congrArg (k0_pay3 (iblk m c 0 t) (iblk m c 1 t)) (iblk3_prev m c t))

/-- What is carried between the points: before the first anything, after each its rows in the scratch. -/
def carried (c : Dev nD) (n : Fin (cfg0.N + 1)) : sProp 𝕄 :=
  if h : n.val = 0 then Pipeline.ΦA spec0 c
  else iprop(owns (c : Thread nD τ) scratch fullShare (rows m c ⟨n.val - 1, by omega⟩) ∗ (∃ r, prngReg c r))

theorem carried_zero (c : Dev nD) : carried m c 0 = Pipeline.ΦA spec0 c := by unfold carried; exact dif_pos rfl
theorem carried_succ (c : Dev nD) (t : Fin cfg0.N) :
    carried m c t.succ = iprop(owns (c : Thread nD τ) scratch fullShare (rows m c t) ∗ (∃ r, prngReg c r)) := by
  unfold carried; rw [dif_neg (by simp)]; rfl
theorem carried_castSucc (c : Dev nD) (t : Fin cfg0.N) (h : ¬ t.val = 0) :
    carried m c t.castSucc = iprop(owns (c : Thread nD τ) scratch fullShare (rows m c (prev t)) ∗ (∃ r, prngReg c r)) := by
  unfold carried; rw [dif_neg (by simpa using h)]; rfl

theorem any_eq (c : Dev nD) :
    (Pipeline.ΦA spec0 c : sProp 𝕄) = iprop(iprop((∃ d, owns (c : Thread nD τ) scratch fullShare d)) ∗ (∃ r, prngReg c r)) := by
  unfold Pipeline.ΦA; rw [scopedRest0_eq]; simp only [scratch, owns_whole]; try rfl

/-- Whatever is carried, the scratch is held at something. -/
theorem carried_any (c : Dev nD) (n : Fin (cfg0.N + 1)) : carried m c n ⊢ (Pipeline.ΦA spec0 c : sProp 𝕄) := by
  unfold carried
  by_cases h : n.val = 0
  · rw [dif_pos h]
  · rw [dif_neg h, any_eq]
    iintro ⟨HS, Hg⟩
    isplitl [HS]
    · iexists _; iexact HS
    iexact Hg

theorem carried_some (c : Dev nD) (n : Fin (cfg0.N + 1)) :
    carried m c n ⊢ iprop(iprop((∃ d, owns (c : Thread nD τ) scratch fullShare d)) ∗ (∃ r, prngReg c r)) :=
  (carried_any m c n).trans (Entails.of_eq (any_eq c))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => wide m c t
    | ⟨5, _⟩ => narrow m c t
  Φ n := carried m c n
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = wide m c t := by dsimp only [dats]
theorem after0_5 (c : Dev nD) (t : Fin cfg0.N) : (dats m 0 c).after 5 t = narrow m c t := by dsimp only [dats]
theorem Phi_eq (c : Dev nD) (n : Fin (cfg0.N + 1)) : (dats m 0 c).Φ n = carried m c n := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem idle_first (t : Fin cfg0.N) (h : t.val % 8 = 0) : cfg0.idle 5 (cfg0.grid.coords t) = false := by
  show (!(k0_cond1 (grid0.coords t) == 1#1)) = false
  rw [(first_iff t).mpr h]; rfl
theorem idle_later (t : Fin cfg0.N) (h : ¬ t.val % 8 = 0) : cfg0.idle 5 (cfg0.grid.coords t) = true := by
  show (!(k0_cond1 (grid0.coords t) == 1#1)) = true
  have : ¬ k0_cond1 (grid0.coords t) = 1#1 := fun e => h ((first_iff t).mp e)
  simp [this]

theorem left_first (c : Dev nD) (t : Fin cfg0.N) (h : t.val % 8 = 0) (d) : (dats m 0 c).left 5 t d = narrow m c t := by
  unfold Dat.left; rw [idle_first t h]
  show (dats m 0 c).after 5 t = _
  exact after0_5 m c t
theorem left_later (c : Dev nD) (t : Fin cfg0.N) (h : ¬ t.val % 8 = 0) (d) : (dats m 0 c).left 5 t d = (dats m 0 c).before 5 t d := by
  unfold Dat.left; rw [idle_later t h]

/-- The narrow result's block, found as the row block's first point left it. -/
theorem before0_5_aux (c : Dev nD) (d) (n : ℕ) : ∀ t : Fin cfg0.N, t.val = n → ¬ t.val % 8 = 0 → (dats m 0 c).before 5 t d = narrow m c t := by
  induction n with
  | zero => intro t ht h; omega
  | succ n ih =>
    intro t ht h
    have hf : (cfg0.win 5).flush (prev t) = false := by
      rw [Bool.eq_false_iff]
      exact fun e => h (by have := (flush0_5 (prev t)).mp e; have : (t.val - 1) % 8 = 7 := this; omega)
    rw [(dats m 0 c).before_of_pos 5 t (by omega) rfl d, hf, if_neg Bool.false_ne_true, ← narrow_prev m c t h]
    by_cases h' : (prev t).val % 8 = 0
    · exact left_first m c (prev t) h' d
    · exact (left_later m c (prev t) h' d).trans (ih (prev t) (by show t.val - 1 = n; omega) h')

theorem before0_5 (c : Dev nD) (t : Fin cfg0.N) (h : ¬ t.val % 8 = 0) (d) : (dats m 0 c).before 5 t d = narrow m c t :=
  before0_5_aux m c d t.val t rfl h

/-- At any point the block may be handed on holding the row block's narrow result. -/
theorem leaves0_5 (c : Dev nD) (t : Fin cfg0.N) (d : S384x128.Idx → Elt F .f32) :
    owns (c : Thread nD τ) (ms5 t) fullShare (narrow m c t) ⊢ (dats m 0 c).leavesExact 5 t := by
  unfold Dat.leavesExact
  by_cases h : t.val % 8 = 0
  · rw [idle_first t h, after0_5]
  · rw [idle_later t h]
    by_cases hf : (cfg0.win 5).flush t = true
    · rw [hf, after0_5]
    · rw [Bool.eq_false_iff.mpr hf]
      simp only [before0_5 m c t h]
      iintro H
      iexists d
      iexact H

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ (dats m 0 c).leavesExact 5 t)

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, Phi_eq, Phi_eq, carried_succ]
  by_cases h0 : t.val % 8 = 0
  · iintro ⟨HΦ, Ho, ⟨%d0, H0⟩, ⟨%d1, H1⟩, ⟨%d2, H2⟩, ⟨%d3, H3⟩, ⟨%d4, H4⟩, ⟨%d5, H5⟩⟩
    ihave ⟨HS, Hg⟩ := (carried_some m c t.castSucc) $$ HΦ
    iapply (run_first c (grid0.coords t) _ _ _ _ _ _ _ _ _ _ _ _ _ _ (iblk m c 0 t) (iblk m c 1 t) (iblk m c 2 t) (iblk m c 3 t) ((first_iff t).mpr h0) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    iapply (leaves0_5 m c t d5)
    iexact H5
  · rw [carried_castSucc m c t (by omega), rows_prev m c t h0]
    simp only [before0_5 m c t h0]
    iintro ⟨⟨HS, Hg⟩, Ho, ⟨%d0, H0⟩, ⟨%d1, H1⟩, ⟨%d2, H2⟩, ⟨%d3, H3⟩, ⟨%d4, H4⟩, ⟨%d5, H5⟩⟩
    iapply (run_later c (grid0.coords t) _ _ _ _ _ _ _ _ _ _ _ _ _ _ (iblk m c 0 t) (iblk m c 1 t) (iblk m c 2 t) (iblk m c 3 t) (fun h => h0 ((first_iff t).mp h)) (rows m c t) (narrow m c t) Set.univ _)
    isplitl [H0]; · iexact H0
    isplitl [H1]; · iexact H1
    isplitl [H2]; · iexact H2
    isplitl [H3]; · iexact H3
    isplitl [H4]; · iexists _; iexact H4
    isplitl [H5]; · iexact H5
    isplitl [HS]; · iexact HS
    iintro ⟨H0, H1, H2, H3, H4, H5, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    iapply (leaves0_5 m c t d5)
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by rw [Phi_eq, carried_zero]) (hout := fun c => by rw [Phi_eq]; exact carried_any m c _)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.ProjIdeal.Body

end
-- ==== Proof.ProjValue.lean ====
/- The result arrays of the input projection. -/
module

public import proofs.«01_k».proof.Proof.ProjSpec
public import proofs.«01_k».proof.Proof.ProjBody
public import Idealize.ShloMosaic.Lib.Pipeline.ValueKit
public import Idealize.ShloMosaic.Lib.Pointwise
public import Idealize.ShloMosaic.Lib.Claim

@[expose] public section

set_option maxRecDepth 16384

noncomputable section

namespace Cert.ProjIdeal.At

open Idealize.ShloMosaic Idealize.ShloMosaic.TcCoe Idealize.SL.Sem
open Idealize.ShloMosaic.Pipeline (Dat)
open Cert.ProjIdeal Cert.ProjIdeal.Gen Cert.ProjIdeal.Body
open Cert.ProjSpec (X normed prod perm Prompt Sample Norm Weight)

/-! ## The payloads at an index -/

theorem normed_at (x : Vec Ideal S384x2048 .f32) (g : Vec Ideal S1x2048 .f32) (r : Fin 384) (k : Fin 2048) :
    k0_pay2 x g (ix2 r k) = normed (fun k => x (ix2 r k)) g k := by
  pointwise [k0_pay2, k0_pay1]
  rfl

theorem wide_at (y : Vec Ideal S384x2048 .bf16) (w : Vec Ideal S2048x1024 .bf16) (r : Fin 384) (j : Fin 1024) :
    k0_pay4 y w (ix2 r j) = ∑ k : Fin 2048, (y (ix2 r k) : EReal) * w (ix2 k j) := by
  pointwise [k0_pay4]

theorem narrow_at (x : Vec Ideal S384x2048 .f32) (g : Vec Ideal S1x2048 .f32) (w : Vec Ideal S2048x128 .bf16) (r : Fin 384) (j : Fin 128) :
    k0_pay3 x g w (ix2 r j) = ∑ k : Fin 2048, normed (fun k => x (ix2 r k)) g k * (w (ix2 k j) : EReal) := by
  have e : ∀ k, k0_pay1 x g (ix2 r k) = normed (fun k => x (ix2 r k)) g k := fun k => by
    pointwise [k0_pay1]
    rfl
  pointwise [k0_pay3, e]

/-! ## The operands -/

variable (m : (ℓ : Loc nD τ sig) → Buf (Elt Ideal) ℓ)

abbrev P0 (c : Dev nD) : Prompt := m ((c.tc : Thread nD τ).loc main_arg0)
abbrev S0 (c : Dev nD) : Sample := m ((c.tc : Thread nD τ).loc main_arg1)
abbrev g0 (c : Dev nD) : Norm := m ((c.tc : Thread nD τ).loc main_arg2)
abbrev w0 (c : Dev nD) : Weight := m ((c.tc : Thread nD τ).loc main_arg3)

theorem v11 (c : Dev nD) : V m c main_v11 = concatenate S16512x2048 0 [⟨S16384x2048, shapeCast S16384x2048 (m ((c.tc : Thread nD τ).loc main_arg0)) shapeCasts_S2x8192x2048_S16384x2048⟩,
    ⟨S128x2048, shapeCast S128x2048 (m ((c.tc : Thread nD τ).loc main_arg1)) shapeCasts_S32x4x2048_S128x2048⟩] concatenates_S16384x2048_S128x2048_S16512x2048_d0 := by
  unfold V
  simp only [hostOps0, hostOps0_1, hostOps0_2, List.flatten_cons, List.flatten_nil, List.cons_append, List.nil_append, List.append_nil, StableHlo.TRef.binary, StableHlo.TRef.unary, StableHlo.TRef.toBuf, StableHlo.TRef.ofBuf, cast_eq]
  after_results_simp
  rfl

theorem cat_at (A : FVec Ideal S16384x2048 .f32) (B : FVec Ideal S128x2048 .f32) (r : Fin 16512) (k : Fin 2048) :
    concatenate S16512x2048 0 [⟨S16384x2048, A⟩, ⟨S128x2048, B⟩] concatenates_S16384x2048_S128x2048_S16512x2048_d0 (ix2 r k)
      = if h : r.val < 16384 then A (ix2 ⟨r.val, h⟩ k) else B (ix2 ⟨r.val - 16384, by omega⟩ k) := by
  pointwise

theorem prompt_at (A : FVec Ideal S2x8192x2048 .f32) (r : Fin 16384) (k : Fin 2048) :
    shapeCast S16384x2048 A shapeCasts_S2x8192x2048_S16384x2048 (ix2 r k) = A (ix3 ⟨r.val / 8192, by omega⟩ ⟨r.val % 8192, by omega⟩ k) := by
  pointwise

theorem sample_at (A : FVec Ideal S32x4x2048 .f32) (r : Fin 128) (k : Fin 2048) :
    shapeCast S128x2048 A shapeCasts_S32x4x2048_S128x2048 (ix2 r k) = A (ix3 ⟨r.val / 4, by omega⟩ ⟨r.val % 4, by omega⟩ k) := by
  pointwise

theorem x_at (c : Dev nD) (r : Fin 16512) (k : Fin 2048) : (V m c main_v11 (ix2 r k) : EReal) = X (P0 m c) (S0 m c) r k := by
  rw [v11]
  refine (cat_at _ _ r k).trans ?_
  unfold X
  by_cases h : r.val < 16384
  · rw [dif_pos h, dif_pos h]
    exact prompt_at _ ⟨r.val, h⟩ k
  · rw [dif_neg h, dif_neg h]
    exact sample_at _ ⟨r.val - 16384, by omega⟩ k

theorem g_at (c : Dev nD) (k : Fin 2048) : (V m c main_v13 (ix2 0 k) : EReal) = g0 m c (ix2 0 k) := by
  unfold V
  simp only [hostOps0, hostOps0_1, hostOps0_2, List.flatten_cons, List.flatten_nil, List.cons_append, List.nil_append, List.append_nil, StableHlo.TRef.binary, StableHlo.TRef.unary, StableHlo.TRef.toBuf, StableHlo.TRef.ofBuf, cast_eq]
  after_results_simp
  pointwise

theorem w_at (c : Dev nD) (k : Fin 2048) (j : Fin 8192) : (V m c main_v5 (ix2 k j) : EReal) = w0 m c (ix3 0 k (perm j)) := by
  unfold V
  simp only [hostOps0, hostOps0_1, hostOps0_2, List.flatten_cons, List.flatten_nil, List.cons_append, List.nil_append, List.append_nil, StableHlo.TRef.binary, StableHlo.TRef.unary, StableHlo.TRef.toBuf, StableHlo.TRef.ofBuf, cast_eq]
  after_results_simp
  pointwise
  after_results_simp
  pointwise
  by_cases h : j.val < 3072
  · rw [dif_pos h]
    blk_ext [perm]
    rw [if_pos h]
  · rw [dif_neg h]
    by_cases h' : j.val - 3072 < 3072
    · rw [dif_pos h']
      blk_ext [perm]
      rw [if_neg h]
    · rw [dif_neg h']
      blk_ext [perm]
      rw [if_neg h]
      omega

theorem wd_at (c : Dev nD) (k : Fin 2048) (j : Fin 128) : (V m c main_v8 (ix2 k j) : EReal) = if h : j.val < 32 then w0 m c (ix3 0 k ⟨8192 + j.val, by omega⟩) else 0 := by
  unfold V
  simp only [hostOps0, hostOps0_1, hostOps0_2, List.flatten_cons, List.flatten_nil, List.cons_append, List.nil_append, List.append_nil, StableHlo.TRef.binary, StableHlo.TRef.unary, StableHlo.TRef.toBuf, StableHlo.TRef.ofBuf, cast_eq]
  after_results_simp
  pointwise
  have e : (FloatOps.sitofp FTy.f32 0#32 : Ideal .f32) = (0 : EReal) := by
    show ((((0#32 : BitVec 32).toInt : ℤ) : ℝ) : EReal) = 0
    simp
  rw [e]

/-! ## The blocks -/

section Blocks
variable (c : Dev nD) (t : Fin cfg0.N)

theorem rowLt (r : Fin 384) : 384 * (t.val / 8) + r.val < 16512 := by
  have ht : t.val < 344 := Nat.lt_of_lt_of_eq t.isLt N_0
  omega

theorem block0 (r : Fin 384) (k : Fin 2048) : (iblk m c 0 t (ix2 r k) : EReal) = X (P0 m c) (S0 m c) ⟨384 * (t.val / 8) + r.val, rowLt t r⟩ k := by
  refine Eq.trans ?_ (x_at m c _ k)
  blk_ext [iblk, index_at t]

theorem block1 (k : Fin 2048) : (iblk m c 1 t (ix2 0 k) : EReal) = g0 m c (ix2 0 k) := by
  refine Eq.trans ?_ (g_at m c k)
  blk_ext [iblk, index_at t]

theorem block2 (k : Fin 2048) (j : Fin 1024) : (iblk m c 2 t (ix2 k j) : EReal) = w0 m c (ix3 0 k (perm ⟨1024 * (t.val % 8) + j.val, by omega⟩)) := by
  refine Eq.trans ?_ (w_at m c k _)
  blk_ext [iblk, index_at t]

theorem block3 (k : Fin 2048) (j : Fin 128) : (iblk m c 3 t (ix2 k j) : EReal) = if h : j.val < 32 then w0 m c (ix3 0 k ⟨8192 + j.val, by omega⟩) else 0 := by
  refine Eq.trans ?_ (wd_at m c k j)
  blk_ext [iblk, index_at t]

theorem norm_block (r : Fin 384) (k : Fin 2048) : normed (fun k => iblk m c 0 t (ix2 r k)) (iblk m c 1 t) k
    = normed (X (P0 m c) (S0 m c) ⟨384 * (t.val / 8) + r.val, rowLt t r⟩) (g0 m c) k := by
  have e : (fun k => (iblk m c 0 t (ix2 r k) : EReal)) = X (P0 m c) (S0 m c) ⟨384 * (t.val / 8) + r.val, rowLt t r⟩ := funext fun k => block0 m c t r k
  refine (congrArg (fun x => normed x (iblk m c 1 t) k) e).trans ?_
  unfold normed
  exact congrArg (_ * ·) (block1 m c t k)

theorem wide_point (r : Fin 384) (j : Fin 1024) : wide m c t (ix2 r j)
    = Cert.ProjSpec.wide (P0 m c) (S0 m c) (g0 m c) (w0 m c) ⟨384 * (t.val / 8) + r.val, rowLt t r⟩ ⟨1024 * (t.val % 8) + j.val, by omega⟩ := by
  refine (wide_at _ _ r j).trans ?_
  unfold Cert.ProjSpec.wide prod
  refine Finset.sum_congr rfl fun k _ => ?_
  exact congrArg₂ (· * ·) ((normed_at _ _ r k).trans (norm_block m c t r k)) (block2 m c t k j)

theorem narrow_point (r : Fin 384) (j : Fin 128) : narrow m c t (ix2 r j)
    = Cert.ProjSpec.narrow (P0 m c) (S0 m c) (g0 m c) (w0 m c) ⟨384 * (t.val / 8) + r.val, rowLt t r⟩ j := by
  refine (narrow_at _ _ _ r j).trans ?_
  refine (Finset.sum_congr rfl fun k _ => congrArg₂ (· * ·) (norm_block m c t r k) (block3 m c t k j)).trans ?_
  unfold Cert.ProjSpec.narrow prod
  by_cases h : j.val < 32
  · simp only [dif_pos h]
  · simp only [dif_neg h, mul_zero, Finset.sum_const_zero]
end Blocks

/-! ## The arrays -/

theorem final_wide (c : Dev nD) : (dats m 0 c).arrAt 4 cfg0.N = Cert.ProjSpec.wideArr (P0 m c) (S0 m c) (g0 m c) (w0 m c) := by
  refine (dats m 0 c).arrAt_eq_of_covers 4 _ (by decide +kernel) fun t _ y => ?_
  blk_simp [index_at t]
  rw [after0_4]
  refine (congrArg (wide m c t) (show y = ix2 (y 0) (y 1) by blk_ext)).trans ((wide_point m c t (y 0) (y 1)).trans ?_)
  unfold Cert.ProjSpec.wideArr
  congr 1
  · refine Fin.ext ?_
    blk_simp [index_at t]
    show 384 * (t.val / 8) + (y 0).val = t.val / 8 * 384 + (y 0).val
    omega
  · refine Fin.ext ?_
    blk_simp [index_at t]
    show 1024 * (t.val % 8) + (y 1).val = t.val % 8 * 1024 + (y 1).val
    omega

theorem final_narrow (c : Dev nD) : (dats m 0 c).arrAt 5 cfg0.N = Cert.ProjSpec.narrowArr (P0 m c) (S0 m c) (g0 m c) (w0 m c) := by
  refine (dats m 0 c).arrAt_eq_of_covers 5 _ (by decide +kernel) fun t _ y => ?_
  blk_simp [index_at t]
  rw [after0_5]
  refine (congrArg (narrow m c t) (show y = ix2 (y 0) (y 1) by blk_ext)).trans ((narrow_point m c t (y 0) (y 1)).trans ?_)
  unfold Cert.ProjSpec.narrowArr
  congr 1
  · refine Fin.ext ?_
    blk_simp [index_at t]
    show 384 * (t.val / 8) + (y 0).val = t.val / 8 * 384 + (y 0).val
    omega
  · refine Fin.ext ?_
    blk_simp [index_at t]

end Cert.ProjIdeal.At

end
-- ==== Proof.ProjRef.lean ====
/- The reference of the input projection, read at an index. -/
module

public import proofs.«01_k».proof.Proof.ProjSpec
public import proofs.«01_k».proof.Proof.Gen.ProjRefIdeal.Run
public import Idealize.ShloMosaic.Lib.Pointwise
public import Idealize.ShloMosaic.Lib.Claim

@[expose] public section

set_option maxRecDepth 16384

noncomputable section

namespace Cert.ProjRefIdeal.At

open Idealize.ShloMosaic Idealize.ShloMosaic.TcCoe Idealize.SL.Sem
open Cert.ProjRefIdeal Cert.ProjRefIdeal.Gen Cert.ProjRefIdeal.Value
open Cert.ProjSpec (X normed prod perm Prompt Sample Norm Weight wide narrow wideArr narrowArr)

section Terms
variable (x : FVec Ideal S2x8192x2048 .f32) (y : FVec Ideal S32x4x2048 .f32) (g : FVec Ideal S1x2048 .f32) (w : FVec Ideal S1x2048x8224 .f32)

/-- The prompt's and the sample's rows, projected. -/
def prompt : FVec Ideal S2x8192x8224 .f32 := Host.dotGeneral dot_S2x8192x2048_S2048x8224_S2x8192x8224_2_0_01_1_n_n none (mulf (mulf x (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf x x) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x3727C5AC#32)))))) (broadcastInDim S2x8192x2048 ![0, 1, 2] bcast_S1x1x2048_S2x8192x2048_0_1_2 (broadcastInDim S1x1x2048 ![2] bcast_S2048_S1x1x2048_2 (shapeCast S2048 g shapeCasts_S1x2048_S2048)))) (shapeCast S2048x8224 w shapeCasts_S1x2048x8224_S2048x8224)
def sample : FVec Ideal S32x4x8224 .f32 := Host.dotGeneral dot_S32x4x2048_S2048x8224_S32x4x8224_2_0_01_1_n_n none (mulf (mulf y (broadcastInDim S32x4x2048 ![0, 1, 2] bcast_S32x4x1_S32x4x2048_0_1_2 (Host.rsqrt (addf (Host.divf (broadcastInDim S32x4x1 ![0, 1] bcast_S32x4_S32x4x1_0_1 (Host.reduceAdd (mulf y y) (constant S_ .f32 0x00000000#32) reducesTo_S32x4x2048_S32x4_d2 h_S_)) (broadcastInDim S32x4x1 ![] bcast_S_S32x4x1 (constant S_ .f32 0x45000000#32))) (broadcastInDim S32x4x1 ![] bcast_S_S32x4x1 (constant S_ .f32 0x3727C5AC#32)))))) (broadcastInDim S32x4x2048 ![0, 1, 2] bcast_S1x1x2048_S32x4x2048_0_1_2 (broadcastInDim S1x1x2048 ![2] bcast_S2048_S1x1x2048_2 (shapeCast S2048 g shapeCasts_S1x2048_S2048)))) (shapeCast S2048x8224 w shapeCasts_S1x2048x8224_S2048x8224)

theorem prompt_at (b : Fin 2) (s : Fin 8192) (j : Fin 8224) : prompt x g w (ix3 b s j) = prod (fun k => x (ix3 b s k)) g w j := by
  pointwise [prompt]
  unfold prod normed
  rfl

theorem sample_at (b : Fin 32) (s : Fin 4) (j : Fin 8224) : sample y g w (ix3 b s j) = prod (fun k => y (ix3 b s k)) g w j := by
  pointwise [sample]
  unfold prod normed
  rfl

/-! ## The columns of the wide result -/

theorem columns (B : Fin 8224 → EReal) (j : Fin 8192) :
    (if h : j.val < 3072 then B ⟨5120 + j.val, by omega⟩
    else if h : j.val - 3072 < 1024 then B ⟨j.val - 3072, by omega⟩
    else if h : j.val - 3072 - 1024 < 1024 then B ⟨1024 + (j.val - 3072 - 1024), by omega⟩
    else if h : j.val - 3072 - 1024 - 1024 < 1024 then B ⟨2048 + (j.val - 3072 - 1024 - 1024), by omega⟩
    else B ⟨3072 + (j.val - 3072 - 1024 - 1024 - 1024), by omega⟩) = B (perm j) := by
  unfold perm
  by_cases h : j.val < 3072
  · simp only [dif_pos h, if_pos h]
  · simp only [dif_neg h, if_neg h]
    split
    · rfl
    · split
      · exact congrArg B (Fin.ext (by show 1024 + (j.val - 3072 - 1024) = j.val - 3072; omega))
      · split
        · exact congrArg B (Fin.ext (by show 2048 + (j.val - 3072 - 1024 - 1024) = j.val - 3072; omega))
        · exact congrArg B (Fin.ext (by show 3072 + (j.val - 3072 - 1024 - 1024 - 1024) = j.val - 3072; omega))

theorem promptWide_at (A : FVec Ideal S2x8192x8224 .f32) (b : Fin 2) (s : Fin 8192) (j : Fin 8192) :
    concatenate S2x8192x8192 2 [⟨S2x8192x3072, extractStridedSlice S2x8192x3072 ![0, 0, 5120] A slices_S2x8192x8224_S2x8192x3072_0_0_5120⟩, ⟨S2x8192x1024, extractStridedSlice S2x8192x1024 ![0, 0, 0] A slices_S2x8192x8224_S2x8192x1024_0_0_0⟩, ⟨S2x8192x1024, extractStridedSlice S2x8192x1024 ![0, 0, 1024] A slices_S2x8192x8224_S2x8192x1024_0_0_1024⟩, ⟨S2x8192x1024, extractStridedSlice S2x8192x1024 ![0, 0, 2048] A slices_S2x8192x8224_S2x8192x1024_0_0_2048⟩, ⟨S2x8192x2048, extractStridedSlice S2x8192x2048 ![0, 0, 3072] A slices_S2x8192x8224_S2x8192x2048_0_0_3072⟩] concatenates_S2x8192x3072_S2x8192x1024_S2x8192x1024_S2x8192x1024_S2x8192x2048_S2x8192x8192_d2 (ix3 b s j)
      = A (ix3 b s (perm j)) := by
  pointwise
  exact columns (fun q => A (ix3 b s q)) j

theorem sampleWide_at (A : FVec Ideal S32x4x8224 .f32) (b : Fin 32) (s : Fin 4) (j : Fin 8192) :
    concatenate S32x4x8192 2 [⟨S32x4x3072, extractStridedSlice S32x4x3072 ![0, 0, 5120] A slices_S32x4x8224_S32x4x3072_0_0_5120⟩, ⟨S32x4x1024, extractStridedSlice S32x4x1024 ![0, 0, 0] A slices_S32x4x8224_S32x4x1024_0_0_0⟩, ⟨S32x4x1024, extractStridedSlice S32x4x1024 ![0, 0, 1024] A slices_S32x4x8224_S32x4x1024_0_0_1024⟩, ⟨S32x4x1024, extractStridedSlice S32x4x1024 ![0, 0, 2048] A slices_S32x4x8224_S32x4x1024_0_0_2048⟩, ⟨S32x4x2048, extractStridedSlice S32x4x2048 ![0, 0, 3072] A slices_S32x4x8224_S32x4x2048_0_0_3072⟩] concatenates_S32x4x3072_S32x4x1024_S32x4x1024_S32x4x1024_S32x4x2048_S32x4x8192_d2 (ix3 b s j)
      = A (ix3 b s (perm j)) := by
  pointwise
  exact columns (fun q => A (ix3 b s q)) j

theorem rows_at (A : FVec Ideal S2x8192x8192 .f32) (B : FVec Ideal S32x4x8192 .f32) (r : Fin 16512) (j : Fin 8192) :
    concatenate S16512x8192 0 [⟨S16384x8192, shapeCast S16384x8192 A shapeCasts_S2x8192x8192_S16384x8192⟩, ⟨S128x8192, shapeCast S128x8192 B shapeCasts_S32x4x8192_S128x8192⟩] concatenates_S16384x8192_S128x8192_S16512x8192_d0 (ix2 r j)
      = if h : r.val < 16384 then A (ix3 ⟨r.val / 8192, by omega⟩ ⟨r.val % 8192, by omega⟩ j) else B (ix3 ⟨(r.val - 16384) / 4, by omega⟩ ⟨(r.val - 16384) % 4, by omega⟩ j) := by
  generalize hA : shapeCast S16384x8192 A shapeCasts_S2x8192x8192_S16384x8192 = A'
  generalize hB : shapeCast S128x8192 B shapeCasts_S32x4x8192_S128x8192 = B'
  pointwise
  by_cases h : r.val < 16384
  · rw [dif_pos h, dif_pos h, ← hA]
    pointwise
  · rw [dif_neg h, dif_neg h, ← hB]
    pointwise

theorem narrowPad_at (A : FVec Ideal S16512x32 .f32) (r : Fin 16512) (j : Fin 128) :
    pad S16512x128 ![0, 0] ![0, 96] ![0, 0] A (sitofp .f32 (constantI S_ 32 0#32)) pads_S16512x32_S16512x128_000_0960 h_S_ (ix2 r j)
      = if h : j.val < 32 then A (ix2 r ⟨j.val, h⟩) else 0 := by
  pointwise
  have e : (FloatOps.sitofp FTy.f32 0#32 : Ideal .f32) = (0 : EReal) := by
    show ((((0#32 : BitVec 32).toInt : ℤ) : ℝ) : EReal) = 0
    simp
  rw [e]

theorem narrowPrompt_at (A : FVec Ideal S2x8192x8224 .f32) (r : Fin 16384) (j : Fin 32) :
    shapeCast S16384x32 (extractStridedSlice S2x8192x32 ![0, 0, 8192] A slices_S2x8192x8224_S2x8192x32_0_0_8192) shapeCasts_S2x8192x32_S16384x32 (ix2 r j)
      = A (ix3 ⟨r.val / 8192, by omega⟩ ⟨r.val % 8192, by omega⟩ ⟨8192 + j.val, by omega⟩) := by
  pointwise

theorem narrowSample_at (B : FVec Ideal S32x4x8224 .f32) (r : Fin 128) (j : Fin 32) :
    shapeCast S128x32 (extractStridedSlice S32x4x32 ![0, 0, 8192] B slices_S32x4x8224_S32x4x32_0_0_8192) shapeCasts_S32x4x32_S128x32 (ix2 r j)
      = B (ix3 ⟨r.val / 4, by omega⟩ ⟨r.val % 4, by omega⟩ ⟨8192 + j.val, by omega⟩) := by
  pointwise

theorem narrowRows_at (A : FVec Ideal S2x8192x8224 .f32) (B : FVec Ideal S32x4x8224 .f32) (r : Fin 16512) (j : Fin 32) :
    concatenate S16512x32 0 [⟨S16384x32, shapeCast S16384x32 (extractStridedSlice S2x8192x32 ![0, 0, 8192] A slices_S2x8192x8224_S2x8192x32_0_0_8192) shapeCasts_S2x8192x32_S16384x32⟩, ⟨S128x32, shapeCast S128x32 (extractStridedSlice S32x4x32 ![0, 0, 8192] B slices_S32x4x8224_S32x4x32_0_0_8192) shapeCasts_S32x4x32_S128x32⟩] concatenates_S16384x32_S128x32_S16512x32_d0 (ix2 r j)
      = if h : r.val < 16384 then A (ix3 ⟨r.val / 8192, by omega⟩ ⟨r.val % 8192, by omega⟩ ⟨8192 + j.val, by omega⟩)
        else B (ix3 ⟨(r.val - 16384) / 4, by omega⟩ ⟨(r.val - 16384) % 4, by omega⟩ ⟨8192 + j.val, by omega⟩) := by
  generalize hA : shapeCast S16384x32 (extractStridedSlice S2x8192x32 ![0, 0, 8192] A slices_S2x8192x8224_S2x8192x32_0_0_8192) shapeCasts_S2x8192x32_S16384x32 = A'
  generalize hB : shapeCast S128x32 (extractStridedSlice S32x4x32 ![0, 0, 8192] B slices_S32x4x8224_S32x4x32_0_0_8192) shapeCasts_S32x4x32_S128x32 = B'
  pointwise
  by_cases h : r.val < 16384
  · rw [dif_pos h, dif_pos h, ← hA]
    exact narrowPrompt_at A ⟨r.val, h⟩ j
  · rw [dif_neg h, dif_neg h, ← hB]
    exact narrowSample_at B ⟨r.val - 16384, by omega⟩ j

/-- The rows chosen before the product, or after. -/
theorem prod_X (r : Fin 16512) (j : Fin 8224) :
    (if h : r.val < 16384 then prod (fun k => x (ix3 ⟨r.val / 8192, by omega⟩ ⟨r.val % 8192, by omega⟩ k)) g w j
      else prod (fun k => y (ix3 ⟨(r.val - 16384) / 4, by omega⟩ ⟨(r.val - 16384) % 4, by omega⟩ k)) g w j) = prod (X x y r) g w j := by
  by_cases h : r.val < 16384
  · rw [dif_pos h]
    refine congrArg (fun f => prod f g w j) (funext fun k => ?_)
    unfold X
    rw [dif_pos h]
  · rw [dif_neg h]
    refine congrArg (fun f => prod f g w j) (funext fun k => ?_)
    unfold X
    rw [dif_neg h]

end Terms

/-- The reference ends with the two results in closed form. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v48) = wideArr (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v52) = narrowArr (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2.1.trans ?_, (h c).2.2⟩) (Value.run m ρ)
  · unfold res_main_v48
    generalize m ((c.tc : Thread nD τ).loc main_arg0) = x
    generalize m ((c.tc : Thread nD τ).loc main_arg1) = y
    generalize m ((c.tc : Thread nD τ).loc main_arg2) = g
    generalize m ((c.tc : Thread nD τ).loc main_arg3) = w
    funext j
    idx_vars j
    refine (rows_at _ _ j0 j1).trans ?_
    refine Eq.trans ?_ (prod_X x y g w j0 (perm j1))
    by_cases h : j0.val < 16384
    · rw [dif_pos h, dif_pos h]
      exact (promptWide_at (prompt x g w) _ _ j1).trans (prompt_at x g w _ _ _)
    · rw [dif_neg h, dif_neg h]
      exact (sampleWide_at (sample y g w) _ _ j1).trans (sample_at y g w _ _ _)
  · generalize m ((c.tc : Thread nD τ).loc main_arg0) = x
    generalize m ((c.tc : Thread nD τ).loc main_arg1) = y
    generalize m ((c.tc : Thread nD τ).loc main_arg2) = g
    generalize m ((c.tc : Thread nD τ).loc main_arg3) = w
    funext j
    idx_vars j
    refine (narrowPad_at _ j0 j1).trans ?_
    show _ = narrow x y g w j0 j1
    unfold narrow
    by_cases h : j1.val < 32
    · rw [dif_pos h, dif_pos h]
      refine (narrowRows_at (prompt x g w) (sample y g w) j0 ⟨j1.val, h⟩).trans ?_
      refine Eq.trans ?_ (prod_X x y g w j0 _)
      by_cases h' : j0.val < 16384
      · rw [dif_pos h', dif_pos h']
        exact prompt_at x g w _ _ _
      · rw [dif_neg h', dif_neg h']
        exact sample_at y g w _ _ _
    · rw [dif_neg h, dif_neg h]

end Cert.ProjRefIdeal.At

end
-- ==== Proof.ProjClaim.lean ====
/- The claims about the input projection. -/
module

public import proofs.«01_k».proof.Defs
public import proofs.«01_k».proof.Proof.Gen.Proj
public import proofs.«01_k».proof.Proof.ProjValue
public import proofs.«01_k».proof.Proof.ProjRef
public import Idealize.ShloMosaic.Lib.Claim

@[expose] public section

set_option maxRecDepth 16384

noncomputable section

namespace Cert.Proof

open Idealize.ShloMosaic Idealize.ShloMosaic.TcCoe Idealize.ShloMosaic.Tactic Idealize.SL.Sem

instance projFacts : Cert.Proj.Facts := Cert.Proj.Gen.facts
instance projIdealFacts : Cert.ProjIdeal.Facts := Cert.ProjIdeal.Gen.facts
instance projRefFacts : Cert.ProjRefIdeal.Facts := Cert.ProjRefIdeal.Gen.facts

section
open Cert.ProjIdeal
/-- The frame of the program read at the machine's values: the two programs are printed alike, so it is the other's. -/
def ProjFrame : Prop := ∀ (m : (ℓ : Loc nD τ sig) → Buf (Elt Bits) ℓ) (ρ : Dev nD → PrngReg), True →
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)
end

theorem projFrame_eq : ProjFrame = Cert.quiescent_Proj := by sl_kernel_rfl

theorem proj_quiescent : Cert.quiescent_Proj := projFrame_eq ▸ fun m ρ _ => Cert.ProjIdeal.Body.frame m ρ
theorem projIdeal_quiescent : Cert.quiescent_ProjIdeal := fun m ρ _ => Cert.ProjIdeal.Body.frame m ρ
theorem projRef_quiescent : Cert.quiescent_ProjRefIdeal := fun m g _ =>
  (θ_run _ _ _).mono (fun r h => ⟨fun c => (h c).2.2, sem_eq_zero_of_no_sems rfl _⟩) (Cert.ProjRefIdeal.At.run m g)

theorem proj_preserves : Cert.preserves_Proj_ProjIdeal := trivial

theorem proj_algebraic : Cert.algebraic_ProjIdeal_ProjRefIdeal := by
  pair_intro
  · run_from Cert.ProjIdeal.Body.run_main m g
    · exact Cert.ProjIdeal.Gen.V_main_arg0 m c
    · exact Cert.ProjIdeal.Gen.V_main_arg1 m c
    · exact Cert.ProjIdeal.Gen.V_main_arg2 m c
    · exact Cert.ProjIdeal.Gen.V_main_arg3 m c
  · run_from Cert.ProjRefIdeal.At.run m' g'
    · exact (Cert.ProjIdeal.At.final_wide m c).symm
    · exact (Cert.ProjIdeal.At.final_narrow m c).symm

end Cert.Proof

end
-- ==== Proof.GmmSpec.lean ====
/- The experts' gate and up products in closed form: each row of a tile by its tile's expert, the clamped gated unit of
   the two products, zero past the used tiles. -/
module

public import Idealize.ShloMosaic.Lib.Pointwise

@[expose] public section

set_option maxRecDepth 16384

noncomputable section

namespace Cert.GmmSpec

open Idealize.ShloMosaic Idealize.ShloMosaic.TcCoe

abbrev Table := (⟨1, ![161]⟩ : Shape).Idx → BitVec 32
abbrev Count := (⟨1, ![1]⟩ : Shape).Idx → BitVec 32
abbrev Rows := (⟨2, ![82432, 2048]⟩ : Shape).Idx → EReal
abbrev Weights := (⟨3, ![32, 2048, 2048]⟩ : Shape).Idx → EReal
abbrev Biases := (⟨3, ![32, 1, 2048]⟩ : Shape).Idx → EReal

/-- A row's tile. -/
def tileOf (r : Fin 82432) : Fin 161 := ⟨r.val / 512, by omega⟩

/-- A tile's expert. -/
def expertOf (T : Table) (n : Fin 161) : Fin 32 := ⟨(T (ix1 n)).toNat % 32, Nat.mod_lt _ (by decide)⟩

/-- A row by its expert's matrix, with its expert's bias. -/
def proj (T : Table) (X : Rows) (W : Weights) (B : Biases) (r : Fin 82432) (f : Fin 2048) : EReal :=
  (∑ k : Fin 2048, X (ix2 r k) * W (ix3 (expertOf T (tileOf r)) k f)) + B (ix3 (expertOf T (tileOf r)) 0 f)

/-- The clamped gated unit. -/
def glu (g u : EReal) : EReal :=
  (min (Ideal.ofBits .f32 0x40E00000#32) (max (Ideal.ofBits .f32 0xC0E00000#32) u) + 1) * min g (Ideal.ofBits .f32 0x40E00000#32)
    * Ideal.logistic (Ideal.ofBits .f32 0x3FD9DB23#32 * min g (Ideal.ofBits .f32 0x40E00000#32))

def value (T : Table) (N : Count) (X : Rows) (Wg Wu : Weights) (Bg Bu : Biases) (r : Fin 82432) (f : Fin 2048) : EReal :=
  if ((tileOf r).val : ℤ) < (N (ix1 0)).toInt then glu (proj T X Wg Bg r f) (proj T X Wu Bu r f) else 0

/-- The result as an array. -/
def arr (T : Table) (N : Count) (X : Rows) (Wg Wu : Weights) (Bg Bu : Biases) : (⟨2, ![82432, 2048]⟩ : Shape).Idx → EReal :=
  fun j => value T N X Wg Wu Bg Bu (j 0) (j 1)

end Cert.GmmSpec

end
-- ==== Proof.GmmRun.lean ====
/- The expert products' gate and up body, run: where the row tile's expert differs from the tile's before it the two weight
   blocks are narrowed into the scratches; a used tile's block is the gated product, an unused tile's is zero. -/
module

public import proofs.«01_k».proof.Proof.Gen.GmmIdeal.Skeleton
public import proofs.«01_k».proof.Proof.Gen.GmmIdeal.Launch
public import Idealize.ShloMosaic.Lib.Pipeline.FrameBody
public import Idealize.ShloMosaic.Lib.Pipeline.ValueKit
public import Idealize.ShloMosaic.Lib.VecWindow
public import Idealize.ShloMosaic.Lib.Claim

@[expose] public section

set_option maxRecDepth 16384

noncomputable section

namespace Cert.GmmIdeal.Body

open Cert.GmmIdeal Cert.GmmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two tables as the body is handed them: the tiles' experts and the count of used tiles. -/
abbrev tb0 : Memref sig .tc .smem S161 .i32 := Memref.whole main_arg0
abbrev tb1 : Memref sig .tc .smem S1 .i32 := Memref.whole main_arg1

/-- The words the body reads off them: the tile's expert, the expert of the tile before, the count. -/
abbrev here (T0 : S161.Idx → BitVec 32) (i : grid0.Coords) : BitVec 32 :=
  View.readAt (Elt F) tb0.view (Rect.unit (s := S161) (k0_off1 i) S1.size (k0_off1_inb i)).toLoadRect T0 (Shape.Idx.first (numel1_S1.symm ▸ Nat.one_pos))
abbrev back (T0 : S161.Idx → BitVec 32) (i : grid0.Coords) : BitVec 32 :=
  View.readAt (Elt F) tb0.view (Rect.unit (s := S161) (k0_off2 i) S1.size (k0_off2_inb i)).toLoadRect T0 (Shape.Idx.first (numel1_S1.symm ▸ Nat.one_pos))
abbrev used (T1 : S1.Idx → BitVec 32) : BitVec 32 :=
  View.readAt (Elt F) tb1.view (Rect.unit (s := S1) ![0] S1.size inb_S1_S1_0).toLoadRect T1 (Shape.Idx.first (numel1_S1.symm ▸ Nat.one_pos))

/-- The weights are narrowed afresh. -/
abbrev Fresh (T0 : S161.Idx → BitVec 32) (i : grid0.Coords) : Prop :=
  Scalar.cmpi .ne (Scalar.extui (Scalar.ori (Scalar.cmpi .eq (BitVec.ofNat 32 (i 1).val) 0#32) (Scalar.cmpi .ne (here (F := F) T0 i) (back (F := F) T0 i))) : BitVec 32) 0#32 = 1#1

section Runs
variable (c : Dev nD) (i : grid0.Coords) (arg4 : Memref sig .tc .vmem S512x2048 .bf16) (harg4 : arg4.IsWhole) (arg5 : Memref sig .tc .vmem S1x2048x512 .f32) (harg5 : arg5.IsWhole)
  (arg6 : Memref sig .tc .vmem S1x2048x512 .f32) (harg6 : arg6.IsWhole) (arg7 : Memref sig .tc .vmem S1x1x512 .f32) (harg7 : arg7.IsWhole) (arg8 : Memref sig .tc .vmem S1x1x512 .f32) (harg8 : arg8.IsWhole)
  (arg9 : Memref sig .tc .vmem S512x512 .bf16) (harg9 : arg9.IsWhole) (arg10 : Memref sig .tc .vmem S2048x512 .bf16) (harg10 : arg10.IsWhole) (arg11 : Memref sig .tc .vmem S2048x512 .bf16) (harg11 : arg11.IsWhole)
  (T0 : S161.Idx → BitVec 32) (T1 : S1.Idx → BitVec 32)
  (x0 : Vec F S512x2048 .bf16) (x1 : Vec F S1x2048x512 .f32) (x2 : Vec F S1x2048x512 .f32) (x3 : Vec F S1x1x512 .f32) (x4 : Vec F S1x1x512 .f32) (s0 s1 : Vec F S2048x512 .bf16)

/-- What the body is handed and hands on: the blocks, the tables, the result's block and the scratches. -/
def Held (q : PosShare TreeShare) (y : sProp 𝕄) (s0 s1 : Vec F S2048x512 .bf16) : sProp 𝕄 :=
  iprop(owns (c : Thread nD τ) arg4 fullShare x0 ∗ owns (c : Thread nD τ) arg5 fullShare x1 ∗ owns (c : Thread nD τ) arg6 fullShare x2 ∗ owns (c : Thread nD τ) arg7 fullShare x3
    ∗ owns (c : Thread nD τ) arg8 fullShare x4 ∗ (tb0.view.loc (c : Thread nD τ) ↦{q} T0) ∗ (tb1.view.loc (c : Thread nD τ) ↦{q} T1) ∗ y
    ∗ owns (c : Thread nD τ) arg10 fullShare s0 ∗ owns (c : Thread nD τ) arg11 fullShare s1)

/-- The gated product at equal operands. -/
theorem gated_congr {a a' : Vec F S512x2048 .bf16} {b b' d d' : Vec F S2048x512 .bf16} {e e' g g' : Vec F S1x1x512 .f32}
    (ha : a = a') (hb : b = b') (he : e = e') (hd : d = d') (hg : g = g') : k0_pay3 a b e d g = k0_pay3 a' b' e' d' g' := by
  rw [ha, hb, he, hd, hg]

set_option maxHeartbeats 2000000 in
/-- A used tile of a new expert. -/
theorem run_fresh_used (q : PosShare TreeShare) (h1 : Fresh (F := F) T0 i)
    (h2 : k0_cond2 i (used (F := F) T1) = 1#1) (h3 : ¬ k0_cond3 i (used (F := F) T1) = 1#1) (E : Set ℕ) (K : PUnit → sProp 𝕄) :
    iprop(Held c arg4 arg5 arg6 arg7 arg8 arg10 arg11 T0 T1 x0 x1 x2 x3 x4 q iprop(∃ d, owns (c : Thread nD τ) arg9 fullShare d) s0 s1
        ∗ (Held c arg4 arg5 arg6 arg7 arg8 arg10 arg11 T0 T1 x0 x1 x2 x3 x4 q (owns (c : Thread nD τ) arg9 fullShare (k0_pay3 x0 (k0_pay1 x1) x3 (k0_pay2 x2) x4)) (k0_pay1 x1) (k0_pay2 x2) -∗ K ⟨⟩))
      ⊢ wp frame (wpE (defs₀ (F := F)) Variants.none c none) E (cc0_gmm1 i tb0 (Memref.isWhole_whole _) tb1 (Memref.isWhole_whole _) arg4 harg4 arg5 harg5 arg6 harg6 arg7 harg7 arg8 harg8 arg9 harg9 arg10 harg10 arg11 harg11) K := by
  simp only [cc0_gmm1_eq_skeleton]; unfold cc0_gmm1_skel Held
  unfold owns
  iintro ⟨⟨⟨%f0, %hf0, H0⟩, ⟨%f1, %hf1, H1⟩, ⟨%f2, %hf2, H2⟩, ⟨%f3, %hf3, H3⟩, ⟨%f4, %hf4, H4⟩, HT0, HT1, ⟨%d5, %f5, -, H5⟩, ⟨%g0, %hg0, HS0⟩, ⟨%g1, %hg1, HS1⟩⟩, Hk⟩
  obtain rfl := harg4.eq_unread hf0; obtain rfl := harg5.eq_unread hf1; obtain rfl := harg6.eq_unread hf2; obtain rfl := harg7.eq_unread hf3
  obtain rfl := harg8.eq_unread hf4; obtain rfl := harg10.eq_unread hg0; obtain rfl := harg11.eq_unread hg1
  have hT0 : tb0.IsWhole := Memref.isWhole_whole _
  have hT1 : tb1.IsWhole := Memref.isWhole_whole _
  sl_exec (disch := first | sl_exact h1 | sl_exact h2 | sl_exact h3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [HT0]; · iexact HT0
  isplitl [HT1]; · iexact HT1
  isplitl [H5]
  · iexists _; isplitr; swap; · iexact H5
    ipureintro
    refine (View.read_writes_full _ _ _ _ _).trans ?_
    unfold run_fresh_used.sl.v20 run_fresh_used.sl.v26 run_fresh_used.sl.HS0_1 run_fresh_used.sl.HS1_1
    exact gated_congr ((View.readAt_full _ _ _).trans (harg4.read_unread _)) ((View.readCov_full _ _ _ _ _).trans (congrArg k0_pay1 ((View.readAt_full _ _ _).trans (harg5.read_unread _)))) ((View.readAt_full _ _ _).trans (harg7.read_unread _)) ((View.readCov_full _ _ _ _ _).trans (congrArg k0_pay2 ((View.readAt_full _ _ _).trans (harg6.read_unread _)))) ((View.readAt_full _ _ _).trans (harg8.read_unread _))
  isplitl [HS0]
  · iexists _; isplitr; swap; · iexact HS0
    ipureintro
    unfold run_fresh_used.sl.HS0_1
    exact (View.read_writes_full _ _ _ _ _).trans (congrArg k0_pay1 ((View.readAt_full _ _ _).trans (harg5.read_unread _)))
  iexists _; isplitr; swap; · iexact HS1
  ipureintro
  unfold run_fresh_used.sl.HS1_1
  exact (View.read_writes_full _ _ _ _ _).trans (congrArg k0_pay2 ((View.readAt_full _ _ _).trans (harg6.read_unread _)))

set_option maxHeartbeats 2000000 in
/-- A used tile of the expert of the tile before. -/
theorem run_kept_used (q : PosShare TreeShare) (h1 : ¬ Fresh (F := F) T0 i)
    (h2 : k0_cond2 i (used (F := F) T1) = 1#1) (h3 : ¬ k0_cond3 i (used (F := F) T1) = 1#1) (E : Set ℕ) (K : PUnit → sProp 𝕄) :
    iprop(Held c arg4 arg5 arg6 arg7 arg8 arg10 arg11 T0 T1 x0 x1 x2 x3 x4 q iprop(∃ d, owns (c : Thread nD τ) arg9 fullShare d) s0 s1
        ∗ (Held c arg4 arg5 arg6 arg7 arg8 arg10 arg11 T0 T1 x0 x1 x2 x3 x4 q (owns (c : Thread nD τ) arg9 fullShare (k0_pay3 x0 s0 x3 s1 x4)) s0 s1 -∗ K ⟨⟩))
      ⊢ wp frame (wpE (defs₀ (F := F)) Variants.none c none) E (cc0_gmm1 i tb0 (Memref.isWhole_whole _) tb1 (Memref.isWhole_whole _) arg4 harg4 arg5 harg5 arg6 harg6 arg7 harg7 arg8 harg8 arg9 harg9 arg10 harg10 arg11 harg11) K := by
  simp only [cc0_gmm1_eq_skeleton]; unfold cc0_gmm1_skel Held
  unfold owns
  iintro ⟨⟨⟨%f0, %hf0, H0⟩, ⟨%f1, %hf1, H1⟩, ⟨%f2, %hf2, H2⟩, ⟨%f3, %hf3, H3⟩, ⟨%f4, %hf4, H4⟩, HT0, HT1, ⟨%d5, %f5, -, H5⟩, ⟨%g0, %hg0, HS0⟩, ⟨%g1, %hg1, HS1⟩⟩, Hk⟩
  obtain rfl := harg4.eq_unread hf0; obtain rfl := harg5.eq_unread hf1; obtain rfl := harg6.eq_unread hf2; obtain rfl := harg7.eq_unread hf3
  obtain rfl := harg8.eq_unread hf4; obtain rfl := harg10.eq_unread hg0; obtain rfl := harg11.eq_unread hg1
  have hT0 : tb0.IsWhole := Memref.isWhole_whole _
  have hT1 : tb1.IsWhole := Memref.isWhole_whole _
  sl_exec (disch := first | sl_exact h1 | sl_exact h2 | sl_exact h3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [HT0]; · iexact HT0
  isplitl [HT1]; · iexact HT1
  isplitl [H5]
  · iexists _; isplitr; swap; · iexact H5
    ipureintro
    exact (View.read_writes_full _ _ _ _ _).trans (gated_congr ((View.readAt_full _ _ _).trans (harg4.read_unread _)) ((View.readAt_full _ _ _).trans (harg10.read_unread _)) ((View.readAt_full _ _ _).trans (harg7.read_unread _)) ((View.readAt_full _ _ _).trans (harg11.read_unread _)) ((View.readAt_full _ _ _).trans (harg8.read_unread _)))
  isplitl [HS0]
  · iexists _; isplitr; · ipureintro; exact harg10.read_unread _
    iexact HS0
  iexists _; isplitr; · ipureintro; exact harg11.read_unread _
  iexact HS1

set_option maxHeartbeats 2000000 in
/-- An unused tile of a new expert. -/
theorem run_fresh_spare (q : PosShare TreeShare) (h1 : Fresh (F := F) T0 i)
    (h2 : ¬ k0_cond2 i (used (F := F) T1) = 1#1) (h3 : k0_cond3 i (used (F := F) T1) = 1#1) (E : Set ℕ) (K : PUnit → sProp 𝕄) :
    iprop(Held c arg4 arg5 arg6 arg7 arg8 arg10 arg11 T0 T1 x0 x1 x2 x3 x4 q iprop(∃ d, owns (c : Thread nD τ) arg9 fullShare d) s0 s1
        ∗ (Held c arg4 arg5 arg6 arg7 arg8 arg10 arg11 T0 T1 x0 x1 x2 x3 x4 q (owns (c : Thread nD τ) arg9 fullShare k0_pay4) (k0_pay1 x1) (k0_pay2 x2) -∗ K ⟨⟩))
      ⊢ wp frame (wpE (defs₀ (F := F)) Variants.none c none) E (cc0_gmm1 i tb0 (Memref.isWhole_whole _) tb1 (Memref.isWhole_whole _) arg4 harg4 arg5 harg5 arg6 harg6 arg7 harg7 arg8 harg8 arg9 harg9 arg10 harg10 arg11 harg11) K := by
  simp only [cc0_gmm1_eq_skeleton]; unfold cc0_gmm1_skel Held
  unfold owns
  iintro ⟨⟨⟨%f0, %hf0, H0⟩, ⟨%f1, %hf1, H1⟩, ⟨%f2, %hf2, H2⟩, ⟨%f3, %hf3, H3⟩, ⟨%f4, %hf4, H4⟩, HT0, HT1, ⟨%d5, %f5, -, H5⟩, ⟨%g0, %hg0, HS0⟩, ⟨%g1, %hg1, HS1⟩⟩, Hk⟩
  obtain rfl := harg4.eq_unread hf0; obtain rfl := harg5.eq_unread hf1; obtain rfl := harg6.eq_unread hf2; obtain rfl := harg7.eq_unread hf3
  obtain rfl := harg8.eq_unread hf4; obtain rfl := harg10.eq_unread hg0; obtain rfl := harg11.eq_unread hg1
  have hT0 : tb0.IsWhole := Memref.isWhole_whole _
  have hT1 : tb1.IsWhole := Memref.isWhole_whole _
  sl_exec (disch := first | sl_exact h1 | sl_exact h2 | sl_exact h3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [HT0]; · iexact HT0
  isplitl [HT1]; · iexact HT1
  isplitl [H5]
  · iexists _; isplitr; swap; · iexact H5
    ipureintro
    exact View.read_writes_full _ _ _ _ _
  isplitl [HS0]
  · iexists _; isplitr; swap; · iexact HS0
    ipureintro
    exact (View.read_writes_full _ _ _ _ _).trans (congrArg k0_pay1 ((View.readAt_full _ _ _).trans (harg5.read_unread _)))
  iexists _; isplitr; swap; · iexact HS1
  ipureintro
  exact (View.read_writes_full _ _ _ _ _).trans (congrArg k0_pay2 ((View.readAt_full _ _ _).trans (harg6.read_unread _)))

set_option maxHeartbeats 2000000 in
/-- An unused tile of the expert of the tile before. -/
theorem run_kept_spare (q : PosShare TreeShare) (h1 : ¬ Fresh (F := F) T0 i)
    (h2 : ¬ k0_cond2 i (used (F := F) T1) = 1#1) (h3 : k0_cond3 i (used (F := F) T1) = 1#1) (E : Set ℕ) (K : PUnit → sProp 𝕄) :
    iprop(Held c arg4 arg5 arg6 arg7 arg8 arg10 arg11 T0 T1 x0 x1 x2 x3 x4 q iprop(∃ d, owns (c : Thread nD τ) arg9 fullShare d) s0 s1
        ∗ (Held c arg4 arg5 arg6 arg7 arg8 arg10 arg11 T0 T1 x0 x1 x2 x3 x4 q (owns (c : Thread nD τ) arg9 fullShare k0_pay4) s0 s1 -∗ K ⟨⟩))
      ⊢ wp frame (wpE (defs₀ (F := F)) Variants.none c none) E (cc0_gmm1 i tb0 (Memref.isWhole_whole _) tb1 (Memref.isWhole_whole _) arg4 harg4 arg5 harg5 arg6 harg6 arg7 harg7 arg8 harg8 arg9 harg9 arg10 harg10 arg11 harg11) K := by
  simp only [cc0_gmm1_eq_skeleton]; unfold cc0_gmm1_skel Held
  unfold owns
  iintro ⟨⟨⟨%f0, %hf0, H0⟩, ⟨%f1, %hf1, H1⟩, ⟨%f2, %hf2, H2⟩, ⟨%f3, %hf3, H3⟩, ⟨%f4, %hf4, H4⟩, HT0, HT1, ⟨%d5, %f5, -, H5⟩, ⟨%g0, %hg0, HS0⟩, ⟨%g1, %hg1, HS1⟩⟩, Hk⟩
  obtain rfl := harg4.eq_unread hf0; obtain rfl := harg5.eq_unread hf1; obtain rfl := harg6.eq_unread hf2; obtain rfl := harg7.eq_unread hf3
  obtain rfl := harg8.eq_unread hf4; obtain rfl := harg10.eq_unread hg0; obtain rfl := harg11.eq_unread hg1
  have hT0 : tb0.IsWhole := Memref.isWhole_whole _
  have hT1 : tb1.IsWhole := Memref.isWhole_whole _
  sl_exec (disch := first | sl_exact h1 | sl_exact h2 | sl_exact h3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [HT0]; · iexact HT0
  isplitl [HT1]; · iexact HT1
  isplitl [H5]
  · iexists _; isplitr; swap; · iexact H5
    ipureintro
    exact View.read_writes_full _ _ _ _ _
  isplitl [HS0]
  · iexists _; isplitr; · ipureintro; exact harg10.read_unread _
    iexact HS0
  iexists _; isplitr; · ipureintro; exact harg11.read_unread _
  iexact HS1

end Runs

end Cert.GmmIdeal.Body

end
-- ==== Proof.GmmBody.lean ====
/- The grid of the gate and up products at any admissible tables: the tiles in order within each column block, the scratches
   holding at every point the narrowed weights of the tile's expert. -/
module

public import proofs.«01_k».proof.Proof.GmmRun
public import Idealize.ShloMosaic.Lib.WordCmp
public import proofs.«01_k».proof.Proof.Gen.Gmm
public import proofs.«01_k».proof.Proof.Gen.GmmRefIdeal.Run
public import proofs.«01_k».proof.Proof.Gen.Pre_tables3

@[expose] public section

set_option maxRecDepth 16384

noncomputable section

namespace Cert.GmmIdeal.Body

open Cert.GmmIdeal Cert.GmmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Words -/

theorem bit_iff (p : Bool) : Scalar.cmpi .ne (Scalar.extui (BitVec.ofBool p) : BitVec 32) 0#32 = 1#1 ↔ p = true := by
  cases p <;> decide

theorem kept_words (n p q : BitVec 32)
    (h : ¬ Scalar.cmpi .ne (Scalar.extui (Scalar.ori (Scalar.cmpi .eq n 0#32) (Scalar.cmpi .ne p q)) : BitVec 32) 0#32 = 1#1) : n ≠ 0#32 ∧ p = q := by
  have e : Scalar.ori (Scalar.cmpi .eq n 0#32) (Scalar.cmpi .ne p q) = BitVec.ofBool ((n == 0#32) || (p != q)) := by
    show BitVec.ofBool (n == 0#32) ||| BitVec.ofBool (p != q) = _
    cases (n == 0#32) <;> cases (p != q) <;> rfl
  rw [e, bit_iff] at h
  simpa using h

theorem signed_iff {x : BitVec 32} {e : ℤ} : Affine.IsInt x e ↔ x.toInt = e := by unfold Affine.IsInt; exact Iff.rfl

theorem toNat_of_isInt {x : BitVec 32} {e : ℤ} (h : Affine.IsInt x e) (h0 : 0 ≤ e) : x.toNat = e.toNat := by
  rw [signed_iff] at h
  rw [BitVec.toInt_eq_toNat_cond] at h
  have := x.isLt
  split at h <;> omega

theorem min_words (n : ℕ) (v : BitVec 32) (hn : n < 161) (h : 1 ≤ v.toInt) : (Scalar.minsi (BitVec.ofNat 32 n) (Scalar.subi v 1#32)).toNat = (min (n : ℤ) (v.toInt - 1)).toNat := by
  have hv : v.toInt < 2 ^ 31 := BitVec.toInt_lt
  have h1 : Affine.IsInt (Scalar.subi v 1#32) (v.toInt - 1) := Affine.subi (signed_iff.mpr rfl) (Affine.ofNat 1 ⟨rfl, by omega⟩) (by push_cast; omega)
  exact toNat_of_isInt (Affine.minsi (Affine.ofNat n ⟨rfl, by omega⟩) h1 rfl) (by omega)

theorem used_iff (i : grid0.Coords) (v : BitVec 32) : k0_cond2 i v = 1#1 ↔ ((i 1).val : ℤ) < v.toInt := by
  have hi : (i 1).val < 161 := (i 1).isLt
  have e : (BitVec.ofNat 32 (i 1).val).toInt = ((i 1).val : ℤ) := WordCmp.toInt_ofNat_of_lt (by omega)
  have h := bit_iff ((BitVec.ofNat 32 (i 1).val).slt v)
  refine (show k0_cond2 i v = 1#1 ↔ _ from h).trans ?_
  rw [BitVec.slt_eq_decide, decide_eq_true_eq, e]

theorem spare_iff (i : grid0.Coords) (v : BitVec 32) : k0_cond3 i v = 1#1 ↔ ¬ ((i 1).val : ℤ) < v.toInt := by
  have hi : (i 1).val < 161 := (i 1).isLt
  have e : (BitVec.ofNat 32 (i 1).val).toInt = ((i 1).val : ℤ) := WordCmp.toInt_ofNat_of_lt (by omega)
  have h := bit_iff (v.sle (BitVec.ofNat 32 (i 1).val))
  refine (show k0_cond3 i v = 1#1 ↔ _ from h).trans ?_
  rw [BitVec.sle_eq_decide, decide_eq_true_eq, e, not_lt]

variable (m : (ℓ : Loc nD τ sig) → Buf (Elt F) ℓ) (ρ : Dev nD → PrngReg) (a : (pcfg0 (F := F)).Adm)

/-- The grid at the tables. -/
abbrev cfgA : Cfg sig Λ₀ := cfg0 a

/-- Tile `n`'s expert, and the count of used tiles. -/
def expert (n : Fin 161) : BitVec 32 := a.1 0 (ix1 n)
def count : BitVec 32 := a.1 1 (ix1 0)

/-- The tile of a point. -/
abbrev tile (n : ℕ) : Fin 161 := ⟨n % 161, Nat.mod_lt _ (by decide)⟩

theorem lt_all (t : Fin grid0.N) : t.val < 644 := Nat.lt_of_lt_of_eq t.isLt N_0

theorem crd0 (t : Fin grid0.N) : (grid0.coords t 0).val = t.val / 161 := by
  have := lt_all t
  have e : (grid0.coords t 0).val = t.val / 161 % 4 := Pipeline.Grid.coords_val t 0 (by decide) rfl
  omega
theorem crd1 (t : Fin grid0.N) : (grid0.coords t 1).val = t.val % 161 := by
  have e : (grid0.coords t 1).val = t.val / 1 % 161 := Pipeline.Grid.coords_val t 1 (by decide) rfl
  omega

theorem off1_val (t : Fin grid0.N) : k0_off1 (grid0.coords t) 0 = t.val % 161 := by
  show (Scalar.indexCast (BitVec.ofNat 32 (grid0.coords t 1).val) : BitVec 32).toNat = _
  rw [crd1]
  show (BitVec.ofNat 32 (t.val % 161)).toNat = _
  rw [BitVec.toNat_ofNat, Nat.mod_eq_of_lt (by omega)]

theorem here_eq (t : Fin grid0.N) : here (F := F) (a.1 0) (grid0.coords t) = expert a (tile t.val) := by
  refine congrArg (a.1 0) (funext fun z => Fin.ext ?_)
  fin_cases z
  exact (Nat.add_zero _).trans (off1_val t)

theorem off2_val (t : Fin grid0.N) (h : t.val % 161 ≠ 0) : k0_off2 (grid0.coords t) 0 = (t.val - 1) % 161 := by
  have ht := lt_all t
  have e : k0_off2 (grid0.coords t) 0 = (Scalar.maxsi (Scalar.subi (BitVec.ofNat 32 (grid0.coords t 1).val) 1#32) 0#32).toNat := rfl
  rw [e, crd1]
  have h1 : Affine.IsInt (Scalar.subi (BitVec.ofNat 32 (t.val % 161)) 1#32) ((t.val % 161 : ℕ) - 1 : ℤ) :=
    Affine.subi (Affine.ofNat _ ⟨rfl, by omega⟩) (Affine.ofNat 1 ⟨rfl, by omega⟩) (by push_cast; omega)
  have h2 := Affine.maxsi h1 (Affine.ofNat 0 ⟨rfl, by omega⟩) rfl
  rw [toNat_of_isInt h2 (by omega)]
  omega

theorem back_eq (t : Fin grid0.N) (h : t.val % 161 ≠ 0) : back (F := F) (a.1 0) (grid0.coords t) = expert a (tile (t.val - 1)) := by
  refine congrArg (a.1 0) (funext fun z => Fin.ext ?_)
  fin_cases z
  exact (Nat.add_zero _).trans (off2_val t h)

theorem used_eq : used (F := F) (a.1 1) = count a := by
  refine congrArg (a.1 1) (funext fun z => Fin.ext ?_)
  fin_cases z
  rfl

theorem kept_at (t : Fin grid0.N) (h : ¬ Fresh (F := F) (a.1 0) (grid0.coords t)) :
    t.val % 161 ≠ 0 ∧ expert a (tile (t.val - 1)) = expert a (tile t.val) := by
  obtain ⟨hn, he⟩ := kept_words _ _ _ h
  have h0 : t.val % 161 ≠ 0 := fun e => hn (by rw [crd1, e])
  exact ⟨h0, by rw [← back_eq a t h0, ← he, here_eq]⟩

/-! ## The blocks -/

theorem index1 (t : Fin grid0.N) : ((cfg0 a).win 1).index t = ![(expert a (tile t.val)).toNat, 0, t.val / 161] := by
  have ht := lt_all t
  show cc0_transform_1 k0_off1_inb numel1_S1 a.1 (grid0.coords t) = _
  have e : cc0_transform_1 k0_off1_inb numel1_S1 a.1 (grid0.coords t) = ![(here (F := F) (a.1 0) (grid0.coords t)).toNat, 0, (BitVec.ofNat 32 (grid0.coords t 0).val).toNat] := rfl
  rw [e, here_eq, crd0, BitVec.toNat_ofNat, Nat.mod_eq_of_lt (by omega)]
theorem index2 (t : Fin grid0.N) : ((cfg0 a).win 2).index t = ![(expert a (tile t.val)).toNat, 0, t.val / 161] := index1 a t
theorem index3 (t : Fin grid0.N) : ((cfg0 a).win 3).index t = ![(expert a (tile t.val)).toNat, 0, t.val / 161] := index1 a t
theorem index4 (t : Fin grid0.N) : ((cfg0 a).win 4).index t = ![(expert a (tile t.val)).toNat, 0, t.val / 161] := index1 a t
theorem index5 (t : Fin grid0.N) : ((cfg0 a).win 5).index t = ![t.val % 161, t.val / 161] := by
  have ht := lt_all t
  show ![(BitVec.ofNat 32 (grid0.coords t 1).val).toNat, (BitVec.ofNat 32 (grid0.coords t 0).val).toNat] = _
  rw [crd0, crd1, WordCmp.toNat_ofNat_of_lt (by omega), WordCmp.toNat_ofNat_of_lt (by omega)]

theorem index0 (t : Fin grid0.N) (h : ((t.val % 161 : ℕ) : ℤ) < (count a).toInt) : ((cfg0 a).win 0).index t = ![t.val % 161, 0] := by
  show cc0_transform_0 inb_S1_S1_0 numel1_S1 a.1 (grid0.coords t) = _
  have e : cc0_transform_0 inb_S1_S1_0 numel1_S1 a.1 (grid0.coords t)
    = ![(Scalar.minsi (BitVec.ofNat 32 (grid0.coords t 1).val) (Scalar.subi (used (F := F) (a.1 1)) 1#32)).toNat, 0] := rfl
  rw [e, used_eq, crd1, min_words _ _ (Nat.mod_lt _ (by decide)) (by omega)]
  congr 1
  omega

def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (m ((c : Thread nD τ).loc (Pipeline.arrRef spec0 w)))

/-- The point before. -/
abbrev prev (t : Fin grid0.N) : Fin grid0.N := ⟨t.val - 1, Nat.lt_of_le_of_lt (Nat.sub_le _ _) t.isLt⟩

theorem iblk1_prev (c : Dev nD) (t : Fin grid0.N) (h : ¬ Fresh (F := F) (a.1 0) (grid0.coords t)) : iblk m a c 1 (prev t) = iblk m a c 1 t := by
  obtain ⟨h0, he⟩ := kept_at a t h
  have hp : (prev t).val / 161 = t.val / 161 := by show (t.val - 1) / 161 = _; omega
  have hi : ((cfg0 a).win 1).index (prev t) = ((cfg0 a).win 1).index t := by rw [index1, index1, he, hp]
  funext y
  blk_ext [iblk, hi]

theorem iblk2_prev (c : Dev nD) (t : Fin grid0.N) (h : ¬ Fresh (F := F) (a.1 0) (grid0.coords t)) : iblk m a c 2 (prev t) = iblk m a c 2 t := by
  obtain ⟨h0, he⟩ := kept_at a t h
  have hp : (prev t).val / 161 = t.val / 161 := by show (t.val - 1) / 161 = _; omega
  have hi : ((cfg0 a).win 2).index (prev t) = ((cfg0 a).win 2).index t := by rw [index2, index2, he, hp]
  funext y
  blk_ext [iblk, hi]

end Cert.GmmIdeal.Body

end
-- ==== Proof.GmmPoints.lean ====
/- The grid's points: what is carried, the body's obligation, the run. -/
module

public import proofs.«01_k».proof.Proof.GmmBody

@[expose] public section

set_option maxRecDepth 16384

noncomputable section

namespace Cert.GmmIdeal.Body

open Cert.GmmIdeal Cert.GmmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (a : (pcfg0 (F := F)).Adm)

/-! ## The points -/

abbrev scr0 : Memref sig .tc .vmem S2048x512 .bf16 := Memref.whole cc0_scratch0
abbrev scr1 : Memref sig .tc .vmem S2048x512 .bf16 := Memref.whole cc0_scratch1

/-- A tile's result: the gated product for a used tile, zero for an unused one. -/
def result (c : Dev nD) (t : Fin grid0.N) : Vec F S512x512 .bf16 :=
  if k0_cond2 (grid0.coords t) (count a) = 1#1 then k0_pay3 (iblk m a c 0 t) (k0_pay1 (iblk m a c 1 t)) (iblk m a c 3 t) (k0_pay2 (iblk m a c 2 t)) (iblk m a c 4 t) else k0_pay4

theorem result_used (c : Dev nD) (t : Fin grid0.N) (h : k0_cond2 (grid0.coords t) (count a) = 1#1) :
    result m a c t = k0_pay3 (iblk m a c 0 t) (k0_pay1 (iblk m a c 1 t)) (iblk m a c 3 t) (k0_pay2 (iblk m a c 2 t)) (iblk m a c 4 t) := by
  unfold result; exact if_pos h
theorem result_spare (c : Dev nD) (t : Fin grid0.N) (h : ¬ k0_cond2 (grid0.coords t) (count a) = 1#1) : result m a c t = k0_pay4 := by
  unfold result; exact if_neg h

theorem tabs_eq (c : Dev nD) : (Pipeline.ΦT pre0 a.1 c : sProp 𝕄)
    = iprop((tb0.view.loc (c : Thread nD τ) ↦{fullShare.right} (a.1 0)) ∗ (tb1.view.loc (c : Thread nD τ) ↦{fullShare.right} (a.1 1))) := by
  unfold Pipeline.ΦT Pipeline.prefHeld
  rw [show (Finset.univ : Finset (Fin 2)) = insert (0 : Fin 2) {(1 : Fin 2)} from by decide, bigSep_insert (by decide), bigSep_singleton]
  rfl

/-- The point a position comes after. -/
def after (n : Fin (grid0.N + 1)) (h : ¬ n.val = 0) : Fin grid0.N := ⟨n.val - 1, by have := n.isLt; omega⟩

theorem after_succ (t : Fin grid0.N) (h) : after t.succ h = t := Fin.ext (by show t.succ.val - 1 = _; rw [Fin.val_succ]; omega)
theorem after_castSucc (t : Fin grid0.N) (h) : after t.castSucc h = prev t := Fin.ext rfl

/-- After a point the scratches hold its expert's narrowed weights. -/
def narrowed (c : Dev nD) (t : Fin grid0.N) : sProp 𝕄 :=
  iprop((owns (c : Thread nD τ) scr0 fullShare (k0_pay1 (iblk m a c 1 t)) ∗ owns (c : Thread nD τ) scr1 fullShare (k0_pay2 (iblk m a c 2 t))) ∗ (∃ r, prngReg c r))

theorem narrowed_prev (c : Dev nD) (t : Fin grid0.N) (h : ¬ Fresh (F := F) (a.1 0) (grid0.coords t)) : narrowed m a c (prev t) = narrowed m a c t := by
  unfold narrowed
  rw [iblk1_prev m a c t h, iblk2_prev m a c t h]

/-- What is carried between the points: before the first anything, after each the tile's expert's narrowed weights; and
    the tables. -/
def carried (c : Dev nD) (n : Fin (grid0.N + 1)) : sProp 𝕄 :=
  iprop((if h : n.val = 0 then Pipeline.ΦA spec0 c else narrowed m a c (after n h)) ∗ Pipeline.ΦT pre0 a.1 c)

theorem carried_zero (c : Dev nD) : carried m a c 0 = iprop(Pipeline.ΦA spec0 c ∗ Pipeline.ΦT pre0 a.1 c) := by
  unfold carried; rw [dif_pos (Fin.val_zero _)]
theorem carried_succ (c : Dev nD) (t : Fin grid0.N) : carried m a c t.succ = iprop(narrowed m a c t ∗ Pipeline.ΦT pre0 a.1 c) := by
  unfold carried; rw [dif_neg (by rw [Fin.val_succ]; omega), after_succ]
theorem carried_castSucc (c : Dev nD) (t : Fin grid0.N) (h : ¬ t.val = 0) :
    carried m a c t.castSucc = iprop(narrowed m a c (prev t) ∗ Pipeline.ΦT pre0 a.1 c) := by
  unfold carried; rw [dif_neg (by rw [Fin.val_castSucc]; exact h), after_castSucc]

theorem any_eq (c : Dev nD) :
    (Pipeline.ΦA spec0 c : sProp 𝕄) = iprop(((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

theorem carried_any (c : Dev nD) (n : Fin (grid0.N + 1)) : carried m a c n ⊢ (iprop(Pipeline.ΦA spec0 c ∗ Pipeline.ΦT pre0 a.1 c) : sProp 𝕄) := by
  unfold carried
  by_cases h : n.val = 0
  · rw [dif_pos h]
  · rw [dif_neg h, any_eq]
    unfold narrowed
    iintro ⟨⟨⟨HS0, HS1⟩, Hg⟩, HT⟩
    isplitr [HT]
    · isplitr [Hg]
      · isplitl [HS0]
        · iexists _; iexact HS0
        · iexists _; iexact HS1
      iexact Hg
    iexact HT

theorem carried_some (c : Dev nD) (n : Fin (grid0.N + 1)) :
    carried m a c n ⊢ (iprop((((∃ d, owns (c : Thread nD τ) scr0 fullShare d) ∗ (∃ d, owns (c : Thread nD τ) scr1 fullShare d)) ∗ (∃ r, prngReg c r))
      ∗ (tb0.view.loc (c : Thread nD τ) ↦{fullShare.right} (a.1 0)) ∗ (tb1.view.loc (c : Thread nD τ) ↦{fullShare.right} (a.1 1))) : sProp 𝕄) :=
  (carried_any m a c n).trans (Entails.of_eq (by rw [any_eq, tabs_eq]))

def dats (_ : Fin 1) (c : Dev nD) : Dat τ (Elt F) Unit ℕ (UR sig nD τ) ℕ (cfg0 a) c where
  A w := m ((c : Thread nD τ).loc (Pipeline.arrRef spec0 w))
  after w t := match w with
    | ⟨0, _⟩ => iblk m a c 0 t
    | ⟨1, _⟩ => iblk m a c 1 t
    | ⟨2, _⟩ => iblk m a c 2 t
    | ⟨3, _⟩ => iblk m a c 3 t
    | ⟨4, _⟩ => iblk m a c 4 t
    | ⟨5, _⟩ => result m a c t
  Φ n := carried m a c n
  q _ := fullShare
  owed _ := 0

theorem A_eq (c : Dev nD) (w : Fin (cfg0 a).W) : (dats m a 0 c).A w = m ((c : Thread nD τ).loc (Pipeline.arrRef spec0 w)) := by
  dsimp only [dats]
theorem after0_0 (c : Dev nD) (t : Fin (cfg0 a).N) : (dats m a 0 c).after 0 t = iblk m a c 0 t := rfl
theorem after0_1 (c : Dev nD) (t : Fin (cfg0 a).N) : (dats m a 0 c).after 1 t = iblk m a c 1 t := rfl
theorem after0_2 (c : Dev nD) (t : Fin (cfg0 a).N) : (dats m a 0 c).after 2 t = iblk m a c 2 t := rfl
theorem after0_3 (c : Dev nD) (t : Fin (cfg0 a).N) : (dats m a 0 c).after 3 t = iblk m a c 3 t := rfl
theorem after0_4 (c : Dev nD) (t : Fin (cfg0 a).N) : (dats m a 0 c).after 4 t = iblk m a c 4 t := rfl
theorem after0_5 (c : Dev nD) (t : Fin (cfg0 a).N) : (dats m a 0 c).after 5 t = result m a c t := rfl
theorem Phi_eq (c : Dev nD) (n : Fin ((cfg0 a).N + 1)) : (dats m a 0 c).Φ n = carried m a c n := by dsimp only [dats]

theorem before0_0 (c : Dev nD) (t : Fin (cfg0 a).N) (d) : (dats m a 0 c).before 0 t d = iblk m a c 0 t :=
  ((dats m a 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfg0 a).N) (d) : (dats m a 0 c).before 1 t d = iblk m a c 1 t :=
  ((dats m a 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfg0 a).N) (d) : (dats m a 0 c).before 2 t d = iblk m a c 2 t :=
  ((dats m a 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin (cfg0 a).N) (d) : (dats m a 0 c).before 3 t d = iblk m a c 3 t :=
  ((dats m a 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin (cfg0 a).N) (d) : (dats m a 0 c).before 4 t d = iblk m a c 4 t :=
  ((dats m a 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-- The body stores the result's block at every point. -/
theorem never_idle (t : Fin (cfg0 a).N) : (cfg0 a).idle 5 ((cfg0 a).grid.coords t) = false := by
  have e : (a.1 : pre0.Contents (Elt F)).atD 1 ![0] = count a := by
    unfold Pipeline.Prefetch.Contents.atD
    split
    · refine congrArg (a.1 1) (funext fun z => Fin.ext ?_)
      fin_cases z
      rfl
    · next hn => exact absurd (fun z => by fin_cases z; exact Nat.zero_lt_one) hn
  show (!(k0_cond2 (grid0.coords t) ((a.1 : pre0.Contents (Elt F)).atD 1 ![0]) == 1#1) && !(k0_cond3 (grid0.coords t) ((a.1 : pre0.Contents (Elt F)).atD 1 ![0]) == 1#1)) = false
  rw [e]
  by_cases h : ((grid0.coords t 1).val : ℤ) < (count a).toInt
  · rw [(used_iff _ _).mpr h]; rfl
  · rw [(spare_iff _ _).mpr h]; simp

theorem leaves0_5 (c : Dev nD) (t : Fin (cfg0 a).N) : (dats m a 0 c).leavesExact 5 t = owns (c : Thread nD τ) (spec0_5.stage ((cfg0 a).slots t 5)) fullShare (result m a c t) := by
  unfold Dat.leavesExact
  rw [never_idle a t, after0_5]; rfl

theorem leaves_used (c : Dev nD) (t : Fin (cfg0 a).N) (h : k0_cond2 (grid0.coords t) (count a) = 1#1) :
    owns (c : Thread nD τ) (spec0_5.stage ((cfg0 a).slots t 5)) fullShare (k0_pay3 (iblk m a c 0 t) (k0_pay1 (iblk m a c 1 t)) (iblk m a c 3 t) (k0_pay2 (iblk m a c 2 t)) (iblk m a c 4 t))
      ⊢ (dats m a 0 c).leavesExact 5 t :=
  Entails.of_eq (((leaves0_5 m a c t).trans (congrArg (owns (c : Thread nD τ) (spec0_5.stage ((cfg0 a).slots t 5)) fullShare) (result_used m a c t h))).symm)
theorem leaves_spare (c : Dev nD) (t : Fin (cfg0 a).N) (h : ¬ k0_cond2 (grid0.coords t) (count a) = 1#1) :
    owns (c : Thread nD τ) (spec0_5.stage ((cfg0 a).slots t 5)) fullShare (k0_pay4 (F := F)) ⊢ (dats m a 0 c).leavesExact 5 t :=
  Entails.of_eq (((leaves0_5 m a c t).trans (congrArg (owns (c : Thread nD τ) (spec0_5.stage ((cfg0 a).slots t 5)) fullShare) (result_spare m a c t h))).symm)

abbrev bodyAt (t : Fin (cfg0 a).N) : Prog (TpuEff nD τ sig (Elt F) Λ₀ .tc) PUnit :=
  defs₀ (F := F) .tc (cfg0 a).body ((cfg0 a).bodyArgs t ((cfg0 a).slots t))

def bodyPre (c : Dev nD) (t : Fin (cfg0 a).N) : sProp 𝕄 :=
  iprop((dats m a 0 c).Φ t.castSucc ∗ (dats m a 0 c).owesAt () t.castSucc
    ∗ (∃ d, owns (c : Thread nD τ) (spec0_0.stage ((cfg0 a).slots t 0)) fullShare ((dats m a 0 c).before 0 t d))
    ∗ (∃ d, owns (c : Thread nD τ) (spec0_1.stage ((cfg0 a).slots t 1)) fullShare ((dats m a 0 c).before 1 t d))
    ∗ (∃ d, owns (c : Thread nD τ) (spec0_2.stage ((cfg0 a).slots t 2)) fullShare ((dats m a 0 c).before 2 t d))
    ∗ (∃ d, owns (c : Thread nD τ) (spec0_3.stage ((cfg0 a).slots t 3)) fullShare ((dats m a 0 c).before 3 t d))
    ∗ (∃ d, owns (c : Thread nD τ) (spec0_4.stage ((cfg0 a).slots t 4)) fullShare ((dats m a 0 c).before 4 t d))
    ∗ (∃ d, owns (c : Thread nD τ) (spec0_5.stage ((cfg0 a).slots t 5)) fullShare ((dats m a 0 c).before 5 t d)))

def bodyPost (c : Dev nD) (t : Fin (cfg0 a).N) : sProp 𝕄 :=
  iprop((dats m a 0 c).Φ t.succ ∗ (dats m a 0 c).owesAt () t.succ
    ∗ owns (c : Thread nD τ) (spec0_0.stage ((cfg0 a).slots t 0)) fullShare ((dats m a 0 c).after 0 t)
    ∗ owns (c : Thread nD τ) (spec0_1.stage ((cfg0 a).slots t 1)) fullShare ((dats m a 0 c).after 1 t)
    ∗ owns (c : Thread nD τ) (spec0_2.stage ((cfg0 a).slots t 2)) fullShare ((dats m a 0 c).after 2 t)
    ∗ owns (c : Thread nD τ) (spec0_3.stage ((cfg0 a).slots t 3)) fullShare ((dats m a 0 c).after 3 t)
    ∗ owns (c : Thread nD τ) (spec0_4.stage ((cfg0 a).slots t 4)) fullShare ((dats m a 0 c).after 4 t)
    ∗ (dats m a 0 c).leavesExact 5 t)

set_option maxHeartbeats 2000000 in
theorem sound_body (c : Dev nD) (t : Fin (cfg0 a).N) :
    bodyPre m a c t ⊢ wp frame (wpE (defs₀ (F := F)) Variants.none c none) Set.univ (bodyAt a t) (fun _ => bodyPost m a c t) := by
  unfold bodyPre bodyPost bodyAt
  rw [show defs₀ (F := F) .tc (cfg0 a).body ((cfg0 a).bodyArgs t ((cfg0 a).slots t)) = _ from by unfold defs₀; rw [Defs.onTc_tc]]
  simp only [before0_0, before0_1, before0_2, before0_3, before0_4]
  rw [show (dats m a 0 c).owesAt () t.succ = (dats m a 0 c).owesAt () t.castSucc from rfl,
    after0_0, after0_1, after0_2, after0_3, after0_4, Phi_eq, Phi_eq, carried_succ, tabs_eq]
  have hu := used_iff (grid0.coords t) (count a)
  have hs := spare_iff (grid0.coords t) (count a)
  by_cases hf : Fresh (F := F) (a.1 0) (grid0.coords t)
  · iintro ⟨HΦ, Ho, ⟨%d0, H0⟩, ⟨%d1, H1⟩, ⟨%d2, H2⟩, ⟨%d3, H3⟩, ⟨%d4, H4⟩, ⟨%d5, H5⟩⟩
    unfold narrowed
    ihave ⟨⟨⟨⟨%e0, HS0⟩, ⟨%e1, HS1⟩⟩, Hg⟩, HT0, HT1⟩ := (carried_some m a c t.castSucc) $$ HΦ
    by_cases h2 : ((grid0.coords t 1).val : ℤ) < (count a).toInt
    · iapply (run_fresh_used c (grid0.coords t) _ _ _ _ _ _ _ _ _ _ _ _ _ _ _ _ (a.1 0) (a.1 1) (iblk m a c 0 t) (iblk m a c 1 t) (iblk m a c 2 t) (iblk m a c 3 t) (iblk m a c 4 t) e0 e1 fullShare.right hf
        (by rw [used_eq]; exact hu.mpr h2) (by rw [used_eq]; exact fun h => hs.mp h h2) Set.univ _)
      unfold Held
      isplitr [Ho Hg]
      · isplitl [H0]; · iexact H0
        isplitl [H1]; · iexact H1
        isplitl [H2]; · iexact H2
        isplitl [H3]; · iexact H3
        isplitl [H4]; · iexact H4
        isplitl [HT0]; · iexact HT0
        isplitl [HT1]; · iexact HT1
        isplitl [H5]; · iexists _; iexact H5
        isplitl [HS0]; · iexact HS0
        iexact HS1
      iintro ⟨H0, H1, H2, H3, H4, HT0, HT1, H5, HS0, HS1⟩
      isplitl [HS0 HS1 Hg HT0 HT1]
      · isplitl [HS0 HS1 Hg]
        · isplitl [HS0 HS1]
          · isplitl [HS0]; · iexact HS0
            iexact HS1
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      iapply (leaves_used m a c t (hu.mpr h2))
      iexact H5
    · iapply (run_fresh_spare c (grid0.coords t) _ _ _ _ _ _ _ _ _ _ _ _ _ _ _ _ (a.1 0) (a.1 1) (iblk m a c 0 t) (iblk m a c 1 t) (iblk m a c 2 t) (iblk m a c 3 t) (iblk m a c 4 t) e0 e1 fullShare.right hf
        (by rw [used_eq]; exact fun h => h2 (hu.mp h)) (by rw [used_eq]; exact hs.mpr h2) Set.univ _)
      unfold Held
      isplitr [Ho Hg]
      · isplitl [H0]; · iexact H0
        isplitl [H1]; · iexact H1
        isplitl [H2]; · iexact H2
        isplitl [H3]; · iexact H3
        isplitl [H4]; · iexact H4
        isplitl [HT0]; · iexact HT0
        isplitl [HT1]; · iexact HT1
        isplitl [H5]; · iexists _; iexact H5
        isplitl [HS0]; · iexact HS0
        iexact HS1
      iintro ⟨H0, H1, H2, H3, H4, HT0, HT1, H5, HS0, HS1⟩
      isplitl [HS0 HS1 Hg HT0 HT1]
      · isplitl [HS0 HS1 Hg]
        · isplitl [HS0 HS1]
          · isplitl [HS0]; · iexact HS0
            iexact HS1
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      iapply (leaves_spare m a c t fun h => h2 (hu.mp h))
      iexact H5
  · have h0 := (kept_at a t hf).1
    rw [carried_castSucc m a c t (by rintro e; rw [e] at h0; exact h0 rfl), narrowed_prev m a c t hf, tabs_eq]
    unfold narrowed
    iintro ⟨⟨⟨⟨HS0, HS1⟩, Hg⟩, HT0, HT1⟩, Ho, ⟨%d0, H0⟩, ⟨%d1, H1⟩, ⟨%d2, H2⟩, ⟨%d3, H3⟩, ⟨%d4, H4⟩, ⟨%d5, H5⟩⟩
    by_cases h2 : ((grid0.coords t 1).val : ℤ) < (count a).toInt
    · iapply (run_kept_used c (grid0.coords t) _ _ _ _ _ _ _ _ _ _ _ _ _ _ _ _ (a.1 0) (a.1 1) (iblk m a c 0 t) (iblk m a c 1 t) (iblk m a c 2 t) (iblk m a c 3 t) (iblk m a c 4 t)
        (k0_pay1 (iblk m a c 1 t)) (k0_pay2 (iblk m a c 2 t)) fullShare.right hf
        (by rw [used_eq]; exact hu.mpr h2) (by rw [used_eq]; exact fun h => hs.mp h h2) Set.univ _)
      unfold Held
      isplitr [Ho Hg]
      · isplitl [H0]; · iexact H0
        isplitl [H1]; · iexact H1
        isplitl [H2]; · iexact H2
        isplitl [H3]; · iexact H3
        isplitl [H4]; · iexact H4
        isplitl [HT0]; · iexact HT0
        isplitl [HT1]; · iexact HT1
        isplitl [H5]; · iexists _; iexact H5
        isplitl [HS0]; · iexact HS0
        iexact HS1
      iintro ⟨H0, H1, H2, H3, H4, HT0, HT1, H5, HS0, HS1⟩
      isplitl [HS0 HS1 Hg HT0 HT1]
      · isplitl [HS0 HS1 Hg]
        · isplitl [HS0 HS1]
          · isplitl [HS0]; · iexact HS0
            iexact HS1
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      iapply (leaves_used m a c t (hu.mpr h2))
      iexact H5
    · iapply (run_kept_spare c (grid0.coords t) _ _ _ _ _ _ _ _ _ _ _ _ _ _ _ _ (a.1 0) (a.1 1) (iblk m a c 0 t) (iblk m a c 1 t) (iblk m a c 2 t) (iblk m a c 3 t) (iblk m a c 4 t)
        (k0_pay1 (iblk m a c 1 t)) (k0_pay2 (iblk m a c 2 t)) fullShare.right hf
        (by rw [used_eq]; exact fun h => h2 (hu.mp h)) (by rw [used_eq]; exact hs.mpr h2) Set.univ _)
      unfold Held
      isplitr [Ho Hg]
      · isplitl [H0]; · iexact H0
        isplitl [H1]; · iexact H1
        isplitl [H2]; · iexact H2
        isplitl [H3]; · iexact H3
        isplitl [H4]; · iexact H4
        isplitl [HT0]; · iexact HT0
        isplitl [HT1]; · iexact HT1
        isplitl [H5]; · iexists _; iexact H5
        isplitl [HS0]; · iexact HS0
        iexact HS1
      iintro ⟨H0, H1, H2, H3, H4, HT0, HT1, H5, HS0, HS1⟩
      isplitl [HS0 HS1 Hg HT0 HT1]
      · isplitl [HS0 HS1 Hg]
        · isplitl [HS0 HS1]
          · isplitl [HS0]; · iexact HS0
            iexact HS1
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      iapply (leaves_spare m a c t fun h => h2 (hu.mp h))
      iexact H5

theorem body_obligation (c : Dev nD) : BodyObligation (dats (F := F) m a 0 c) (defs₀ (F := F)) Variants.none () Set.univ := fun t => by
  rw [bigSep_W0, bigSep_W0]
  exact triple_restated (sound_body m a c t) rfl .rfl fun _ => .rfl

/-! ## The run -/

/-- The tables are the launch's. -/
def Fits : Prop := ∀ (c : Dev nD) k, m ((c : Thread nD τ).loc (pre0.ref k)) = a.1 k

set_option backward.isDefEq.respectTransparency.types false in
theorem run_main_quiescent (hfit : Fits m a) : θ_run defs (onTc (τ := τ) (main (F := F))) (s₀ m ρ)
    (fun r => (Pipeline.FramePost (Pipeline.pin pcfgs fun _ => a) (dats m a) 0 (fun c b => m ((c : Thread nD τ).loc b))) r ∧ r.2.sem = fun _ => 0) :=
  Pipeline.θ_run_frameP_track (Q' := _) pcfgs (fun _ => a) (dats m a) (0 : Fin 1) launch0 defs₀ Variants.none m ρ main
    (hbody := fun c => (body_obligation m a c).loose) (hshare := fun c => (dats m a 0 c).share_full fun _ => rfl)
    (howed := fun _ _ => rfl) (V := fun c b => m ((c : Thread nD τ).loc b))
    (hmain := Pipeline.hmainP_region pcfgs 0 defs₀ Variants.none m main fun _ => rfl) (hA := A_eq m a) (hpf := hfit)
    (hin := fun c => by rw [Phi_eq, carried_zero]) (hout := fun c => by rw [Phi_eq]; exact (carried_any m a c _).trans (by iintro ⟨H, -⟩; iexact H))

theorem run_main (hfit : Fits m a) : θ_run defs (onTc (τ := τ) (main (F := F))) (s₀ m ρ)
    (Pipeline.FramePost (Pipeline.pin pcfgs fun _ => a) (dats m a) 0 (fun c b => m ((c : Thread nD τ).loc b))) :=
  (θ_run defs _ _).mono (fun _ h => h.1) (run_main_quiescent m ρ a hfit)

end Cert.GmmIdeal.Body

end
-- ==== Proof.GmmFrame.lean ====
/- The frame: in-range tables are admissible, and the run leaves the arguments. -/
module

public import proofs.«01_k».proof.Proof.GmmPoints
public import proofs.«01_k».proof.Proof.Gen.Pre_tables3
public import Idealize.ShloMosaic.Lib.ReduceAll

@[expose] public section

set_option maxRecDepth 16384

noncomputable section

namespace Cert.GmmIdeal.Body

open Cert.GmmIdeal Cert.GmmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tables in range: every expert one of the 32, one used tile at least. -/
def Ranged (T0 : S161.Idx → BitVec 32) (T1 : S1.Idx → BitVec 32) : Prop := (∀ x, (T0 x).toNat < 32) ∧ ∀ x, 1 ≤ (T1 x).toInt

theorem weights_fit (T0 : S161.Idx → BitVec 32) (h : ∀ x, (T0 x).toNat < 32) (i : grid0.Coords) :
    ∀ z : Fin 3, ((![(here (F := F) T0 i).toNat, (0#32 : BitVec 32).toNat, (BitVec.ofNat 32 (i 0).val).toNat] : Fin 3 → ℕ) z + 1) * S1x2048x512.size z ≤ S32x2048x2048.size z := by
  have hv : (here (F := F) T0 i).toNat < 32 := h _
  have hi : (i 0).val < 4 := (i 0).isLt
  have hj : (BitVec.ofNat 32 (i 0).val).toNat = (i 0).val := WordCmp.toNat_ofNat_of_lt (by omega)
  intro z
  fin_cases z
  · show ((here (F := F) T0 i).toNat + 1) * 1 ≤ 32; omega
  · show (0 + 1) * 2048 ≤ 2048; omega
  · show ((BitVec.ofNat 32 (i 0).val).toNat + 1) * 512 ≤ 2048; omega

theorem biases_fit (T0 : S161.Idx → BitVec 32) (h : ∀ x, (T0 x).toNat < 32) (i : grid0.Coords) :
    ∀ z : Fin 3, ((![(here (F := F) T0 i).toNat, (0#32 : BitVec 32).toNat, (BitVec.ofNat 32 (i 0).val).toNat] : Fin 3 → ℕ) z + 1) * S1x1x512.size z ≤ S32x1x2048.size z := by
  have hv : (here (F := F) T0 i).toNat < 32 := h _
  have hi : (i 0).val < 4 := (i 0).isLt
  have hj : (BitVec.ofNat 32 (i 0).val).toNat = (i 0).val := WordCmp.toNat_ofNat_of_lt (by omega)
  intro z
  fin_cases z
  · show ((here (F := F) T0 i).toNat + 1) * 1 ≤ 32; omega
  · show (0 + 1) * 1 ≤ 1; omega
  · show ((BitVec.ofNat 32 (i 0).val).toNat + 1) * 512 ≤ 2048; omega

theorem rows_fit (T1 : S1.Idx → BitVec 32) (h : ∀ x, 1 ≤ (T1 x).toInt) (i : grid0.Coords) :
    ∀ z : Fin 2, ((![(Scalar.minsi (BitVec.ofNat 32 (i 1).val) (Scalar.subi (used (F := F) T1) 1#32)).toNat, (0#32 : BitVec 32).toNat] : Fin 2 → ℕ) z + 1) * S512x2048.size z ≤ S82432x2048.size z := by
  have hi : (i 1).val < 161 := (i 1).isLt
  have hv : (Scalar.minsi (BitVec.ofNat 32 (i 1).val) (Scalar.subi (used (F := F) T1) 1#32)).toNat = _ := min_words _ _ hi (h _)
  intro z
  fin_cases z
  · show ((Scalar.minsi (BitVec.ofNat 32 (i 1).val) (Scalar.subi (used (F := F) T1) 1#32)).toNat + 1) * 512 ≤ 82432
    rw [hv]
    omega
  · show (0 + 1) * 2048 ≤ 2048; omega

theorem ok_of_ranged (pf : pre0.Contents (Elt F)) (h : Ranged (pf 0) (pf 1)) : ok0 pf :=
  ⟨fun i => ⟨rows_fit (F := F) (pf 1) h.2 i, .inr (Affine.block_words_dvd (of_decide_eq_true rfl) (by decide))⟩,
    fun i => ⟨weights_fit (F := F) (pf 0) h.1 i, .inl rfl⟩, fun i => ⟨weights_fit (F := F) (pf 0) h.1 i, .inl rfl⟩,
    fun i => ⟨biases_fit (F := F) (pf 0) h.1 i, .inl rfl⟩, fun i => ⟨biases_fit (F := F) (pf 0) h.1 i, .inl rfl⟩⟩

variable (m : (ℓ : Loc nD τ sig) → Buf (Elt F) ℓ) (ρ : Dev nD → PrngReg)

/-- The launch's tables. -/
abbrev tabs : pre0.Contents (Elt F) := fun k => m (((0 : Dev nD) : Thread nD τ).loc (pre0.ref k))

/-- The launch's tables in range. -/
abbrev InRange : Prop := Ranged (m (((0 : Dev nD) : Thread nD τ).loc main_arg0)) (m (((0 : Dev nD) : Thread nD τ).loc main_arg1))

abbrev adm (h : InRange m) : (pcfg0 (F := F)).Adm := ⟨tabs m, ok_of_ranged (tabs m) h⟩

theorem fits (h : InRange m) : Fits m (adm m h) := fun c k => by
  obtain rfl : c = 0 := Subsingleton.elim _ _
  rfl

/-- The arguments at the end of a run. -/
theorem frame_post (a : (pcfg0 (F := F)).Adm) (r : PUnit × MemSt nD τ sig (Elt F)) (hr : Pipeline.FramePost (Pipeline.pin pcfgs fun _ => a) (dats m a) 0 (fun c b => m ((c : Thread nD τ).loc b)) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(hr c).2 main_arg0 (Pipeline.mem_restRefs_of main_arg0 rfl (fun w => by fin_cases w <;> exact fun e => by cases e)),
      (hr c).2 main_arg1 (Pipeline.mem_restRefs_of main_arg1 rfl (fun w => by fin_cases w <;> exact fun e => by cases e)),
      ((hr c).1 0).trans (((dats m a 0 c).arrAt_in 0 rfl _).trans (A_eq m a c 0)),
      ((hr c).1 1).trans (((dats m a 0 c).arrAt_in 1 rfl _).trans (A_eq m a c 1)),
      ((hr c).1 2).trans (((dats m a 0 c).arrAt_in 2 rfl _).trans (A_eq m a c 2)),
      ((hr c).1 3).trans (((dats m a 0 c).arrAt_in 3 rfl _).trans (A_eq m a c 3)),
      ((hr c).1 4).trans (((dats m a 0 c).arrAt_in 4 rfl _).trans (A_eq m a c 4))⟩

/-- The arguments end unchanged, and every counter at zero. -/
theorem frame (h : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r hr => ⟨frame_post m (adm m h) r hr.1, hr.2⟩) (run_main_quiescent m ρ (adm m h) (fits m h))

/-- What the precondition says of the tables. -/
theorem ranged_of_pre [Cert.Pre_tables3.Facts] (T0 : S161.Idx → BitVec 32) (T1 : S1.Idx → BitVec 32) (x0 x1 x2 x3 x4)
    (h : Cert.Pre_tables3.fn (F := F) T0 T1 x0 x1 x2 x3 x4 = fun _ => 1#1) : Ranged T0 T1 := by
  have e := congrFun h (fun z => z.elim0)
  simp only [Cert.Pre_tables3.fn, andi_apply] at e
  obtain ⟨e0, e1⟩ := IntOp.andi_eq_one.1 e
  haveI : Subsingleton Cert.Pre_tables3.S_.Idx := ⟨fun _ _ => funext fun z => z.elim0⟩
  refine ⟨fun x => ?_, fun x => ?_⟩
  · have hx := Host.reduce_andi_all _ _ _ _ _ e0 x
    simp only [andi_apply] at hx
    obtain ⟨h0, h1⟩ := IntOp.andi_eq_one.1 hx
    have a0 : (0#32 : BitVec 32).toInt ≤ (T0 x).toInt := IntOp.cmpi_sge.1 h0
    have a1 : (T0 x).toInt < (32#32 : BitVec 32).toInt := IntOp.cmpi_slt.1 h1
    have e2 : (0#32 : BitVec 32).toInt = 0 := by decide
    have e3 : (32#32 : BitVec 32).toInt = 32 := by decide
    rw [e2] at a0
    rw [e3] at a1
    have := toNat_of_isInt (signed_iff.2 (rfl : (T0 x).toInt = (T0 x).toInt)) a0
    omega
  · have hx := Host.reduce_andi_all _ _ _ _ _ e1 x
    have a0 : (1#32 : BitVec 32).toInt ≤ (T1 x).toInt := IntOp.cmpi_sge.1 hx
    have e2 : (1#32 : BitVec 32).toInt = 1 := by decide
    rw [e2] at a0
    exact a0

end Cert.GmmIdeal.Body

end
-- ==== Proof.GmmValue.lean ====
/- The result array of the experts' gate and up products. -/
module

public import proofs.«01_k».proof.Proof.GmmSpec
public import proofs.«01_k».proof.Proof.GmmFrame
public import Idealize.ShloMosaic.Lib.Pipeline.ValueKit
public import Idealize.ShloMosaic.Lib.Pipeline.Covers
public import Idealize.ShloMosaic.Lib.Pointwise
public import Idealize.ShloMosaic.Lib.IdealHost
public import Idealize.ShloMosaic.Lib.Claim

@[expose] public section

set_option maxRecDepth 16384

noncomputable section

namespace Cert.GmmIdeal.At

open Idealize.ShloMosaic Idealize.ShloMosaic.TcCoe Idealize.SL.Sem
open Idealize.ShloMosaic.Pipeline (Dat)
open Cert.GmmIdeal Cert.GmmIdeal.Gen Cert.GmmIdeal.Body
open Cert.GmmSpec (Count Rows Weights Biases tileOf expertOf proj glu value)

/-! ## The payloads at an index -/

theorem first_at (w : Vec Ideal S1x2048x512 .f32) (k : Fin 2048) (f : Fin 512) : (k0_pay1 w (ix2 k f) : EReal) = w (ix3 0 k f) := by
  pointwise [k0_pay1]

theorem second_at (w : Vec Ideal S1x2048x512 .f32) (k : Fin 2048) (f : Fin 512) : (k0_pay2 w (ix2 k f) : EReal) = w (ix3 0 k f) := by
  pointwise [k0_pay2]

theorem gated_at (x : Vec Ideal S512x2048 .bf16) (v : Vec Ideal S2048x512 .bf16) (b : Vec Ideal S1x1x512 .f32) (w : Vec Ideal S2048x512 .bf16)
    (d : Vec Ideal S1x1x512 .f32) (r : Fin 512) (f : Fin 512) :
    k0_pay3 x v b w d (ix2 r f) = glu ((∑ k : Fin 2048, (x (ix2 r k) : EReal) * v (ix2 k f)) + b (ix3 0 0 f)) ((∑ k : Fin 2048, (x (ix2 r k) : EReal) * w (ix2 k f)) + d (ix3 0 0 f)) := by
  pointwise [k0_pay3]
  unfold glu
  rfl

theorem spare_at (r : Fin 512) (f : Fin 512) : (k0_pay4 (F := Ideal) (ix2 r f) : EReal) = 0 := by
  pointwise [k0_pay4]

variable (m : (ℓ : Loc nD τ sig) → Buf (Elt Ideal) ℓ) (h : InRange m)

abbrev T0 : Cert.GmmSpec.Table := m (((0 : Dev nD) : Thread nD τ).loc main_arg0)
abbrev N0 : Count := m (((0 : Dev nD) : Thread nD τ).loc main_arg1)
abbrev X0 (c : Dev nD) : Rows := m ((c.tc : Thread nD τ).loc main_arg2)
abbrev G0 (c : Dev nD) : Weights := m ((c.tc : Thread nD τ).loc main_arg3)
abbrev U0 (c : Dev nD) : Weights := m ((c.tc : Thread nD τ).loc main_arg4)
abbrev P0 (c : Dev nD) : Biases := m ((c.tc : Thread nD τ).loc main_arg5)
abbrev Q0 (c : Dev nD) : Biases := m ((c.tc : Thread nD τ).loc main_arg6)

section Blocks
variable (c : Dev nD) (t : Fin (cfg0 (adm m h)).N)

theorem point_lt : t.val < 644 := Nat.lt_of_lt_of_eq t.isLt (by decide : grid0.N = 644)

theorem row_lt (r : Fin 512) : 512 * (t.val % 161) + r.val < 82432 := by omega
theorem col_lt (f : Fin 512) : 512 * (t.val / 161) + f.val < 2048 := by
  have := point_lt m h t
  omega

/-- The point's expert. -/
abbrev ex : Fin 32 := expertOf (T0 m) (tile t.val)

theorem ex_val : (expert (adm m h) (tile t.val)).toNat = (ex m h t).val := by
  have e : (T0 m (ix1 (tile t.val))).toNat < 32 := h.1 _
  show (T0 m (ix1 (tile t.val))).toNat = (T0 m (ix1 (tile t.val))).toNat % 32
  omega

theorem block0 (hu : ((t.val % 161 : ℕ) : ℤ) < (count (adm m h)).toInt) (r : Fin 512) (k : Fin 2048) :
    (iblk m (adm m h) c 0 t (ix2 r k) : EReal) = X0 m c (ix2 ⟨512 * (t.val % 161) + r.val, row_lt m h t r⟩ k) := by
  blk_ext [iblk, index0 (adm m h) t hu]

theorem block1 (k : Fin 2048) (f : Fin 512) : (iblk m (adm m h) c 1 t (ix3 0 k f) : EReal) = G0 m c (ix3 (ex m h t) k ⟨512 * (t.val / 161) + f.val, col_lt m h t f⟩) := by
  blk_ext [iblk, index1 (adm m h) t, ex_val m h t]

theorem block2 (k : Fin 2048) (f : Fin 512) : (iblk m (adm m h) c 2 t (ix3 0 k f) : EReal) = U0 m c (ix3 (ex m h t) k ⟨512 * (t.val / 161) + f.val, col_lt m h t f⟩) := by
  blk_ext [iblk, index2 (adm m h) t, ex_val m h t]

theorem block3 (f : Fin 512) : (iblk m (adm m h) c 3 t (ix3 0 0 f) : EReal) = P0 m c (ix3 (ex m h t) 0 ⟨512 * (t.val / 161) + f.val, col_lt m h t f⟩) := by
  blk_ext [iblk, index3 (adm m h) t, ex_val m h t]

theorem block4 (f : Fin 512) : (iblk m (adm m h) c 4 t (ix3 0 0 f) : EReal) = Q0 m c (ix3 (ex m h t) 0 ⟨512 * (t.val / 161) + f.val, col_lt m h t f⟩) := by
  blk_ext [iblk, index4 (adm m h) t, ex_val m h t]

theorem tile_row (r : Fin 512) : tileOf ⟨512 * (t.val % 161) + r.val, row_lt m h t r⟩ = tile t.val := by
  refine Fin.ext ?_
  show (512 * (t.val % 161) + r.val) / 512 = t.val % 161
  omega

theorem result_at (r f : Fin 512) : (result m (adm m h) c t (ix2 r f) : EReal)
    = value (T0 m) (N0 m) (X0 m c) (G0 m c) (U0 m c) (P0 m c) (Q0 m c) ⟨512 * (t.val % 161) + r.val, row_lt m h t r⟩ ⟨512 * (t.val / 161) + f.val, col_lt m h t f⟩ := by
  unfold value
  have hc : ((grid0.coords t) 1).val = t.val % 161 := crd1 t
  by_cases hu : k0_cond2 (grid0.coords t) (count (adm m h)) = 1#1
  · have hu' := (used_iff _ _).1 hu
    rw [hc] at hu'
    rw [if_pos (by rw [tile_row]; exact hu'), result_used m (adm m h) c t hu]
    refine (gated_at _ _ _ _ _ r f).trans ?_
    unfold proj
    rw [tile_row]
    refine congrArg₂ glu (congrArg₂ (· + ·) (Finset.sum_congr rfl fun k _ => ?_) (block3 m h c t f)) (congrArg₂ (· + ·) (Finset.sum_congr rfl fun k _ => ?_) (block4 m h c t f))
    · exact congrArg₂ (· * ·) (block0 m h c t hu' r k) ((first_at _ k f).trans (block1 m h c t k f))
    · exact congrArg₂ (· * ·) (block0 m h c t hu' r k) ((second_at _ k f).trans (block2 m h c t k f))
  · have hu' := fun e => hu ((used_iff _ _).2 e)
    rw [hc] at hu'
    rw [if_neg (by rw [tile_row]; exact hu'), result_spare m (adm m h) c t hu]
    exact spare_at r f
end Blocks

theorem out_pos (z : Fin 2) : 0 < S512x512.size z := by
  fin_cases z <;> decide

/-- The grid coordinates of a block of columns and a tile. -/
def crds (p : Fin 4) (q : Fin 161) : grid0.Coords := fun z => match z with
  | ⟨0, _⟩ => p
  | ⟨1, _⟩ => q

theorem out_nblk : ∀ z : Fin 2, ((cfg0 (adm m h)).win 5).nblk z = (![161, 4] : Fin 2 → ℕ) z := fun z => by
  fin_cases z
  · show (82432 + 512 - 1) / 512 = 161
    decide
  · show (2048 + 512 - 1) / 512 = 4
    decide

theorem covers : ((cfg0 (adm m h)).win 5).Covers :=
  ((cfg0 (adm m h)).win 5).covers_of_indexMap_surj rfl out_pos fun β =>
    ⟨crds ⟨(β (1 : Fin 2)).val, lt_of_lt_of_eq (β (1 : Fin 2)).isLt (out_nblk m h 1)⟩ ⟨(β (0 : Fin 2)).val, lt_of_lt_of_eq (β (0 : Fin 2)).isLt (out_nblk m h 0)⟩, fun z => by
      have b0 : (β (0 : Fin 2)).val < 161 := lt_of_lt_of_eq (β (0 : Fin 2)).isLt (out_nblk m h 0)
      have b1 : (β (1 : Fin 2)).val < 4 := lt_of_lt_of_eq (β (1 : Fin 2)).isLt (out_nblk m h 1)
      change Fin 2 at z
      fin_cases z
      · exact WordCmp.toNat_ofNat_of_lt (a := (β (0 : Fin 2)).val) (by omega)
      · exact WordCmp.toNat_ofNat_of_lt (a := (β (1 : Fin 2)).val) (by omega)⟩

theorem out_at (c : Dev nD) (t : Fin (cfg0 (adm m h)).N) (y : S512x512.Idx) (j : S82432x2048.Idx) (h0 : (j 0).val = t.val % 161 * 512 + (y 0).val) (h1 : (j 1).val = t.val / 161 * 512 + (y 1).val) :
    (result m (adm m h) c t y : EReal) = Cert.GmmSpec.arr (T0 m) (N0 m) (X0 m c) (G0 m c) (U0 m c) (P0 m c) (Q0 m c) j := by
  refine (congrArg (result m (adm m h) c t) (show y = ix2 (y 0) (y 1) by blk_ext)).trans ((result_at m h c t (y 0) (y 1)).trans ?_)
  unfold Cert.GmmSpec.arr
  congr 1
  · refine Fin.ext ?_
    show 512 * (t.val % 161) + (y 0).val = (j 0).val
    omega
  · refine Fin.ext ?_
    show 512 * (t.val / 161) + (y 1).val = (j 1).val
    omega

theorem final (c : Dev nD) : (dats m (adm m h) 0 c).arrAt 5 (cfg0 (adm m h)).N = Cert.GmmSpec.arr (T0 m) (N0 m) (X0 m c) (G0 m c) (U0 m c) (P0 m c) (Q0 m c) := by
  refine (dats m (adm m h) 0 c).arrAt_eq_of_covers 5 _ (covers m h) fun t _ y => ?_
  rw [after0_5]
  refine out_at m h c t y _ ?_ ?_
  · blk_simp [index5 (adm m h) t]
  · blk_simp [index5 (adm m h) t]

end Cert.GmmIdeal.At

end
-- ==== Proof.Take.lean ====
/- Rows of a stack of matrices taken at a table of positions, read at an index. -/
module

public import Idealize.ShloMosaic.Lib.Pointwise

@[expose] public section

set_option maxRecDepth 16384

noncomputable section

namespace Cert.Take

open Idealize.ShloMosaic Idealize.ShloMosaic.TcCoe

/-- One matrix of `e` for each of `t` positions. -/
abbrev dims (e t d f : ℕ) (wf : GatherDims.WF ⟨3, ![e, d, f]⟩ ⟨2, ![t, 1]⟩ ⟨3, ![t, d, f]⟩ [1, 2] [0] [] [0] [] 1 ![1, d, f]) :
    GatherDims ⟨3, ![e, d, f]⟩ ⟨2, ![t, 1]⟩ ⟨3, ![t, d, f]⟩ where
  offsetDims := [1, 2]
  collapsedSliceDims := [0]
  operandBatchingDims := []
  startIndicesBatchingDims := []
  startIndexMap := [0]
  indexVectorDim := 1
  sliceSizes := ![1, d, f]
  wf := wf

theorem take_at {α : Type} {e t d f : ℕ} (he : 0 < e)
    (wf : GatherDims.WF ⟨3, ![e, d, f]⟩ ⟨2, ![t, 1]⟩ ⟨3, ![t, d, f]⟩ [1, 2] [0] [] [0] [] 1 ![1, d, f])
    (x : (⟨3, ![e, d, f]⟩ : Shape).Idx → α) (idx : IVec ⟨2, ![t, 1]⟩ 32) (n : Fin t) (p : Fin d) (q : Fin f) :
    Host.gather (dims e t d f wf) x idx (ix3 n p q) = x (ix3 ⟨min (idx (ix2 n 0)).toInt.toNat (e - 1), by omega⟩ p q) := by
  unfold Host.gather
  congr 1
  funext a
  refine Fin.ext ?_
  show (dims e t d f wf).start (ix3 n p q) idx a + (dims e t d f wf).batchCoord (ix3 n p q) a + (dims e t d f wf).offCoord (ix3 n p q) a = _
  rw [GatherDims.batchCoord_eq_zero _ _ _ List.not_mem_nil, Nat.add_zero]
  have ha : a = 0 ∨ a = 1 ∨ a = 2 := by
    match a with
    | ⟨0, _⟩ => exact .inl rfl
    | ⟨1, _⟩ => exact .inr (.inl rfl)
    | ⟨2, _⟩ => exact .inr (.inr rfl)
  rcases ha with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (dims e t d f wf).startIndexMap from List.mem_singleton.mpr rfl)]
    have hsi : (dims e t d f wf).siIdx (ix3 n p q) ⟨List.idxOf (0 : Fin 3) (dims e t d f wf).startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    rfl
  · unfold GatherDims.start
    rw [dif_neg (by simp)]
    unfold GatherDims.offCoord
    rw [dif_pos ((GatherDims.mem_sKept _ _).mpr ⟨by simp, by simp⟩)]
    exact Nat.zero_add _
  · unfold GatherDims.start
    rw [dif_neg (by simp)]
    unfold GatherDims.offCoord
    rw [dif_pos ((GatherDims.mem_sKept _ _).mpr ⟨by simp, by simp⟩)]
    exact Nat.zero_add _

end Cert.Take

end
-- ==== Proof.GmmRef.lean ====
/- The reference of the experts' gate and up products, read at an index. -/
module

public import proofs.«01_k».proof.Proof.GmmSpec
public import proofs.«01_k».proof.Proof.Take
public import proofs.«01_k».proof.Proof.Gen.GmmRefIdeal.Run
public import Idealize.ShloMosaic.Lib.Pointwise
public import Idealize.ShloMosaic.Lib.IdealHost
public import Idealize.ShloMosaic.Lib.WordCmp
public import Idealize.ShloMosaic.Lib.Claim

@[expose] public section

set_option maxRecDepth 16384

noncomputable section

namespace Cert.GmmRefIdeal.At

open Idealize.ShloMosaic Idealize.ShloMosaic.TcCoe Idealize.SL.Sem
open Cert.GmmRefIdeal Cert.GmmRefIdeal.Gen Cert.GmmRefIdeal.Value
open Cert.GmmSpec (Count Rows Weights Biases tileOf expertOf proj glu value arr)

section Terms
variable (T : S161.Idx → BitVec 32) (N : S1.Idx → BitVec 32) (X : FVec Ideal S82432x2048 .bf16) (W : FVec Ideal S32x2048x2048 .f32) (B : FVec Ideal S32x1x2048 .f32)

/-- Each tile's expert as a position, a negative one counted from the end. -/
def place : IVec S161x1 32 := broadcastInDim S161x1 ![0] bcast_S161_S161x1_0 (select (cmpi .slt T (broadcastInDim S161 ![] bcast_S_S161 (constantI S_ 32 0#32))) (addi T (broadcastInDim S161 ![] bcast_S_S161 (constantI S_ 32 32#32))) T)

/-- The rows by their experts' matrices, with their experts' biases. -/
def product : FVec Ideal S161x512x2048 .f32 := (addf (Host.dotGeneral dot_S161x512x2048_S161x2048x2048_S161x512x2048_2_1_1_2_0_0 none (shapeCast _ (extf .f32 X bitsLt_bf16_f32) shapeCasts_S82432x2048_S161x512x2048) (Host.gather gather_S32x2048x2048_S161x1_S161x2048x2048_12_0_n_n_0_1_120482048 W (place T))) (broadcastInDim S161x512x2048 ![0, 1, 2] bcast_S161x1x2048_S161x512x2048_0_1_2 (Host.gather gather_S32x1x2048_S161x1_S161x1x2048_12_0_n_n_0_1_112048 B (place T))))

/-- The gated unit over the used tiles, as rows. -/
def gated (G U : FVec Ideal S161x512x2048 .f32) : FVec Ideal S82432x2048 .bf16 :=
  truncf .bf16 (shapeCast _ (select (broadcastInDim S161x512x2048 ![0, 1, 2] bcast_S161x1x1_S161x512x2048_0_1_2 (cmpi .slt (broadcastInDim S161x1x1 ![0] bcast_S161_S161x1x1_0 (iotaInDim S161 32 0)) (broadcastInDim S161x1x1 ![] bcast_S_S161x1x1 (shapeCast _ N shapeCasts_S1_S_)))) (mulf (mulf (addf (minimumf (broadcastInDim S161x512x2048 ![] bcast_S_S161x512x2048 (id (constant S_ .f32 0x40E00000#32))) (maximumf (broadcastInDim S161x512x2048 ![] bcast_S_S161x512x2048 (id (constant S_ .f32 0xC0E00000#32))) U)) (broadcastInDim S161x512x2048 ![] bcast_S_S161x512x2048 (constant S_ .f32 0x3F800000#32))) (minimumf G (broadcastInDim S161x512x2048 ![] bcast_S_S161x512x2048 (constant S_ .f32 0x40E00000#32)))) (Host.divf (broadcastInDim S161x512x2048 ![] bcast_S_S161x512x2048 (constant S_ .f32 0x3F800000#32)) (addf (broadcastInDim S161x512x2048 ![] bcast_S_S161x512x2048 (constant S_ .f32 0x3F800000#32)) (Host.exp (Host.negf (mulf (broadcastInDim S161x512x2048 ![] bcast_S_S161x512x2048 (constant S_ .f32 0x3FD9DB23#32)) (minimumf G (broadcastInDim S161x512x2048 ![] bcast_S_S161x512x2048 (constant S_ .f32 0x40E00000#32))))))))) (broadcastInDim S161x512x2048 ![] bcast_S_S161x512x2048 (id (constant S_ .f32 0x00000000#32)))) shapeCasts_S161x512x2048_S82432x2048) bitsLt_bf16_f32

variable (hT : ∀ x, (T x).toNat < 32)
include hT

theorem place_at (n : Fin 161) : place T (ix2 n 0) = T (ix1 n) := by
  have h := hT (ix1 n)
  pointwise [place]
  have hc : ¬ IntOp.cmpi .slt (T (ix1 n)) 0#32 = 1#1 := fun e => by
    have e' := IntOp.cmpi_slt.1 e
    have e0 : (0#32 : BitVec 32).toInt = 0 := by decide
    rw [e0, BitVec.toInt_eq_toNat_cond] at e'
    omega
  exact if_neg hc

theorem expert_min (n : Fin 161) (h : min (place T (ix2 n 0)).toInt.toNat (32 - 1) < 32) : (⟨min (place T (ix2 n 0)).toInt.toNat (32 - 1), h⟩ : Fin 32) = expertOf T n := by
  refine Fin.ext ?_
  have e := hT (ix1 n)
  show min (place T (ix2 n 0)).toInt.toNat (32 - 1) = (T (ix1 n)).toNat % 32
  rw [place_at T hT n, BitVec.toInt_eq_toNat_cond]
  omega

theorem weights_at (n : Fin 161) (k f : Fin 2048) :
    Host.gather gather_S32x2048x2048_S161x1_S161x2048x2048_12_0_n_n_0_1_120482048 W (place T) (ix3 n k f) = W (ix3 (expertOf T n) k f) :=
  (Cert.Take.take_at (by decide) gather_S32x2048x2048_S161x1_S161x2048x2048_12_0_n_n_0_1_120482048_wf W (place T) n k f).trans
    (congrArg (fun e => W (ix3 e k f)) (expert_min T hT n _))

theorem biases_at (n : Fin 161) (f : Fin 2048) :
    Host.gather gather_S32x1x2048_S161x1_S161x1x2048_12_0_n_n_0_1_112048 B (place T) (ix3 n 0 f) = B (ix3 (expertOf T n) 0 f) :=
  (Cert.Take.take_at (by decide) gather_S32x1x2048_S161x1_S161x1x2048_12_0_n_n_0_1_112048_wf B (place T) n 0 f).trans
    (congrArg (fun e => B (ix3 e 0 f)) (expert_min T hT n _))

theorem product_at (n : Fin 161) (r : Fin 512) (f : Fin 2048) :
    (product T X W B (ix3 n r f) : EReal) = (∑ k : Fin 2048, X (ix2 ⟨n.val * 512 + r.val, by omega⟩ k) * W (ix3 (expertOf T n) k f)) + B (ix3 (expertOf T n) 0 f) := by
  have ew := fun k => weights_at T W hT n k f
  have eb := biases_at T B hT n f
  unfold product
  generalize Host.gather gather_S32x2048x2048_S161x1_S161x2048x2048_12_0_n_n_0_1_120482048 W (place T) = W' at ew ⊢
  generalize Host.gather gather_S32x1x2048_S161x1_S161x1x2048_12_0_n_n_0_1_112048 B (place T) = B' at eb ⊢
  pointwise [ew, eb]

omit hT in
theorem gated_at (G U : FVec Ideal S161x512x2048 .f32) (r : Fin 82432) (f : Fin 2048) :
    (gated N G U (ix2 r f) : EReal) = if ((tileOf r).val : ℤ) < (N (ix1 0)).toInt then
      glu (G (ix3 (tileOf r) ⟨r.val % 512, Nat.mod_lt _ (by decide)⟩ f)) (U (ix3 (tileOf r) ⟨r.val % 512, Nat.mod_lt _ (by decide)⟩ f)) else 0 := by
  pointwise [gated]
  unfold glu
  have hv : (BitVec.ofNat 32 (r.val / 512)).toInt = ((r.val / 512 : ℕ) : ℤ) := WordCmp.toInt_ofNat_of_lt (by omega)
  by_cases hc : IntOp.cmpi .slt (BitVec.ofNat 32 (r.val / 512)) (N (ix1 0)) = 1#1
  · have hn := IntOp.cmpi_slt.1 hc
    rw [hv] at hn
    exact (if_pos hc).trans (if_pos hn).symm
  · have hn := fun e => hc (IntOp.cmpi_slt.2 (hv.trans_lt e))
    exact (if_neg hc).trans ((Ideal.ofBits_zero .f32).trans (if_neg hn).symm)

theorem glu_at (X' : FVec Ideal S82432x2048 .bf16) (Wg Wu : FVec Ideal S32x2048x2048 .f32) (Bg Bu : FVec Ideal S32x1x2048 .f32) :
    (gated N (product T X' Wg Bg) (product T X' Wu Bu) : S82432x2048.Idx → EReal) = arr T N X' Wg Wu Bg Bu := by
  funext j
  idx_vars j
  refine (gated_at N _ _ j0 j1).trans ?_
  show _ = value T N X' Wg Wu Bg Bu j0 j1
  unfold value proj
  rw [product_at T X' Wg Bg hT, product_at T X' Wu Bu hT]
  have e : ∀ k : Fin 2048, (ix2 (⟨(tileOf j0).val * 512 + j0.val % 512, by omega⟩ : Fin 82432) k) = ix2 j0 k := fun k =>
    congrArg (fun r => ix2 r k) (Fin.ext (by show j0.val / 512 * 512 + j0.val % 512 = j0.val; omega))
  simp only [e]

end Terms

/-- The reference ends with the result in closed form, its tables in range. -/
theorem run (m : (ℓ : Loc nD τ sig) → Buf (Elt Ideal) ℓ) (ρ : Dev nD → PrngReg) (hT : ∀ c : Dev nD, ∀ x, (m ((c.tc : Thread nD τ).loc main_arg0) x : BitVec 32).toNat < 32) :
    θ_run defs (onTc (τ := τ) (main (F := Ideal))) ⟨m, fun _ => 0, ρ⟩ fun r => ∀ c : Dev nD,
      r.2.mem ((c.tc : Thread nD τ).loc main_v58) = arr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ⟨(h c).1.trans ?_, (h c).2⟩) (Value.run m ρ)
  have hc := hT c
  unfold res_main_v58
  revert hc
  generalize m ((c.tc : Thread nD τ).loc main_arg0) = T
  generalize m ((c.tc : Thread nD τ).loc main_arg1) = N
  generalize m ((c.tc : Thread nD τ).loc main_arg2) = X
  generalize m ((c.tc : Thread nD τ).loc main_arg3) = Wg
  generalize m ((c.tc : Thread nD τ).loc main_arg4) = Wu
  generalize m ((c.tc : Thread nD τ).loc main_arg5) = Bg
  generalize m ((c.tc : Thread nD τ).loc main_arg6) = Bu
  exact fun hc => glu_at T N hc X Wg Wu Bg Bu

end Cert.GmmRefIdeal.At

end
-- ==== Proof.GmmClaim.lean ====
/- The claims about the experts' gate and up products. -/
module

public import proofs.«01_k».proof.Defs
public import proofs.«01_k».proof.Proof.Gen.Gmm
public import proofs.«01_k».proof.Proof.GmmValue
public import proofs.«01_k».proof.Proof.GmmRef
public import Idealize.ShloMosaic.Lib.Claim

@[expose] public section

set_option maxRecDepth 16384

noncomputable section

namespace Cert.Proof

open Idealize.ShloMosaic Idealize.ShloMosaic.TcCoe Idealize.ShloMosaic.Tactic Idealize.SL.Sem

instance gmmFacts : Cert.Gmm.Facts := Cert.Gmm.Gen.facts
instance gmmIdealFacts : Cert.GmmIdeal.Facts := Cert.GmmIdeal.Gen.facts
instance gmmRefFacts : Cert.GmmRefIdeal.Facts := Cert.GmmRefIdeal.Gen.facts
instance tables3Facts : Cert.Pre_tables3.Facts := Cert.Pre_tables3.Gen.facts

section
open Cert.GmmIdeal
/-- The frame of the program read at the machine's values: the two programs are printed alike, so it is the other's. -/
def GmmFrame : Prop := ∀ (m : (ℓ : Loc nD τ sig) → Buf (Elt Bits) ℓ) (ρ : Dev nD → PrngReg),
    (∀ c : Dev nD, Cert.Pre_tables3.fn (F := Bits) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = fun _ => 1#1) →
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)
end

theorem gmmFrame_eq : GmmFrame = Cert.quiescent_Gmm := by sl_kernel_rfl

theorem gmm_quiescent : Cert.quiescent_Gmm := gmmFrame_eq ▸ fun m ρ hp =>
  Cert.GmmIdeal.Body.frame m ρ (Cert.GmmIdeal.Body.ranged_of_pre _ _ _ _ _ _ _ (hp 0))
theorem gmmIdeal_quiescent : Cert.quiescent_GmmIdeal := fun m ρ hp =>
  Cert.GmmIdeal.Body.frame m ρ (Cert.GmmIdeal.Body.ranged_of_pre _ _ _ _ _ _ _ (hp 0))
theorem gmmRef_quiescent : Cert.quiescent_GmmRefIdeal := fun m g _ =>
  (θ_run _ _ _).mono (fun r h => ⟨fun c => (h c).2, sem_eq_zero_of_no_sems rfl _⟩) (Cert.GmmRefIdeal.Value.run m g)

theorem gmm_preserves : Cert.preserves_Gmm_GmmIdeal := trivial

section
open Cert.GmmIdeal Cert.GmmIdeal.Body Cert.GmmIdeal.At

/-- The kernel ends with the result in closed form. -/
theorem gmm_run (m : (ℓ : Loc nD τ sig) → Buf (Elt Ideal) ℓ) (ρ : Dev nD → PrngReg) (h : InRange m) :
    θ_run defs (onTc (τ := τ) (main (F := Ideal))) ⟨m, fun _ => 0, ρ⟩ fun r => ∀ c : Dev nD,
      r.2.mem ((c.tc : Thread nD τ).loc main_v0) = Cert.GmmSpec.arr (T0 m) (N0 m) (X0 m c) (G0 m c) (U0 m c) (P0 m c) (Q0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r hr c => ⟨((hr c).1 5).trans (final m h c), frame_post m (adm m h) r hr c⟩) (run_main m ρ (adm m h) (fits m h))
end

theorem gmm_algebraic : Cert.algebraic_GmmIdeal_GmmRefIdeal := by
  intro m g m' g' hp ha
  have h : Cert.GmmIdeal.Body.InRange m := Cert.GmmIdeal.Body.ranged_of_pre _ _ _ _ _ _ _ (hp 0)
  refine ⟨fun c => Cert.GmmSpec.arr (Cert.GmmIdeal.At.T0 m) (Cert.GmmIdeal.At.N0 m) (Cert.GmmIdeal.At.X0 m c) (Cert.GmmIdeal.At.G0 m c) (Cert.GmmIdeal.At.U0 m c) (Cert.GmmIdeal.At.P0 m c) (Cert.GmmIdeal.At.Q0 m c), gmm_run m g h, ?_⟩
  refine (θ_run _ _ _).mono (fun r hr c => ⟨(hr c).1.trans ?_, (hr c).2⟩) (Cert.GmmRefIdeal.At.run m' g' fun c => ?_)
  · obtain rfl : c = 0 := Subsingleton.elim _ _
    rw [(ha 0).1]
    exact h.1
  · obtain ⟨e0, e1, e2, e3, e4, e5, e6⟩ := ha c
    obtain rfl : c = 0 := Subsingleton.elim _ _
    rw [e0, e1, e2, e3, e4, e5, e6]

end Cert.Proof

end
-- ==== Proof.DownSpec.lean ====
/- The experts' down product in closed form: each row of a tile by its tile's expert, with the expert's bias, zero past the
   used tiles. -/
module

public import proofs.«01_k».proof.Proof.GmmSpec

@[expose] public section

set_option maxRecDepth 16384

noncomputable section

namespace Cert.DownSpec

open Idealize.ShloMosaic Idealize.ShloMosaic.TcCoe
open Cert.GmmSpec (Count Rows Weights Biases tileOf proj)

def value (T : Cert.GmmSpec.Table) (N : Count) (X : Rows) (W : Weights) (B : Biases) (r : Fin 82432) (f : Fin 2048) : EReal :=
  if ((tileOf r).val : ℤ) < (N (ix1 0)).toInt then proj T X W B r f else 0

/-- The result as an array. -/
def arr (T : Cert.GmmSpec.Table) (N : Count) (X : Rows) (W : Weights) (B : Biases) : (⟨2, ![82432, 2048]⟩ : Shape).Idx → EReal :=
  fun j => value T N X W B (j 0) (j 1)

end Cert.DownSpec

end
-- ==== Proof.DownRun.lean ====
/- The experts' down body, run: where the row tile's expert differs from the tile's before it the weight block is
   narrowed into the scratch; a used tile's block is the product with the bias, an unused tile's is zero. -/
module

public import proofs.«01_k».proof.Proof.Gen.DownIdeal.Skeleton
public import proofs.«01_k».proof.Proof.Gen.DownIdeal.Launch
public import Idealize.ShloMosaic.Lib.Pipeline.FrameBody
public import Idealize.ShloMosaic.Lib.Pipeline.ValueKit
public import Idealize.ShloMosaic.Lib.VecWindow
public import Idealize.ShloMosaic.Lib.Claim

@[expose] public section

set_option maxRecDepth 16384

noncomputable section

namespace Cert.DownIdeal.Body

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two tables as the body is handed them: the tiles' experts and the count of used tiles. -/
abbrev tb0 : Memref sig .tc .smem S161 .i32 := Memref.whole main_arg0
abbrev tb1 : Memref sig .tc .smem S1 .i32 := Memref.whole main_arg1

/-- The words the body reads off them: the tile's expert, the expert of the tile before, the count. -/
abbrev here (T0 : S161.Idx → BitVec 32) (i : grid0.Coords) : BitVec 32 :=
  View.readAt (Elt F) tb0.view (Rect.unit (s := S161) (k0_off1 i) S1.size (k0_off1_inb i)).toLoadRect T0 (Shape.Idx.first (numel1_S1.symm ▸ Nat.one_pos))
abbrev back (T0 : S161.Idx → BitVec 32) (i : grid0.Coords) : BitVec 32 :=
  View.readAt (Elt F) tb0.view (Rect.unit (s := S161) (k0_off2 i) S1.size (k0_off2_inb i)).toLoadRect T0 (Shape.Idx.first (numel1_S1.symm ▸ Nat.one_pos))
abbrev used (T1 : S1.Idx → BitVec 32) : BitVec 32 :=
  View.readAt (Elt F) tb1.view (Rect.unit (s := S1) ![0] S1.size inb_S1_S1_0).toLoadRect T1 (Shape.Idx.first (numel1_S1.symm ▸ Nat.one_pos))

/-- The weights are narrowed afresh. -/
abbrev Fresh (T0 : S161.Idx → BitVec 32) (i : grid0.Coords) : Prop :=
  Scalar.cmpi .ne (Scalar.extui (Scalar.ori (Scalar.cmpi .eq (BitVec.ofNat 32 (i 1).val) 0#32) (Scalar.cmpi .ne (here (F := F) T0 i) (back (F := F) T0 i))) : BitVec 32) 0#32 = 1#1

section Runs
variable (c : Dev nD) (i : grid0.Coords) (arg4 : Memref sig .tc .vmem S512x2048 .bf16) (harg4 : arg4.IsWhole) (arg5 : Memref sig .tc .vmem S1x2048x512 .f32) (harg5 : arg5.IsWhole)
  (arg6 : Memref sig .tc .vmem S1x1x512 .f32) (harg6 : arg6.IsWhole) (arg7 : Memref sig .tc .vmem S512x512 .f32) (harg7 : arg7.IsWhole) (arg8 : Memref sig .tc .vmem S2048x512 .bf16) (harg8 : arg8.IsWhole)
  (T0 : S161.Idx → BitVec 32) (T1 : S1.Idx → BitVec 32)
  (x0 : Vec F S512x2048 .bf16) (x1 : Vec F S1x2048x512 .f32) (x2 : Vec F S1x1x512 .f32) (s0 : Vec F S2048x512 .bf16)

/-- What the body is handed and hands on: the blocks, the tables, the result's block and the scratch. -/
def Held (q : PosShare TreeShare) (y : sProp 𝕄) (s0 : Vec F S2048x512 .bf16) : sProp 𝕄 :=
  iprop(owns (c : Thread nD τ) arg4 fullShare x0 ∗ owns (c : Thread nD τ) arg5 fullShare x1 ∗ owns (c : Thread nD τ) arg6 fullShare x2
    ∗ (tb0.view.loc (c : Thread nD τ) ↦{q} T0) ∗ (tb1.view.loc (c : Thread nD τ) ↦{q} T1) ∗ y ∗ owns (c : Thread nD τ) arg8 fullShare s0)

/-- The product at equal operands. -/
theorem product_congr {a a' : Vec F S512x2048 .bf16} {b b' : Vec F S2048x512 .bf16} {e e' : Vec F S1x1x512 .f32}
    (ha : a = a') (hb : b = b') (he : e = e') : k0_pay2 a b e = k0_pay2 a' b' e' := by
  rw [ha, hb, he]

set_option maxHeartbeats 2000000 in
/-- A used tile of a new expert. -/
theorem run_fresh_used (q : PosShare TreeShare) (h1 : Fresh (F := F) T0 i)
    (h2 : k0_cond2 i (used (F := F) T1) = 1#1) (h3 : ¬ k0_cond3 i (used (F := F) T1) = 1#1) (E : Set ℕ) (K : PUnit → sProp 𝕄) :
    iprop(Held c arg4 arg5 arg6 arg8 T0 T1 x0 x1 x2 q iprop(∃ d, owns (c : Thread nD τ) arg7 fullShare d) s0
        ∗ (Held c arg4 arg5 arg6 arg8 T0 T1 x0 x1 x2 q (owns (c : Thread nD τ) arg7 fullShare (k0_pay2 x0 (k0_pay1 x1) x2)) (k0_pay1 x1) -∗ K ⟨⟩))
      ⊢ wp frame (wpE (defs₀ (F := F)) Variants.none c none) E (cc0_gmm2 i tb0 (Memref.isWhole_whole _) tb1 (Memref.isWhole_whole _) arg4 harg4 arg5 harg5 arg6 harg6 arg7 harg7 arg8 harg8) K := by
  simp only [cc0_gmm2_eq_skeleton]; unfold cc0_gmm2_skel Held
  unfold owns
  iintro ⟨⟨⟨%f0, %hf0, H0⟩, ⟨%f1, %hf1, H1⟩, ⟨%f2, %hf2, H2⟩, HT0, HT1, ⟨%d3, %f3, -, H3⟩, ⟨%g0, %hg0, HS0⟩⟩, Hk⟩
  obtain rfl := harg4.eq_unread hf0; obtain rfl := harg5.eq_unread hf1; obtain rfl := harg6.eq_unread hf2; obtain rfl := harg8.eq_unread hg0
  have hT0 : tb0.IsWhole := Memref.isWhole_whole _
  have hT1 : tb1.IsWhole := Memref.isWhole_whole _
  sl_exec (disch := first | sl_exact h1 | sl_exact h2 | sl_exact h3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [HT0]; · iexact HT0
  isplitl [HT1]; · iexact HT1
  isplitl [H3]
  · iexists _; isplitr; swap; · iexact H3
    ipureintro
    refine (View.read_writes_full _ _ _ _ _).trans ?_
    unfold run_fresh_used.sl.v20 run_fresh_used.sl.HS0_1
    exact product_congr ((View.readAt_full _ _ _).trans (harg4.read_unread _)) ((View.readCov_full _ _ _ _ _).trans (congrArg k0_pay1 ((View.readAt_full _ _ _).trans (harg5.read_unread _)))) ((View.readAt_full _ _ _).trans (harg6.read_unread _))
  iexists _; isplitr; swap; · iexact HS0
  ipureintro
  unfold run_fresh_used.sl.HS0_1
  exact (View.read_writes_full _ _ _ _ _).trans (congrArg k0_pay1 ((View.readAt_full _ _ _).trans (harg5.read_unread _)))

set_option maxHeartbeats 2000000 in
/-- A used tile of the expert of the tile before. -/
theorem run_kept_used (q : PosShare TreeShare) (h1 : ¬ Fresh (F := F) T0 i)
    (h2 : k0_cond2 i (used (F := F) T1) = 1#1) (h3 : ¬ k0_cond3 i (used (F := F) T1) = 1#1) (E : Set ℕ) (K : PUnit → sProp 𝕄) :
    iprop(Held c arg4 arg5 arg6 arg8 T0 T1 x0 x1 x2 q iprop(∃ d, owns (c : Thread nD τ) arg7 fullShare d) s0
        ∗ (Held c arg4 arg5 arg6 arg8 T0 T1 x0 x1 x2 q (owns (c : Thread nD τ) arg7 fullShare (k0_pay2 x0 s0 x2)) s0 -∗ K ⟨⟩))
      ⊢ wp frame (wpE (defs₀ (F := F)) Variants.none c none) E (cc0_gmm2 i tb0 (Memref.isWhole_whole _) tb1 (Memref.isWhole_whole _) arg4 harg4 arg5 harg5 arg6 harg6 arg7 harg7 arg8 harg8) K := by
  simp only [cc0_gmm2_eq_skeleton]; unfold cc0_gmm2_skel Held
  unfold owns
  iintro ⟨⟨⟨%f0, %hf0, H0⟩, ⟨%f1, %hf1, H1⟩, ⟨%f2, %hf2, H2⟩, HT0, HT1, ⟨%d3, %f3, -, H3⟩, ⟨%g0, %hg0, HS0⟩⟩, Hk⟩
  obtain rfl := harg4.eq_unread hf0; obtain rfl := harg5.eq_unread hf1; obtain rfl := harg6.eq_unread hf2; obtain rfl := harg8.eq_unread hg0
  have hT0 : tb0.IsWhole := Memref.isWhole_whole _
  have hT1 : tb1.IsWhole := Memref.isWhole_whole _
  sl_exec (disch := first | sl_exact h1 | sl_exact h2 | sl_exact h3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [HT0]; · iexact HT0
  isplitl [HT1]; · iexact HT1
  isplitl [H3]
  · iexists _; isplitr; swap; · iexact H3
    ipureintro
    exact (View.read_writes_full _ _ _ _ _).trans (product_congr ((View.readAt_full _ _ _).trans (harg4.read_unread _)) ((View.readAt_full _ _ _).trans (harg8.read_unread _)) ((View.readAt_full _ _ _).trans (harg6.read_unread _)))
  iexists _; isplitr; · ipureintro; exact harg8.read_unread _
  iexact HS0

set_option maxHeartbeats 2000000 in
/-- An unused tile of a new expert. -/
theorem run_fresh_spare (q : PosShare TreeShare) (h1 : Fresh (F := F) T0 i)
    (h2 : ¬ k0_cond2 i (used (F := F) T1) = 1#1) (h3 : k0_cond3 i (used (F := F) T1) = 1#1) (E : Set ℕ) (K : PUnit → sProp 𝕄) :
    iprop(Held c arg4 arg5 arg6 arg8 T0 T1 x0 x1 x2 q iprop(∃ d, owns (c : Thread nD τ) arg7 fullShare d) s0
        ∗ (Held c arg4 arg5 arg6 arg8 T0 T1 x0 x1 x2 q (owns (c : Thread nD τ) arg7 fullShare k0_pay3) (k0_pay1 x1) -∗ K ⟨⟩))
      ⊢ wp frame (wpE (defs₀ (F := F)) Variants.none c none) E (cc0_gmm2 i tb0 (Memref.isWhole_whole _) tb1 (Memref.isWhole_whole _) arg4 harg4 arg5 harg5 arg6 harg6 arg7 harg7 arg8 harg8) K := by
  simp only [cc0_gmm2_eq_skeleton]; unfold cc0_gmm2_skel Held
  unfold owns
  iintro ⟨⟨⟨%f0, %hf0, H0⟩, ⟨%f1, %hf1, H1⟩, ⟨%f2, %hf2, H2⟩, HT0, HT1, ⟨%d3, %f3, -, H3⟩, ⟨%g0, %hg0, HS0⟩⟩, Hk⟩
  obtain rfl := harg4.eq_unread hf0; obtain rfl := harg5.eq_unread hf1; obtain rfl := harg6.eq_unread hf2; obtain rfl := harg8.eq_unread hg0
  have hT0 : tb0.IsWhole := Memref.isWhole_whole _
  have hT1 : tb1.IsWhole := Memref.isWhole_whole _
  sl_exec (disch := first | sl_exact h1 | sl_exact h2 | sl_exact h3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [HT0]; · iexact HT0
  isplitl [HT1]; · iexact HT1
  isplitl [H3]
  · iexists _; isplitr; swap; · iexact H3
    ipureintro
    exact View.read_writes_full _ _ _ _ _
  iexists _; isplitr; swap; · iexact HS0
  ipureintro
  exact (View.read_writes_full _ _ _ _ _).trans (congrArg k0_pay1 ((View.readAt_full _ _ _).trans (harg5.read_unread _)))

set_option maxHeartbeats 2000000 in
/-- An unused tile of the expert of the tile before. -/
theorem run_kept_spare (q : PosShare TreeShare) (h1 : ¬ Fresh (F := F) T0 i)
    (h2 : ¬ k0_cond2 i (used (F := F) T1) = 1#1) (h3 : k0_cond3 i (used (F := F) T1) = 1#1) (E : Set ℕ) (K : PUnit → sProp 𝕄) :
    iprop(Held c arg4 arg5 arg6 arg8 T0 T1 x0 x1 x2 q iprop(∃ d, owns (c : Thread nD τ) arg7 fullShare d) s0
        ∗ (Held c arg4 arg5 arg6 arg8 T0 T1 x0 x1 x2 q (owns (c : Thread nD τ) arg7 fullShare k0_pay3) s0 -∗ K ⟨⟩))
      ⊢ wp frame (wpE (defs₀ (F := F)) Variants.none c none) E (cc0_gmm2 i tb0 (Memref.isWhole_whole _) tb1 (Memref.isWhole_whole _) arg4 harg4 arg5 harg5 arg6 harg6 arg7 harg7 arg8 harg8) K := by
  simp only [cc0_gmm2_eq_skeleton]; unfold cc0_gmm2_skel Held
  unfold owns
  iintro ⟨⟨⟨%f0, %hf0, H0⟩, ⟨%f1, %hf1, H1⟩, ⟨%f2, %hf2, H2⟩, HT0, HT1, ⟨%d3, %f3, -, H3⟩, ⟨%g0, %hg0, HS0⟩⟩, Hk⟩
  obtain rfl := harg4.eq_unread hf0; obtain rfl := harg5.eq_unread hf1; obtain rfl := harg6.eq_unread hf2; obtain rfl := harg8.eq_unread hg0
  have hT0 : tb0.IsWhole := Memref.isWhole_whole _
  have hT1 : tb1.IsWhole := Memref.isWhole_whole _
  sl_exec (disch := first | sl_exact h1 | sl_exact h2 | sl_exact h3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [HT0]; · iexact HT0
  isplitl [HT1]; · iexact HT1
  isplitl [H3]
  · iexists _; isplitr; swap; · iexact H3
    ipureintro
    exact View.read_writes_full _ _ _ _ _
  iexists _; isplitr; · ipureintro; exact harg8.read_unread _
  iexact HS0

end Runs

end Cert.DownIdeal.Body

end
-- ==== Proof.DownBody.lean ====
/- The grid of the down product at any admissible tables: the tiles in order within each column block, the scratch holding
   at every point the narrowed weights of the tile's expert. -/
module

public import proofs.«01_k».proof.Proof.GmmBody
public import proofs.«01_k».proof.Proof.DownRun
public import proofs.«01_k».proof.Proof.Gen.Down
public import proofs.«01_k».proof.Proof.Gen.DownRefIdeal.Run
public import proofs.«01_k».proof.Proof.Gen.Pre_tables4
public import Idealize.ShloMosaic.Lib.WordCmp

@[expose] public section

set_option maxRecDepth 16384

noncomputable section

namespace Cert.DownIdeal.Body

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.GmmIdeal.Body (bit_iff kept_words signed_iff toNat_of_isInt min_words)

variable {F : FTy → Type} [FloatOps F]

local notation "𝕄" => MT nD τ sig Unit (Elt F) ℕ (UR sig nD τ) ℕ

/-! ## Words -/

theorem used_iff (i : grid0.Coords) (v : BitVec 32) : k0_cond2 i v = 1#1 ↔ ((i 1).val : ℤ) < v.toInt := by
  have hi : (i 1).val < 161 := (i 1).isLt
  have e : (BitVec.ofNat 32 (i 1).val).toInt = ((i 1).val : ℤ) := WordCmp.toInt_ofNat_of_lt (by omega)
  have h := bit_iff ((BitVec.ofNat 32 (i 1).val).slt v)
  refine (show k0_cond2 i v = 1#1 ↔ _ from h).trans ?_
  rw [BitVec.slt_eq_decide, decide_eq_true_eq, e]

theorem spare_iff (i : grid0.Coords) (v : BitVec 32) : k0_cond3 i v = 1#1 ↔ ¬ ((i 1).val : ℤ) < v.toInt := by
  have hi : (i 1).val < 161 := (i 1).isLt
  have e : (BitVec.ofNat 32 (i 1).val).toInt = ((i 1).val : ℤ) := WordCmp.toInt_ofNat_of_lt (by omega)
  have h := bit_iff (v.sle (BitVec.ofNat 32 (i 1).val))
  refine (show k0_cond3 i v = 1#1 ↔ _ from h).trans ?_
  rw [BitVec.sle_eq_decide, decide_eq_true_eq, e, not_lt]

variable (m : (ℓ : Loc nD τ sig) → Buf (Elt F) ℓ) (ρ : Dev nD → PrngReg) (a : (pcfg0 (F := F)).Adm)

/-- The grid at the tables. -/
abbrev cfgA : Cfg sig Λ₀ := cfg0 a

/-- Tile `n`'s expert, and the count of used tiles. -/
def expert (n : Fin 161) : BitVec 32 := a.1 0 (ix1 n)
def count : BitVec 32 := a.1 1 (ix1 0)

/-- The tile of a point. -/
abbrev tile (n : ℕ) : Fin 161 := ⟨n % 161, Nat.mod_lt _ (by decide)⟩

theorem lt_all (t : Fin grid0.N) : t.val < 644 := Nat.lt_of_lt_of_eq t.isLt N_0

theorem crd0 (t : Fin grid0.N) : (grid0.coords t 0).val = t.val / 161 := by
  have := lt_all t
  have e : (grid0.coords t 0).val = t.val / 161 % 4 := Pipeline.Grid.coords_val t 0 (by decide) rfl
  omega
theorem crd1 (t : Fin grid0.N) : (grid0.coords t 1).val = t.val % 161 := by
  have e : (grid0.coords t 1).val = t.val / 1 % 161 := Pipeline.Grid.coords_val t 1 (by decide) rfl
  omega

theorem off1_val (t : Fin grid0.N) : k0_off1 (grid0.coords t) 0 = t.val % 161 := by
  show (Scalar.indexCast (BitVec.ofNat 32 (grid0.coords t 1).val) : BitVec 32).toNat = _
  rw [crd1]
  show (BitVec.ofNat 32 (t.val % 161)).toNat = _
  rw [BitVec.toNat_ofNat, Nat.mod_eq_of_lt (by omega)]

theorem here_eq (t : Fin grid0.N) : here (F := F) (a.1 0) (grid0.coords t) = expert a (tile t.val) := by
  refine congrArg (a.1 0) (funext fun z => Fin.ext ?_)
  fin_cases z
  exact (Nat.add_zero _).trans (off1_val t)

theorem off2_val (t : Fin grid0.N) (h : t.val % 161 ≠ 0) : k0_off2 (grid0.coords t) 0 = (t.val - 1) % 161 := by
  have ht := lt_all t
  have e : k0_off2 (grid0.coords t) 0 = (Scalar.maxsi (Scalar.subi (BitVec.ofNat 32 (grid0.coords t 1).val) 1#32) 0#32).toNat := rfl
  rw [e, crd1]
  have h1 : Affine.IsInt (Scalar.subi (BitVec.ofNat 32 (t.val % 161)) 1#32) ((t.val % 161 : ℕ) - 1 : ℤ) :=
    Affine.subi (Affine.ofNat _ ⟨rfl, by omega⟩) (Affine.ofNat 1 ⟨rfl, by omega⟩) (by push_cast; omega)
  have h2 := Affine.maxsi h1 (Affine.ofNat 0 ⟨rfl, by omega⟩) rfl
  rw [toNat_of_isInt h2 (by omega)]
  omega

theorem back_eq (t : Fin grid0.N) (h : t.val % 161 ≠ 0) : back (F := F) (a.1 0) (grid0.coords t) = expert a (tile (t.val - 1)) := by
  refine congrArg (a.1 0) (funext fun z => Fin.ext ?_)
  fin_cases z
  exact (Nat.add_zero _).trans (off2_val t h)

theorem used_eq : used (F := F) (a.1 1) = count a := by
  refine congrArg (a.1 1) (funext fun z => Fin.ext ?_)
  fin_cases z
  rfl

theorem kept_at (t : Fin grid0.N) (h : ¬ Fresh (F := F) (a.1 0) (grid0.coords t)) :
    t.val % 161 ≠ 0 ∧ expert a (tile (t.val - 1)) = expert a (tile t.val) := by
  obtain ⟨hn, he⟩ := kept_words _ _ _ h
  have h0 : t.val % 161 ≠ 0 := fun e => hn (by rw [crd1, e])
  exact ⟨h0, by rw [← back_eq a t h0, ← he, here_eq]⟩

/-! ## The blocks -/

theorem index1 (t : Fin grid0.N) : ((cfg0 a).win 1).index t = ![(expert a (tile t.val)).toNat, 0, t.val / 161] := by
  have ht := lt_all t
  show cc0_transform_1 k0_off1_inb numel1_S1 a.1 (grid0.coords t) = _
  have e : cc0_transform_1 k0_off1_inb numel1_S1 a.1 (grid0.coords t) = ![(here (F := F) (a.1 0) (grid0.coords t)).toNat, 0, (BitVec.ofNat 32 (grid0.coords t 0).val).toNat] := rfl
  rw [e, here_eq, crd0, BitVec.toNat_ofNat, Nat.mod_eq_of_lt (by omega)]
theorem index2 (t : Fin grid0.N) : ((cfg0 a).win 2).index t = ![(expert a (tile t.val)).toNat, 0, t.val / 161] := index1 a t
theorem index3 (t : Fin grid0.N) : ((cfg0 a).win 3).index t = ![t.val % 161, t.val / 161] := by
  have ht := lt_all t
  show ![(BitVec.ofNat 32 (grid0.coords t 1).val).toNat, (BitVec.ofNat 32 (grid0.coords t 0).val).toNat] = _
  rw [crd0, crd1, WordCmp.toNat_ofNat_of_lt (by omega), WordCmp.toNat_ofNat_of_lt (by omega)]

theorem index0 (t : Fin grid0.N) (h : ((t.val % 161 : ℕ) : ℤ) < (count a).toInt) : ((cfg0 a).win 0).index t = ![t.val % 161, 0] := by
  show cc0_transform_0 inb_S1_S1_0 numel1_S1 a.1 (grid0.coords t) = _
  have e : cc0_transform_0 inb_S1_S1_0 numel1_S1 a.1 (grid0.coords t)
    = ![(Scalar.minsi (BitVec.ofNat 32 (grid0.coords t 1).val) (Scalar.subi (used (F := F) (a.1 1)) 1#32)).toNat, 0] := rfl
  rw [e, used_eq, crd1, min_words _ _ (Nat.mod_lt _ (by decide)) (by omega)]
  congr 1
  omega

def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (m ((c : Thread nD τ).loc (Pipeline.arrRef spec0 w)))

/-- The point before. -/
abbrev prev (t : Fin grid0.N) : Fin grid0.N := ⟨t.val - 1, Nat.lt_of_le_of_lt (Nat.sub_le _ _) t.isLt⟩

theorem iblk1_prev (c : Dev nD) (t : Fin grid0.N) (h : ¬ Fresh (F := F) (a.1 0) (grid0.coords t)) : iblk m a c 1 (prev t) = iblk m a c 1 t := by
  obtain ⟨h0, he⟩ := kept_at a t h
  have hp : (prev t).val / 161 = t.val / 161 := by show (t.val - 1) / 161 = _; omega
  have hi : ((cfg0 a).win 1).index (prev t) = ((cfg0 a).win 1).index t := by rw [index1, index1, he, hp]
  funext y
  blk_ext [iblk, hi]

end Cert.DownIdeal.Body

end
-- ==== Proof.DownPoints.lean ====
/- The grid's points: what is carried, the body's obligation, the run. -/
module

public import proofs.«01_k».proof.Proof.DownBody

@[expose] public section

set_option maxRecDepth 16384

noncomputable section

namespace Cert.DownIdeal.Body

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (a : (pcfg0 (F := F)).Adm)

/-! ## The points -/

abbrev scr0 : Memref sig .tc .vmem S2048x512 .bf16 := Memref.whole cc0_scratch0

/-- A tile's result: the product with the bias for a used tile, zero for an unused one. -/
def result (c : Dev nD) (t : Fin grid0.N) : Vec F S512x512 .f32 :=
  if k0_cond2 (grid0.coords t) (count a) = 1#1 then k0_pay2 (iblk m a c 0 t) (k0_pay1 (iblk m a c 1 t)) (iblk m a c 2 t) else k0_pay3

theorem result_used (c : Dev nD) (t : Fin grid0.N) (h : k0_cond2 (grid0.coords t) (count a) = 1#1) :
    result m a c t = k0_pay2 (iblk m a c 0 t) (k0_pay1 (iblk m a c 1 t)) (iblk m a c 2 t) := by
  unfold result; exact if_pos h
theorem result_spare (c : Dev nD) (t : Fin grid0.N) (h : ¬ k0_cond2 (grid0.coords t) (count a) = 1#1) : result m a c t = k0_pay3 := by
  unfold result; exact if_neg h

theorem tabs_eq (c : Dev nD) : (Pipeline.ΦT pre0 a.1 c : sProp 𝕄)
    = iprop((tb0.view.loc (c : Thread nD τ) ↦{fullShare.right} (a.1 0)) ∗ (tb1.view.loc (c : Thread nD τ) ↦{fullShare.right} (a.1 1))) := by
  unfold Pipeline.ΦT Pipeline.prefHeld
  rw [show (Finset.univ : Finset (Fin 2)) = insert (0 : Fin 2) {(1 : Fin 2)} from by decide, bigSep_insert (by decide), bigSep_singleton]
  rfl

/-- The point a position comes after. -/
def after (n : Fin (grid0.N + 1)) (h : ¬ n.val = 0) : Fin grid0.N := ⟨n.val - 1, by have := n.isLt; omega⟩

theorem after_succ (t : Fin grid0.N) (h) : after t.succ h = t := Fin.ext (by show t.succ.val - 1 = _; rw [Fin.val_succ]; omega)
theorem after_castSucc (t : Fin grid0.N) (h) : after t.castSucc h = prev t := Fin.ext rfl

/-- After a point the scratch holds its expert's narrowed weights. -/
def narrowed (c : Dev nD) (t : Fin grid0.N) : sProp 𝕄 :=
  iprop(owns (c : Thread nD τ) scr0 fullShare (k0_pay1 (iblk m a c 1 t)) ∗ (∃ r, prngReg c r))

theorem narrowed_prev (c : Dev nD) (t : Fin grid0.N) (h : ¬ Fresh (F := F) (a.1 0) (grid0.coords t)) : narrowed m a c (prev t) = narrowed m a c t := by
  unfold narrowed
  rw [iblk1_prev m a c t h]

/-- What is carried between the points: before the first anything, after each the tile's expert's narrowed weights; and
    the tables. -/
def carried (c : Dev nD) (n : Fin (grid0.N + 1)) : sProp 𝕄 :=
  iprop((if h : n.val = 0 then Pipeline.ΦA spec0 c else narrowed m a c (after n h)) ∗ Pipeline.ΦT pre0 a.1 c)

theorem carried_zero (c : Dev nD) : carried m a c 0 = iprop(Pipeline.ΦA spec0 c ∗ Pipeline.ΦT pre0 a.1 c) := by
  unfold carried; rw [dif_pos (Fin.val_zero _)]
theorem carried_succ (c : Dev nD) (t : Fin grid0.N) : carried m a c t.succ = iprop(narrowed m a c t ∗ Pipeline.ΦT pre0 a.1 c) := by
  unfold carried; rw [dif_neg (by rw [Fin.val_succ]; omega), after_succ]
theorem carried_castSucc (c : Dev nD) (t : Fin grid0.N) (h : ¬ t.val = 0) :
    carried m a c t.castSucc = iprop(narrowed m a c (prev t) ∗ Pipeline.ΦT pre0 a.1 c) := by
  unfold carried; rw [dif_neg (by rw [Fin.val_castSucc]; exact h), after_castSucc]

theorem any_eq (c : Dev nD) :
    (Pipeline.ΦA spec0 c : sProp 𝕄) = iprop((∃ d, owns (c : Thread nD τ) scr0 fullShare d) ∗ (∃ r, prngReg c r)) := by
  unfold Pipeline.ΦA; rw [scopedRest0_eq]; simp only [scr0, owns_whole]; try rfl

theorem carried_any (c : Dev nD) (n : Fin (grid0.N + 1)) : carried m a c n ⊢ (iprop(Pipeline.ΦA spec0 c ∗ Pipeline.ΦT pre0 a.1 c) : sProp 𝕄) := by
  unfold carried
  by_cases h : n.val = 0
  · rw [dif_pos h]
  · rw [dif_neg h, any_eq]
    unfold narrowed
    iintro ⟨⟨HS0, Hg⟩, HT⟩
    isplitr [HT]
    · isplitr [Hg]
      · iexists _; iexact HS0
      iexact Hg
    iexact HT

theorem carried_some (c : Dev nD) (n : Fin (grid0.N + 1)) :
    carried m a c n ⊢ (iprop(((∃ d, owns (c : Thread nD τ) scr0 fullShare d) ∗ (∃ r, prngReg c r))
      ∗ (tb0.view.loc (c : Thread nD τ) ↦{fullShare.right} (a.1 0)) ∗ (tb1.view.loc (c : Thread nD τ) ↦{fullShare.right} (a.1 1))) : sProp 𝕄) :=
  (carried_any m a c n).trans (Entails.of_eq (by rw [any_eq, tabs_eq]))

def dats (_ : Fin 1) (c : Dev nD) : Dat τ (Elt F) Unit ℕ (UR sig nD τ) ℕ (cfg0 a) c where
  A w := m ((c : Thread nD τ).loc (Pipeline.arrRef spec0 w))
  after w t := match w with
    | ⟨0, _⟩ => iblk m a c 0 t
    | ⟨1, _⟩ => iblk m a c 1 t
    | ⟨2, _⟩ => iblk m a c 2 t
    | ⟨3, _⟩ => result m a c t
  Φ n := carried m a c n
  q _ := fullShare
  owed _ := 0

theorem A_eq (c : Dev nD) (w : Fin (cfg0 a).W) : (dats m a 0 c).A w = m ((c : Thread nD τ).loc (Pipeline.arrRef spec0 w)) := by
  dsimp only [dats]
theorem after0_0 (c : Dev nD) (t : Fin (cfg0 a).N) : (dats m a 0 c).after 0 t = iblk m a c 0 t := rfl
theorem after0_1 (c : Dev nD) (t : Fin (cfg0 a).N) : (dats m a 0 c).after 1 t = iblk m a c 1 t := rfl
theorem after0_2 (c : Dev nD) (t : Fin (cfg0 a).N) : (dats m a 0 c).after 2 t = iblk m a c 2 t := rfl
theorem after0_3 (c : Dev nD) (t : Fin (cfg0 a).N) : (dats m a 0 c).after 3 t = result m a c t := rfl
theorem Phi_eq (c : Dev nD) (n : Fin ((cfg0 a).N + 1)) : (dats m a 0 c).Φ n = carried m a c n := by dsimp only [dats]

theorem before0_0 (c : Dev nD) (t : Fin (cfg0 a).N) (d) : (dats m a 0 c).before 0 t d = iblk m a c 0 t :=
  ((dats m a 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfg0 a).N) (d) : (dats m a 0 c).before 1 t d = iblk m a c 1 t :=
  ((dats m a 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfg0 a).N) (d) : (dats m a 0 c).before 2 t d = iblk m a c 2 t :=
  ((dats m a 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-- The body stores the result's block at every point. -/
theorem never_idle (t : Fin (cfg0 a).N) : (cfg0 a).idle 3 ((cfg0 a).grid.coords t) = false := by
  have e : (a.1 : pre0.Contents (Elt F)).atD 1 ![0] = count a := by
    unfold Pipeline.Prefetch.Contents.atD
    split
    · refine congrArg (a.1 1) (funext fun z => Fin.ext ?_)
      fin_cases z
      rfl
    · next hn => exact absurd (fun z => by fin_cases z; exact Nat.zero_lt_one) hn
  show (!(k0_cond2 (grid0.coords t) ((a.1 : pre0.Contents (Elt F)).atD 1 ![0]) == 1#1) && !(k0_cond3 (grid0.coords t) ((a.1 : pre0.Contents (Elt F)).atD 1 ![0]) == 1#1)) = false
  rw [e]
  by_cases h : ((grid0.coords t 1).val : ℤ) < (count a).toInt
  · rw [(used_iff _ _).mpr h]; rfl
  · rw [(spare_iff _ _).mpr h]; simp

theorem leaves0_3 (c : Dev nD) (t : Fin (cfg0 a).N) : (dats m a 0 c).leavesExact 3 t = owns (c : Thread nD τ) (spec0_3.stage ((cfg0 a).slots t 3)) fullShare (result m a c t) := by
  unfold Dat.leavesExact
  rw [never_idle a t, after0_3]; rfl

theorem leaves_used (c : Dev nD) (t : Fin (cfg0 a).N) (h : k0_cond2 (grid0.coords t) (count a) = 1#1) :
    owns (c : Thread nD τ) (spec0_3.stage ((cfg0 a).slots t 3)) fullShare (k0_pay2 (iblk m a c 0 t) (k0_pay1 (iblk m a c 1 t)) (iblk m a c 2 t))
      ⊢ (dats m a 0 c).leavesExact 3 t :=
  Entails.of_eq (((leaves0_3 m a c t).trans (congrArg (owns (c : Thread nD τ) (spec0_3.stage ((cfg0 a).slots t 3)) fullShare) (result_used m a c t h))).symm)
theorem leaves_spare (c : Dev nD) (t : Fin (cfg0 a).N) (h : ¬ k0_cond2 (grid0.coords t) (count a) = 1#1) :
    owns (c : Thread nD τ) (spec0_3.stage ((cfg0 a).slots t 3)) fullShare (k0_pay3 (F := F)) ⊢ (dats m a 0 c).leavesExact 3 t :=
  Entails.of_eq (((leaves0_3 m a c t).trans (congrArg (owns (c : Thread nD τ) (spec0_3.stage ((cfg0 a).slots t 3)) fullShare) (result_spare m a c t h))).symm)

abbrev bodyAt (t : Fin (cfg0 a).N) : Prog (TpuEff nD τ sig (Elt F) Λ₀ .tc) PUnit :=
  defs₀ (F := F) .tc (cfg0 a).body ((cfg0 a).bodyArgs t ((cfg0 a).slots t))

def bodyPre (c : Dev nD) (t : Fin (cfg0 a).N) : sProp 𝕄 :=
  iprop((dats m a 0 c).Φ t.castSucc ∗ (dats m a 0 c).owesAt () t.castSucc
    ∗ (∃ d, owns (c : Thread nD τ) (spec0_0.stage ((cfg0 a).slots t 0)) fullShare ((dats m a 0 c).before 0 t d))
    ∗ (∃ d, owns (c : Thread nD τ) (spec0_1.stage ((cfg0 a).slots t 1)) fullShare ((dats m a 0 c).before 1 t d))
    ∗ (∃ d, owns (c : Thread nD τ) (spec0_2.stage ((cfg0 a).slots t 2)) fullShare ((dats m a 0 c).before 2 t d))
    ∗ (∃ d, owns (c : Thread nD τ) (spec0_3.stage ((cfg0 a).slots t 3)) fullShare ((dats m a 0 c).before 3 t d)))

def bodyPost (c : Dev nD) (t : Fin (cfg0 a).N) : sProp 𝕄 :=
  iprop((dats m a 0 c).Φ t.succ ∗ (dats m a 0 c).owesAt () t.succ
    ∗ owns (c : Thread nD τ) (spec0_0.stage ((cfg0 a).slots t 0)) fullShare ((dats m a 0 c).after 0 t)
    ∗ owns (c : Thread nD τ) (spec0_1.stage ((cfg0 a).slots t 1)) fullShare ((dats m a 0 c).after 1 t)
    ∗ owns (c : Thread nD τ) (spec0_2.stage ((cfg0 a).slots t 2)) fullShare ((dats m a 0 c).after 2 t)
    ∗ (dats m a 0 c).leavesExact 3 t)

set_option maxHeartbeats 2000000 in
theorem sound_body (c : Dev nD) (t : Fin (cfg0 a).N) :
    bodyPre m a c t ⊢ wp frame (wpE (defs₀ (F := F)) Variants.none c none) Set.univ (bodyAt a t) (fun _ => bodyPost m a c t) := by
  unfold bodyPre bodyPost bodyAt
  rw [show defs₀ (F := F) .tc (cfg0 a).body ((cfg0 a).bodyArgs t ((cfg0 a).slots t)) = _ from by unfold defs₀; rw [Defs.onTc_tc]]
  simp only [before0_0, before0_1, before0_2]
  rw [show (dats m a 0 c).owesAt () t.succ = (dats m a 0 c).owesAt () t.castSucc from rfl,
    after0_0, after0_1, after0_2, Phi_eq, Phi_eq, carried_succ, tabs_eq]
  have hu := used_iff (grid0.coords t) (count a)
  have hs := spare_iff (grid0.coords t) (count a)
  by_cases hf : Fresh (F := F) (a.1 0) (grid0.coords t)
  · iintro ⟨HΦ, Ho, ⟨%d0, H0⟩, ⟨%d1, H1⟩, ⟨%d2, H2⟩, ⟨%d3, H3⟩⟩
    unfold narrowed
    ihave ⟨⟨⟨%e0, HS0⟩, Hg⟩, HT0, HT1⟩ := (carried_some m a c t.castSucc) $$ HΦ
    by_cases h2 : ((grid0.coords t 1).val : ℤ) < (count a).toInt
    · iapply (run_fresh_used c (grid0.coords t) _ _ _ _ _ _ _ _ _ _ (a.1 0) (a.1 1) (iblk m a c 0 t) (iblk m a c 1 t) (iblk m a c 2 t) e0 fullShare.right hf
        (by rw [used_eq]; exact hu.mpr h2) (by rw [used_eq]; exact fun h => hs.mp h h2) Set.univ _)
      unfold Held
      isplitr [Ho Hg]
      · isplitl [H0]; · iexact H0
        isplitl [H1]; · iexact H1
        isplitl [H2]; · iexact H2
        isplitl [HT0]; · iexact HT0
        isplitl [HT1]; · iexact HT1
        isplitl [H3]; · iexists _; iexact H3
        iexact HS0
      iintro ⟨H0, H1, H2, HT0, HT1, H3, HS0⟩
      isplitl [HS0 Hg HT0 HT1]
      · isplitl [HS0 Hg]
        · isplitl [HS0]; · iexact HS0
          iexact Hg
        isplitl [HT0]; · iexact HT0
        iexact HT1
      isplitl [Ho]; · iexact Ho
      isplitl [H0]; · iexact H0
      isplitl [H1]; · iexact H1
      isplitl [H2]; · iexact H2
      iapply (leaves_used m a c t (hu.mpr h2))
      iexact H3
    · iapply (run_fresh_spare c (grid0.coords t) _ _ _ _ _ _ _ _ _ _ (a.1 0) (a.1 1) (iblk m a c 0 t) (iblk m a c 1 t) (iblk m a c 2 t) e0 fullShare.right hf
        (by rw [used_eq]; exact fun h => h2 (hu.mp h)) (by rw [used_eq]; exact hs.mpr h2) Set.univ _)
      unfold Held
      isplitr [Ho Hg]
      · isplitl [H0]; · iexact H0
        isplitl [H1]; · iexact H1
        isplitl [H2]; · iexact H2
        isplitl [HT0]; · iexact HT0
        isplitl [HT1]; · iexact HT1
        isplitl [H3]; · iexists _; iexact H3
        iexact HS0
      iintro ⟨H0, H1, H2, HT0, HT1, H3, HS0⟩
      isplitl [HS0 Hg HT0 HT1]
      · isplitl [HS0 Hg]
        · isplitl [HS0]; · iexact HS0
          iexact Hg
        isplitl [HT0]; · iexact HT0
        iexact HT1
      isplitl [Ho]; · iexact Ho
      isplitl [H0]; · iexact H0
      isplitl [H1]; · iexact H1
      isplitl [H2]; · iexact H2
      iapply (leaves_spare m a c t fun h => h2 (hu.mp h))
      iexact H3
  · have h0 := (kept_at a t hf).1
    rw [carried_castSucc m a c t (by rintro e; rw [e] at h0; exact h0 rfl), narrowed_prev m a c t hf, tabs_eq]
    unfold narrowed
    iintro ⟨⟨⟨HS0, Hg⟩, HT0, HT1⟩, Ho, ⟨%d0, H0⟩, ⟨%d1, H1⟩, ⟨%d2, H2⟩, ⟨%d3, H3⟩⟩
    by_cases h2 : ((grid0.coords t 1).val : ℤ) < (count a).toInt
    · iapply (run_kept_used c (grid0.coords t) _ _ _ _ _ _ _ _ _ _ (a.1 0) (a.1 1) (iblk m a c 0 t) (iblk m a c 1 t) (iblk m a c 2 t)
        (k0_pay1 (iblk m a c 1 t)) fullShare.right hf
        (by rw [used_eq]; exact hu.mpr h2) (by rw [used_eq]; exact fun h => hs.mp h h2) Set.univ _)
      unfold Held
      isplitr [Ho Hg]
      · isplitl [H0]; · iexact H0
        isplitl [H1]; · iexact H1
        isplitl [H2]; · iexact H2
        isplitl [HT0]; · iexact HT0
        isplitl [HT1]; · iexact HT1
        isplitl [H3]; · iexists _; iexact H3
        iexact HS0
      iintro ⟨H0, H1, H2, HT0, HT1, H3, HS0⟩
      isplitl [HS0 Hg HT0 HT1]
      · isplitl [HS0 Hg]
        · isplitl [HS0]; · iexact HS0
          iexact Hg
        isplitl [HT0]; · iexact HT0
        iexact HT1
      isplitl [Ho]; · iexact Ho
      isplitl [H0]; · iexact H0
      isplitl [H1]; · iexact H1
      isplitl [H2]; · iexact H2
      iapply (leaves_used m a c t (hu.mpr h2))
      iexact H3
    · iapply (run_kept_spare c (grid0.coords t) _ _ _ _ _ _ _ _ _ _ (a.1 0) (a.1 1) (iblk m a c 0 t) (iblk m a c 1 t) (iblk m a c 2 t)
        (k0_pay1 (iblk m a c 1 t)) fullShare.right hf
        (by rw [used_eq]; exact fun h => h2 (hu.mp h)) (by rw [used_eq]; exact hs.mpr h2) Set.univ _)
      unfold Held
      isplitr [Ho Hg]
      · isplitl [H0]; · iexact H0
        isplitl [H1]; · iexact H1
        isplitl [H2]; · iexact H2
        isplitl [HT0]; · iexact HT0
        isplitl [HT1]; · iexact HT1
        isplitl [H3]; · iexists _; iexact H3
        iexact HS0
      iintro ⟨H0, H1, H2, HT0, HT1, H3, HS0⟩
      isplitl [HS0 Hg HT0 HT1]
      · isplitl [HS0 Hg]
        · isplitl [HS0]; · iexact HS0
          iexact Hg
        isplitl [HT0]; · iexact HT0
        iexact HT1
      isplitl [Ho]; · iexact Ho
      isplitl [H0]; · iexact H0
      isplitl [H1]; · iexact H1
      isplitl [H2]; · iexact H2
      iapply (leaves_spare m a c t fun h => h2 (hu.mp h))
      iexact H3

theorem body_obligation (c : Dev nD) : BodyObligation (dats (F := F) m a 0 c) (defs₀ (F := F)) Variants.none () Set.univ := fun t => by
  rw [bigSep_W0, bigSep_W0]
  exact triple_restated (sound_body m a c t) rfl .rfl fun _ => .rfl

/-! ## The run -/

/-- The tables are the launch's. -/
def Fits : Prop := ∀ (c : Dev nD) k, m ((c : Thread nD τ).loc (pre0.ref k)) = a.1 k

set_option backward.isDefEq.respectTransparency.types false in
theorem run_main_quiescent (hfit : Fits m a) : θ_run defs (onTc (τ := τ) (main (F := F))) (s₀ m ρ)
    (fun r => (Pipeline.FramePost (Pipeline.pin pcfgs fun _ => a) (dats m a) 0 (fun c b => m ((c : Thread nD τ).loc b))) r ∧ r.2.sem = fun _ => 0) :=
  Pipeline.θ_run_frameP_track (Q' := _) pcfgs (fun _ => a) (dats m a) (0 : Fin 1) launch0 defs₀ Variants.none m ρ main
    (hbody := fun c => (body_obligation m a c).loose) (hshare := fun c => (dats m a 0 c).share_full fun _ => rfl)
    (howed := fun _ _ => rfl) (V := fun c b => m ((c : Thread nD τ).loc b))
    (hmain := Pipeline.hmainP_region pcfgs 0 defs₀ Variants.none m main fun _ => rfl) (hA := A_eq m a) (hpf := hfit)
    (hin := fun c => by rw [Phi_eq, carried_zero]) (hout := fun c => by rw [Phi_eq]; exact (carried_any m a c _).trans (by iintro ⟨H, -⟩; iexact H))

theorem run_main (hfit : Fits m a) : θ_run defs (onTc (τ := τ) (main (F := F))) (s₀ m ρ)
    (Pipeline.FramePost (Pipeline.pin pcfgs fun _ => a) (dats m a) 0 (fun c b => m ((c : Thread nD τ).loc b))) :=
  (θ_run defs _ _).mono (fun _ h => h.1) (run_main_quiescent m ρ a hfit)

end Cert.DownIdeal.Body

end
-- ==== Proof.DownFrame.lean ====
/- The frame: in-range tables are admissible, and the run leaves the arguments. -/
module

public import proofs.«01_k».proof.Proof.DownPoints
public import proofs.«01_k».proof.Proof.Gen.Pre_tables4
public import Idealize.ShloMosaic.Lib.ReduceAll

@[expose] public section

set_option maxRecDepth 16384

noncomputable section

namespace Cert.DownIdeal.Body

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.GmmIdeal.Body (signed_iff toNat_of_isInt min_words)

variable {F : FTy → Type} [FloatOps F]

local notation "𝕄" => MT nD τ sig Unit (Elt F) ℕ (UR sig nD τ) ℕ

/-- The tables in range: every expert one of the 32, one used tile at least. -/
def Ranged (T0 : S161.Idx → BitVec 32) (T1 : S1.Idx → BitVec 32) : Prop := (∀ x, (T0 x).toNat < 32) ∧ ∀ x, 1 ≤ (T1 x).toInt

theorem weights_fit (T0 : S161.Idx → BitVec 32) (h : ∀ x, (T0 x).toNat < 32) (i : grid0.Coords) :
    ∀ z : Fin 3, ((![(here (F := F) T0 i).toNat, (0#32 : BitVec 32).toNat, (BitVec.ofNat 32 (i 0).val).toNat] : Fin 3 → ℕ) z + 1) * S1x2048x512.size z ≤ S32x2048x2048.size z := by
  have hv : (here (F := F) T0 i).toNat < 32 := h _
  have hi : (i 0).val < 4 := (i 0).isLt
  have hj : (BitVec.ofNat 32 (i 0).val).toNat = (i 0).val := WordCmp.toNat_ofNat_of_lt (by omega)
  intro z
  fin_cases z
  · show ((here (F := F) T0 i).toNat + 1) * 1 ≤ 32; omega
  · show (0 + 1) * 2048 ≤ 2048; omega
  · show ((BitVec.ofNat 32 (i 0).val).toNat + 1) * 512 ≤ 2048; omega

theorem biases_fit (T0 : S161.Idx → BitVec 32) (h : ∀ x, (T0 x).toNat < 32) (i : grid0.Coords) :
    ∀ z : Fin 3, ((![(here (F := F) T0 i).toNat, (0#32 : BitVec 32).toNat, (BitVec.ofNat 32 (i 0).val).toNat] : Fin 3 → ℕ) z + 1) * S1x1x512.size z ≤ S32x1x2048.size z := by
  have hv : (here (F := F) T0 i).toNat < 32 := h _
  have hi : (i 0).val < 4 := (i 0).isLt
  have hj : (BitVec.ofNat 32 (i 0).val).toNat = (i 0).val := WordCmp.toNat_ofNat_of_lt (by omega)
  intro z
  fin_cases z
  · show ((here (F := F) T0 i).toNat + 1) * 1 ≤ 32; omega
  · show (0 + 1) * 1 ≤ 1; omega
  · show ((BitVec.ofNat 32 (i 0).val).toNat + 1) * 512 ≤ 2048; omega

theorem rows_fit (T1 : S1.Idx → BitVec 32) (h : ∀ x, 1 ≤ (T1 x).toInt) (i : grid0.Coords) :
    ∀ z : Fin 2, ((![(Scalar.minsi (BitVec.ofNat 32 (i 1).val) (Scalar.subi (used (F := F) T1) 1#32)).toNat, (0#32 : BitVec 32).toNat] : Fin 2 → ℕ) z + 1) * S512x2048.size z ≤ S82432x2048.size z := by
  have hi : (i 1).val < 161 := (i 1).isLt
  have hv : (Scalar.minsi (BitVec.ofNat 32 (i 1).val) (Scalar.subi (used (F := F) T1) 1#32)).toNat = _ := min_words _ _ hi (h _)
  intro z
  fin_cases z
  · show ((Scalar.minsi (BitVec.ofNat 32 (i 1).val) (Scalar.subi (used (F := F) T1) 1#32)).toNat + 1) * 512 ≤ 82432
    rw [hv]
    omega
  · show (0 + 1) * 2048 ≤ 2048; omega

theorem ok_of_ranged (pf : pre0.Contents (Elt F)) (h : Ranged (pf 0) (pf 1)) : ok0 pf :=
  ⟨fun i => ⟨rows_fit (F := F) (pf 1) h.2 i, .inr (Affine.block_words_dvd (of_decide_eq_true rfl) (by decide))⟩,
    fun i => ⟨weights_fit (F := F) (pf 0) h.1 i, .inl rfl⟩, fun i => ⟨biases_fit (F := F) (pf 0) h.1 i, .inl rfl⟩⟩

variable (m : (ℓ : Loc nD τ sig) → Buf (Elt F) ℓ) (ρ : Dev nD → PrngReg)

/-- The launch's tables. -/
abbrev tabs : pre0.Contents (Elt F) := fun k => m (((0 : Dev nD) : Thread nD τ).loc (pre0.ref k))

/-- The launch's tables in range. -/
abbrev InRange : Prop := Ranged (m (((0 : Dev nD) : Thread nD τ).loc main_arg0)) (m (((0 : Dev nD) : Thread nD τ).loc main_arg1))

abbrev adm (h : InRange m) : (pcfg0 (F := F)).Adm := ⟨tabs m, ok_of_ranged (tabs m) h⟩

theorem fits (h : InRange m) : Fits m (adm m h) := fun c k => by
  obtain rfl : c = 0 := Subsingleton.elim _ _
  rfl

/-- The arguments at the end of a run. -/
theorem frame_post (a : (pcfg0 (F := F)).Adm) (r : PUnit × MemSt nD τ sig (Elt F)) (hr : Pipeline.FramePost (Pipeline.pin pcfgs fun _ => a) (dats m a) 0 (fun c b => m ((c : Thread nD τ).loc b)) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(hr c).2 main_arg0 (Pipeline.mem_restRefs_of main_arg0 rfl (fun w => by fin_cases w <;> exact fun e => by cases e)),
      (hr c).2 main_arg1 (Pipeline.mem_restRefs_of main_arg1 rfl (fun w => by fin_cases w <;> exact fun e => by cases e)),
      ((hr c).1 0).trans (((dats m a 0 c).arrAt_in 0 rfl _).trans (A_eq m a c 0)),
      ((hr c).1 1).trans (((dats m a 0 c).arrAt_in 1 rfl _).trans (A_eq m a c 1)),
      ((hr c).1 2).trans (((dats m a 0 c).arrAt_in 2 rfl _).trans (A_eq m a c 2))⟩

/-- The arguments end unchanged, and every counter at zero. -/
theorem frame (h : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r hr => ⟨frame_post m (adm m h) r hr.1, hr.2⟩) (run_main_quiescent m ρ (adm m h) (fits m h))

/-- What the precondition says of the tables. -/
theorem ranged_of_pre [Cert.Pre_tables4.Facts] (T0 : S161.Idx → BitVec 32) (T1 : S1.Idx → BitVec 32) (x0 x1 x2)
    (h : Cert.Pre_tables4.fn (F := F) T0 T1 x0 x1 x2 = fun _ => 1#1) : Ranged T0 T1 := by
  have e := congrFun h (fun z => z.elim0)
  simp only [Cert.Pre_tables4.fn, andi_apply] at e
  obtain ⟨e0, e1⟩ := IntOp.andi_eq_one.1 e
  haveI : Subsingleton Cert.Pre_tables4.S_.Idx := ⟨fun _ _ => funext fun z => z.elim0⟩
  refine ⟨fun x => ?_, fun x => ?_⟩
  · have hx := Host.reduce_andi_all _ _ _ _ _ e0 x
    simp only [andi_apply] at hx
    obtain ⟨h0, h1⟩ := IntOp.andi_eq_one.1 hx
    have a0 : (0#32 : BitVec 32).toInt ≤ (T0 x).toInt := IntOp.cmpi_sge.1 h0
    have a1 : (T0 x).toInt < (32#32 : BitVec 32).toInt := IntOp.cmpi_slt.1 h1
    have e2 : (0#32 : BitVec 32).toInt = 0 := by decide
    have e3 : (32#32 : BitVec 32).toInt = 32 := by decide
    rw [e2] at a0
    rw [e3] at a1
    have := toNat_of_isInt (signed_iff.2 (rfl : (T0 x).toInt = (T0 x).toInt)) a0
    omega
  · have hx := Host.reduce_andi_all _ _ _ _ _ e1 x
    have a0 : (1#32 : BitVec 32).toInt ≤ (T1 x).toInt := IntOp.cmpi_sge.1 hx
    have e2 : (1#32 : BitVec 32).toInt = 1 := by decide
    rw [e2] at a0
    exact a0

end Cert.DownIdeal.Body

end
-- ==== Proof.DownValue.lean ====
/- The result array of the experts' down product. -/
module

public import proofs.«01_k».proof.Proof.DownSpec
public import proofs.«01_k».proof.Proof.DownFrame
public import Idealize.ShloMosaic.Lib.Pipeline.ValueKit
public import Idealize.ShloMosaic.Lib.Pipeline.Covers
public import Idealize.ShloMosaic.Lib.Pointwise
public import Idealize.ShloMosaic.Lib.IdealHost
public import Idealize.ShloMosaic.Lib.Claim

@[expose] public section

set_option maxRecDepth 16384

noncomputable section

namespace Cert.DownIdeal.At

open Idealize.ShloMosaic Idealize.ShloMosaic.TcCoe Idealize.SL.Sem
open Idealize.ShloMosaic.Pipeline (Dat)
open Cert.DownIdeal Cert.DownIdeal.Gen Cert.DownIdeal.Body
open Cert.GmmSpec (Count Rows Weights Biases tileOf expertOf proj)
open Cert.DownSpec (value)

/-! ## The payloads at an index -/

theorem first_at (w : Vec Ideal S1x2048x512 .f32) (k : Fin 2048) (f : Fin 512) : (k0_pay1 w (ix2 k f) : EReal) = w (ix3 0 k f) := by
  pointwise [k0_pay1]

theorem product_at (x : Vec Ideal S512x2048 .bf16) (v : Vec Ideal S2048x512 .bf16) (b : Vec Ideal S1x1x512 .f32) (r f : Fin 512) :
    (k0_pay2 x v b (ix2 r f) : EReal) = (∑ k : Fin 2048, (x (ix2 r k) : EReal) * v (ix2 k f)) + b (ix3 0 0 f) := by
  pointwise [k0_pay2]

theorem spare_at (r : Fin 512) (f : Fin 512) : (k0_pay3 (F := Ideal) (ix2 r f) : EReal) = 0 := by
  pointwise [k0_pay3]

variable (m : (ℓ : Loc nD τ sig) → Buf (Elt Ideal) ℓ) (h : InRange m)

abbrev T0 : Cert.GmmSpec.Table := m (((0 : Dev nD) : Thread nD τ).loc main_arg0)
abbrev N0 : Count := m (((0 : Dev nD) : Thread nD τ).loc main_arg1)
abbrev X0 (c : Dev nD) : Rows := m ((c.tc : Thread nD τ).loc main_arg2)
abbrev W0 (c : Dev nD) : Weights := m ((c.tc : Thread nD τ).loc main_arg3)
abbrev B0 (c : Dev nD) : Biases := m ((c.tc : Thread nD τ).loc main_arg4)

section Blocks
variable (c : Dev nD) (t : Fin (cfg0 (adm m h)).N)

theorem point_lt : t.val < 644 := Nat.lt_of_lt_of_eq t.isLt (by decide : grid0.N = 644)

theorem row_lt (r : Fin 512) : 512 * (t.val % 161) + r.val < 82432 := by omega
theorem col_lt (f : Fin 512) : 512 * (t.val / 161) + f.val < 2048 := by
  have := point_lt m h t
  omega

/-- The point's expert. -/
abbrev ex : Fin 32 := expertOf (T0 m) (tile t.val)

theorem ex_val : (expert (adm m h) (tile t.val)).toNat = (ex m h t).val := by
  have e : (T0 m (ix1 (tile t.val))).toNat < 32 := h.1 _
  show (T0 m (ix1 (tile t.val))).toNat = (T0 m (ix1 (tile t.val))).toNat % 32
  omega

theorem block0 (hu : ((t.val % 161 : ℕ) : ℤ) < (count (adm m h)).toInt) (r : Fin 512) (k : Fin 2048) :
    (iblk m (adm m h) c 0 t (ix2 r k) : EReal) = X0 m c (ix2 ⟨512 * (t.val % 161) + r.val, row_lt m h t r⟩ k) := by
  blk_ext [iblk, index0 (adm m h) t hu]

theorem block1 (k : Fin 2048) (f : Fin 512) : (iblk m (adm m h) c 1 t (ix3 0 k f) : EReal) = W0 m c (ix3 (ex m h t) k ⟨512 * (t.val / 161) + f.val, col_lt m h t f⟩) := by
  blk_ext [iblk, index1 (adm m h) t, ex_val m h t]

theorem block2 (f : Fin 512) : (iblk m (adm m h) c 2 t (ix3 0 0 f) : EReal) = B0 m c (ix3 (ex m h t) 0 ⟨512 * (t.val / 161) + f.val, col_lt m h t f⟩) := by
  blk_ext [iblk, index2 (adm m h) t, ex_val m h t]

theorem tile_row (r : Fin 512) : tileOf ⟨512 * (t.val % 161) + r.val, row_lt m h t r⟩ = tile t.val := by
  refine Fin.ext ?_
  show (512 * (t.val % 161) + r.val) / 512 = t.val % 161
  omega

theorem result_at (r f : Fin 512) : (result m (adm m h) c t (ix2 r f) : EReal)
    = value (T0 m) (N0 m) (X0 m c) (W0 m c) (B0 m c) ⟨512 * (t.val % 161) + r.val, row_lt m h t r⟩ ⟨512 * (t.val / 161) + f.val, col_lt m h t f⟩ := by
  unfold value
  have hc : ((grid0.coords t) 1).val = t.val % 161 := crd1 t
  by_cases hu : k0_cond2 (grid0.coords t) (count (adm m h)) = 1#1
  · have hu' := (used_iff _ _).1 hu
    rw [hc] at hu'
    rw [if_pos (by rw [tile_row]; exact hu'), result_used m (adm m h) c t hu]
    refine (product_at _ _ _ r f).trans ?_
    unfold proj
    rw [tile_row]
    refine congrArg₂ (· + ·) (Finset.sum_congr rfl fun k _ => ?_) (block2 m h c t f)
    exact congrArg₂ (· * ·) (block0 m h c t hu' r k) ((first_at _ k f).trans (block1 m h c t k f))
  · have hu' := fun e => hu ((used_iff _ _).2 e)
    rw [hc] at hu'
    rw [if_neg (by rw [tile_row]; exact hu'), result_spare m (adm m h) c t hu]
    exact spare_at r f
end Blocks

theorem out_pos (z : Fin 2) : 0 < S512x512.size z := by
  fin_cases z <;> decide

/-- The grid coordinates of a block of columns and a tile. -/
def crds (p : Fin 4) (q : Fin 161) : grid0.Coords := fun z => match z with
  | ⟨0, _⟩ => p
  | ⟨1, _⟩ => q

theorem out_nblk : ∀ z : Fin 2, ((cfg0 (adm m h)).win 3).nblk z = (![161, 4] : Fin 2 → ℕ) z := fun z => by
  fin_cases z
  · show (82432 + 512 - 1) / 512 = 161
    decide
  · show (2048 + 512 - 1) / 512 = 4
    decide

theorem covers : ((cfg0 (adm m h)).win 3).Covers :=
  ((cfg0 (adm m h)).win 3).covers_of_indexMap_surj rfl out_pos fun β =>
    ⟨crds ⟨(β (1 : Fin 2)).val, lt_of_lt_of_eq (β (1 : Fin 2)).isLt (out_nblk m h 1)⟩ ⟨(β (0 : Fin 2)).val, lt_of_lt_of_eq (β (0 : Fin 2)).isLt (out_nblk m h 0)⟩, fun z => by
      have b0 : (β (0 : Fin 2)).val < 161 := lt_of_lt_of_eq (β (0 : Fin 2)).isLt (out_nblk m h 0)
      have b1 : (β (1 : Fin 2)).val < 4 := lt_of_lt_of_eq (β (1 : Fin 2)).isLt (out_nblk m h 1)
      change Fin 2 at z
      fin_cases z
      · exact WordCmp.toNat_ofNat_of_lt (a := (β (0 : Fin 2)).val) (by omega)
      · exact WordCmp.toNat_ofNat_of_lt (a := (β (1 : Fin 2)).val) (by omega)⟩

theorem out_at (c : Dev nD) (t : Fin (cfg0 (adm m h)).N) (y : S512x512.Idx) (j : S82432x2048.Idx) (h0 : (j 0).val = t.val % 161 * 512 + (y 0).val) (h1 : (j 1).val = t.val / 161 * 512 + (y 1).val) :
    (result m (adm m h) c t y : EReal) = Cert.DownSpec.arr (T0 m) (N0 m) (X0 m c) (W0 m c) (B0 m c) j := by
  refine (congrArg (result m (adm m h) c t) (show y = ix2 (y 0) (y 1) by blk_ext)).trans ((result_at m h c t (y 0) (y 1)).trans ?_)
  unfold Cert.DownSpec.arr
  congr 1
  · refine Fin.ext ?_
    show 512 * (t.val % 161) + (y 0).val = (j 0).val
    omega
  · refine Fin.ext ?_
    show 512 * (t.val / 161) + (y 1).val = (j 1).val
    omega

theorem final (c : Dev nD) : (dats m (adm m h) 0 c).arrAt 3 (cfg0 (adm m h)).N = Cert.DownSpec.arr (T0 m) (N0 m) (X0 m c) (W0 m c) (B0 m c) := by
  refine (dats m (adm m h) 0 c).arrAt_eq_of_covers 3 _ (covers m h) fun t _ y => ?_
  rw [after0_3]
  refine out_at m h c t y _ ?_ ?_
  · blk_simp [index3 (adm m h) t]
  · blk_simp [index3 (adm m h) t]

end Cert.DownIdeal.At

end
-- ==== Proof.DownRef.lean ====
/- The reference of the experts' down product, read at an index. -/
module

public import proofs.«01_k».proof.Proof.DownSpec
public import proofs.«01_k».proof.Proof.Take
public import proofs.«01_k».proof.Proof.Gen.DownRefIdeal.Run
public import Idealize.ShloMosaic.Lib.Pointwise
public import Idealize.ShloMosaic.Lib.IdealHost
public import Idealize.ShloMosaic.Lib.WordCmp
public import Idealize.ShloMosaic.Lib.Claim

@[expose] public section

set_option maxRecDepth 16384

noncomputable section

namespace Cert.DownRefIdeal.At

open Idealize.ShloMosaic Idealize.ShloMosaic.TcCoe Idealize.SL.Sem
open Cert.DownRefIdeal Cert.DownRefIdeal.Gen Cert.DownRefIdeal.Value
open Cert.GmmSpec (Count Rows Weights Biases tileOf expertOf proj)
open Cert.DownSpec (value arr)

section Terms
variable (T : S161.Idx → BitVec 32) (N : S1.Idx → BitVec 32) (X : FVec Ideal S82432x2048 .bf16) (W : FVec Ideal S32x2048x2048 .f32) (B : FVec Ideal S32x1x2048 .f32)

/-- Each tile's expert as a position, a negative one counted from the end. -/
def place : IVec S161x1 32 := broadcastInDim S161x1 ![0] bcast_S161_S161x1_0 (select (cmpi .slt T (broadcastInDim S161 ![] bcast_S_S161 (constantI S_ 32 0#32))) (addi T (broadcastInDim S161 ![] bcast_S_S161 (constantI S_ 32 32#32))) T)

/-- The rows by their experts' matrices, with their experts' biases. -/
def product : FVec Ideal S161x512x2048 .f32 := (addf (Host.dotGeneral dot_S161x512x2048_S161x2048x2048_S161x512x2048_2_1_1_2_0_0 none (shapeCast _ (extf .f32 X bitsLt_bf16_f32) shapeCasts_S82432x2048_S161x512x2048) (Host.gather gather_S32x2048x2048_S161x1_S161x2048x2048_12_0_n_n_0_1_120482048 W (place T))) (broadcastInDim S161x512x2048 ![0, 1, 2] bcast_S161x1x2048_S161x512x2048_0_1_2 (Host.gather gather_S32x1x2048_S161x1_S161x1x2048_12_0_n_n_0_1_112048 B (place T))))

/-- The used tiles' rows, the others zero. -/
def shown (Y : FVec Ideal S161x512x2048 .f32) : FVec Ideal S82432x2048 .f32 :=
  shapeCast _ (select (broadcastInDim S161x512x2048 ![0, 1, 2] bcast_S161x1x1_S161x512x2048_0_1_2 (cmpi .slt (broadcastInDim S161x1x1 ![0] bcast_S161_S161x1x1_0 (iotaInDim S161 32 0)) (broadcastInDim S161x1x1 ![] bcast_S_S161x1x1 (shapeCast _ N shapeCasts_S1_S_)))) Y (broadcastInDim S161x512x2048 ![] bcast_S_S161x512x2048 (id (constant S_ .f32 0x00000000#32)))) shapeCasts_S161x512x2048_S82432x2048

variable (hT : ∀ x, (T x).toNat < 32)
include hT

theorem place_at (n : Fin 161) : place T (ix2 n 0) = T (ix1 n) := by
  have h := hT (ix1 n)
  pointwise [place]
  have hc : ¬ IntOp.cmpi .slt (T (ix1 n)) 0#32 = 1#1 := fun e => by
    have e' := IntOp.cmpi_slt.1 e
    have e0 : (0#32 : BitVec 32).toInt = 0 := by decide
    rw [e0, BitVec.toInt_eq_toNat_cond] at e'
    omega
  exact if_neg hc

theorem expert_min (n : Fin 161) (h : min (place T (ix2 n 0)).toInt.toNat (32 - 1) < 32) : (⟨min (place T (ix2 n 0)).toInt.toNat (32 - 1), h⟩ : Fin 32) = expertOf T n := by
  refine Fin.ext ?_
  have e := hT (ix1 n)
  show min (place T (ix2 n 0)).toInt.toNat (32 - 1) = (T (ix1 n)).toNat % 32
  rw [place_at T hT n, BitVec.toInt_eq_toNat_cond]
  omega

theorem weights_at (n : Fin 161) (k f : Fin 2048) :
    Host.gather gather_S32x2048x2048_S161x1_S161x2048x2048_12_0_n_n_0_1_120482048 W (place T) (ix3 n k f) = W (ix3 (expertOf T n) k f) :=
  (Cert.Take.take_at (by decide) gather_S32x2048x2048_S161x1_S161x2048x2048_12_0_n_n_0_1_120482048_wf W (place T) n k f).trans
    (congrArg (fun e => W (ix3 e k f)) (expert_min T hT n _))

theorem biases_at (n : Fin 161) (f : Fin 2048) :
    Host.gather gather_S32x1x2048_S161x1_S161x1x2048_12_0_n_n_0_1_112048 B (place T) (ix3 n 0 f) = B (ix3 (expertOf T n) 0 f) :=
  (Cert.Take.take_at (by decide) gather_S32x1x2048_S161x1_S161x1x2048_12_0_n_n_0_1_112048_wf B (place T) n 0 f).trans
    (congrArg (fun e => B (ix3 e 0 f)) (expert_min T hT n _))

theorem product_at (n : Fin 161) (r : Fin 512) (f : Fin 2048) :
    (product T X W B (ix3 n r f) : EReal) = (∑ k : Fin 2048, X (ix2 ⟨n.val * 512 + r.val, by omega⟩ k) * W (ix3 (expertOf T n) k f)) + B (ix3 (expertOf T n) 0 f) := by
  have ew := fun k => weights_at T W hT n k f
  have eb := biases_at T B hT n f
  unfold product
  generalize Host.gather gather_S32x2048x2048_S161x1_S161x2048x2048_12_0_n_n_0_1_120482048 W (place T) = W' at ew ⊢
  generalize Host.gather gather_S32x1x2048_S161x1_S161x1x2048_12_0_n_n_0_1_112048 B (place T) = B' at eb ⊢
  pointwise [ew, eb]

omit hT in
theorem shown_at (Y : FVec Ideal S161x512x2048 .f32) (r : Fin 82432) (f : Fin 2048) :
    (shown N Y (ix2 r f) : EReal) = if ((tileOf r).val : ℤ) < (N (ix1 0)).toInt then (Y (ix3 (tileOf r) ⟨r.val % 512, Nat.mod_lt _ (by decide)⟩ f) : EReal) else 0 := by
  pointwise [shown]
  have hv : (BitVec.ofNat 32 (r.val / 512)).toInt = ((r.val / 512 : ℕ) : ℤ) := WordCmp.toInt_ofNat_of_lt (by omega)
  by_cases hc : IntOp.cmpi .slt (BitVec.ofNat 32 (r.val / 512)) (N (ix1 0)) = 1#1
  · have hn := IntOp.cmpi_slt.1 hc
    rw [hv] at hn
    exact (if_pos hc).trans (if_pos hn).symm
  · have hn := fun e => hc (IntOp.cmpi_slt.2 (hv.trans_lt e))
    exact (if_neg hc).trans ((Ideal.ofBits_zero .f32).trans (if_neg hn).symm)

theorem down_at (X' : FVec Ideal S82432x2048 .bf16) : (shown N (product T X' W B) : S82432x2048.Idx → EReal) = arr T N X' W B := by
  funext j
  idx_vars j
  refine (shown_at N _ j0 j1).trans ?_
  show _ = value T N X' W B j0 j1
  unfold value proj
  rw [product_at T X' W B hT]
  have e : ∀ k : Fin 2048, (ix2 (⟨(tileOf j0).val * 512 + j0.val % 512, by omega⟩ : Fin 82432) k) = ix2 j0 k := fun k =>
    congrArg (fun r => ix2 r k) (Fin.ext (by show j0.val / 512 * 512 + j0.val % 512 = j0.val; omega))
  simp only [e]

end Terms

/-- The reference ends with the result in closed form, its tables in range. -/
theorem run (m : (ℓ : Loc nD τ sig) → Buf (Elt Ideal) ℓ) (ρ : Dev nD → PrngReg) (hT : ∀ c : Dev nD, ∀ x, (m ((c.tc : Thread nD τ).loc main_arg0) x : BitVec 32).toNat < 32) :
    θ_run defs (onTc (τ := τ) (main (F := Ideal))) ⟨m, fun _ => 0, ρ⟩ fun r => ∀ c : Dev nD,
      r.2.mem ((c.tc : Thread nD τ).loc main_v25) = arr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2⟩) (Value.run m ρ)
  have hc := hT c
  revert hc
  generalize m ((c.tc : Thread nD τ).loc main_arg0) = T
  generalize m ((c.tc : Thread nD τ).loc main_arg1) = N
  generalize m ((c.tc : Thread nD τ).loc main_arg2) = X
  generalize m ((c.tc : Thread nD τ).loc main_arg3) = W
  generalize m ((c.tc : Thread nD τ).loc main_arg4) = B
  exact fun hc => down_at T N W B hc X

end Cert.DownRefIdeal.At

end
-- ==== Proof.DownClaim.lean ====
/- The claims about the experts' down product. -/
module

public import proofs.«01_k».proof.Defs
public import proofs.«01_k».proof.Proof.Gen.Down
public import proofs.«01_k».proof.Proof.DownValue
public import proofs.«01_k».proof.Proof.DownRef
public import Idealize.ShloMosaic.Lib.Claim

@[expose] public section

set_option maxRecDepth 16384

noncomputable section

namespace Cert.Proof

open Idealize.ShloMosaic Idealize.ShloMosaic.TcCoe Idealize.ShloMosaic.Tactic Idealize.SL.Sem

instance downFacts : Cert.Down.Facts := Cert.Down.Gen.facts
instance downIdealFacts : Cert.DownIdeal.Facts := Cert.DownIdeal.Gen.facts
instance downRefFacts : Cert.DownRefIdeal.Facts := Cert.DownRefIdeal.Gen.facts
instance tables4Facts : Cert.Pre_tables4.Facts := Cert.Pre_tables4.Gen.facts

section
open Cert.DownIdeal
/-- The frame of the program read at the machine's values: the two programs are printed alike, so it is the other's. -/
def DownFrame : Prop := ∀ (m : (ℓ : Loc nD τ sig) → Buf (Elt Bits) ℓ) (ρ : Dev nD → PrngReg),
    (∀ c : Dev nD, Cert.Pre_tables4.fn (F := Bits) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = fun _ => 1#1) →
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)
end

theorem downFrame_eq : DownFrame = Cert.quiescent_Down := by sl_kernel_rfl

theorem down_quiescent : Cert.quiescent_Down := downFrame_eq ▸ fun m ρ hp =>
  Cert.DownIdeal.Body.frame m ρ (Cert.DownIdeal.Body.ranged_of_pre _ _ _ _ _ (hp 0))
theorem downIdeal_quiescent : Cert.quiescent_DownIdeal := fun m ρ hp =>
  Cert.DownIdeal.Body.frame m ρ (Cert.DownIdeal.Body.ranged_of_pre _ _ _ _ _ (hp 0))
theorem downRef_quiescent : Cert.quiescent_DownRefIdeal := fun m g _ =>
  (θ_run _ _ _).mono (fun r h => ⟨fun c => (h c).2, sem_eq_zero_of_no_sems rfl _⟩) (Cert.DownRefIdeal.Value.run m g)

theorem down_preserves : Cert.preserves_Down_DownIdeal := trivial

section
open Cert.DownIdeal Cert.DownIdeal.Body Cert.DownIdeal.At

/-- The kernel ends with the result in closed form. -/
theorem down_run (m : (ℓ : Loc nD τ sig) → Buf (Elt Ideal) ℓ) (ρ : Dev nD → PrngReg) (h : InRange m) :
    θ_run defs (onTc (τ := τ) (main (F := Ideal))) ⟨m, fun _ => 0, ρ⟩ fun r => ∀ c : Dev nD,
      r.2.mem ((c.tc : Thread nD τ).loc main_v0) = Cert.DownSpec.arr (T0 m) (N0 m) (X0 m c) (W0 m c) (B0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r hr c => ⟨((hr c).1 3).trans (final m h c), frame_post m (adm m h) r hr c⟩) (run_main m ρ (adm m h) (fits m h))
end

theorem down_algebraic : Cert.algebraic_DownIdeal_DownRefIdeal := by
  intro m g m' g' hp ha
  have h : Cert.DownIdeal.Body.InRange m := Cert.DownIdeal.Body.ranged_of_pre _ _ _ _ _ (hp 0)
  refine ⟨fun c => Cert.DownSpec.arr (Cert.DownIdeal.At.T0 m) (Cert.DownIdeal.At.N0 m) (Cert.DownIdeal.At.X0 m c) (Cert.DownIdeal.At.W0 m c) (Cert.DownIdeal.At.B0 m c), down_run m g h, ?_⟩
  refine (θ_run _ _ _).mono (fun r hr c => ⟨(hr c).1.trans ?_, (hr c).2⟩) (Cert.DownRefIdeal.At.run m' g' fun c => ?_)
  · obtain rfl : c = 0 := Subsingleton.elim _ _
    rw [(ha 0).1]
    exact h.1
  · obtain ⟨e0, e1, e2, e3, e4⟩ := ha c
    obtain rfl : c = 0 := Subsingleton.elim _ _
    rw [e0, e1, e2, e3, e4]

end Cert.Proof

end
-- ==== Proof.ConvSpec.lean ====
/- The convolution's carried rows in closed form: the last three rows of a sample's (or a prompt's) projection, its first 3072
   columns. -/
module

public import Idealize.ShloMosaic.Lib.Pointwise
public import Idealize.ShloMosaic.Lib.IdealHost

@[expose] public section

set_option maxRecDepth 16384

noncomputable section

namespace Cert.ConvSpec

open Idealize.ShloMosaic Idealize.ShloMosaic.TcCoe

/-- The input projection's rows: the prompts' 16384, then the samples' 128. -/
abbrev Rows := FVec Ideal ⟨2, ![16512, 8192]⟩ .f32

/-- The last three of sample `b`'s four rows. -/
def sample (X : Rows) : (⟨4, ![1, 32, 3, 3072]⟩ : Shape).Idx → EReal := fun j =>
  X (ix2 (⟨16384 + 4 * (j 1).val + 1 + (j 2).val, by have h1 : (j 1).val < 32 := (j 1).isLt; have h2 : (j 2).val < 3 := (j 2).isLt; omega⟩ : Fin 16512)
    (⟨(j 3).val, by have h3 : (j 3).val < 3072 := (j 3).isLt; omega⟩ : Fin 8192))

/-- The last three of prompt `b`'s 8192 rows. -/
def prompt (X : Rows) : (⟨4, ![1, 2, 3, 3072]⟩ : Shape).Idx → EReal := fun j =>
  X (ix2 (⟨8192 * (j 1).val + 8189 + (j 2).val, by have h1 : (j 1).val < 2 := (j 1).isLt; have h2 : (j 2).val < 3 := (j 2).isLt; omega⟩ : Fin 16512)
    (⟨(j 3).val, by have h3 : (j 3).val < 3072 := (j 3).isLt; omega⟩ : Fin 8192))

end Cert.ConvSpec

end
-- ==== Proof.ConvSValue.lean ====
/- The sample's carried convolution rows. -/
module

public import proofs.«01_k».proof.Proof.ConvSpec
public import proofs.«01_k».proof.Proof.Gen.ConvSIdeal.Frame
public import Idealize.ShloMosaic.Lib.Pipeline.ValueKit
public import Idealize.ShloMosaic.Lib.Pipeline.Covers
public import Idealize.ShloMosaic.Lib.Pointwise
public import Idealize.ShloMosaic.Lib.IdealHost
public import Idealize.ShloMosaic.Lib.WritesUnit
public import Idealize.ShloMosaic.Lib.WholeRead
public import Idealize.ShloMosaic.Lib.Claim

@[expose] public section

set_option maxRecDepth 16384

noncomputable section

namespace Cert.ConvSIdeal.At

open Idealize.ShloMosaic Idealize.ShloMosaic.TcCoe Idealize.SL.Sem
open Idealize.ShloMosaic.Pipeline (Dat)
open Cert.ConvSIdeal Cert.ConvSIdeal.Gen

variable (m : (ℓ : Loc nD τ sig) → Buf (Elt Ideal) ℓ)

theorem pay_at (v : Vec Ideal S8x3072 .f32) (r : Fin 8) (f : Fin 3072) : (k0_pay7 v (ix3 0 r f) : EReal) = v (ix2 r f) := by
  pointwise [k0_pay7]

theorem load_at (v : Vec Ideal S128x3072 .f32) (r : Fin 128) (f : Fin 3072) : (k0_pay4 v (ix2 r f) : EReal) = v (ix2 r f) := by
  pointwise [k0_pay4]

theorem outs_at (c : Dev nD) (t : Fin cfg0.N) (r : Fin 3) (f : Fin 3072) :
    ((outsAt0 m c t).2.1 (ix3 0 (⟨5 + r.val, by omega⟩ : Fin 8) f) : EReal) = iblk m c 0 t (ix2 (⟨1 + r.val, by omega⟩ : Fin 128) f) := by
  unfold outsAt0
  dsimp only
  unfold out0_A_14 kernelRun0_A
  dsimp only
  refine (View.read_writes_cons_unit_of_mem _ _ _ _ _ _ (ix3 0 (⟨5 + r.val, by omega⟩ : Fin 8) f) rfl (by intro a; fin_cases a <;> simp)).trans ?_
  refine (pay_at _ _ f).trans ?_
  unfold kernelRun0_A.sl.v35
  dsimp only
  unfold View.readCov kernelRun0_A.sl.HS1_2
  refine (View.read_writes_cons_rows_of_mem (o := 8) (View.whole cc0_scratch1) _ _ _ _ _ (ix2 (⟨1 + r.val, by omega⟩ : Fin 128) f) rfl ?_ ?_).trans ?_
  · show 4 + 1 * (5 + r.val) = 8 + (1 + r.val)
    omega
  · show 0 + 1 * f.val = f.val
    omega
  refine (load_at _ _ f).trans ?_
  refine (Memref.IsWhole.readAt_unread (hs0_0 t) _ _ _).trans (congrArg (iblk m c 0 t) ?_)
  funext a
  refine Fin.ext ?_
  fin_cases a
  · show 0 + 1 * (1 + r.val) = 1 + r.val
    omega
  · show 0 + 1 * f.val = f.val
    omega

/-! ## The projected rows, padded -/

abbrev X0 (c : Dev nD) : Cert.ConvSpec.Rows := m ((c.tc : Thread nD τ).loc main_arg0)

theorem v4 (c : Dev nD) : V m c main_v4 = (shapeCast S4096x3072 (pad S32x128x3072 ![0, 0, 0] ![0, 124, 0] ![0, 0, 0]
    (extractStridedSlice S32x4x3072 ![0, 0, 0] (shapeCast S32x4x8192 (extractStridedSlice S128x8192 ![16384, 0] (X0 m c) slices_S16512x8192_S128x8192_16384_0) shapeCasts_S128x8192_S32x4x8192) slices_S32x4x8192_S32x4x3072_0_0_0)
    (sitofp .f32 (constantI S_ 32 0#32) : FVec Ideal S_ .f32) pads_S32x4x3072_S32x128x3072_000_01240_000 h_S_) shapeCasts_S32x128x3072_S4096x3072 : FVec Ideal S4096x3072 .f32) := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil, StableHlo.TRef.nullary, StableHlo.TRef.ternary, StableHlo.TRef.binary, StableHlo.TRef.unary, StableHlo.TRef.toBuf, StableHlo.TRef.ofBuf, cast_eq]
  after_results_simp
  rfl

theorem padded_at (X : FVec Ideal S16512x8192 .f32) (z : FVec Ideal S_ .f32) (b : Fin 32) (r : Fin 3) (f : Fin 3072) :
    shapeCast S4096x3072 (pad S32x128x3072 ![0, 0, 0] ![0, 124, 0] ![0, 0, 0]
      (extractStridedSlice S32x4x3072 ![0, 0, 0] (shapeCast S32x4x8192 (extractStridedSlice S128x8192 ![16384, 0] X slices_S16512x8192_S128x8192_16384_0) shapeCasts_S128x8192_S32x4x8192) slices_S32x4x8192_S32x4x3072_0_0_0)
      z pads_S32x4x3072_S32x128x3072_000_01240_000 h_S_) shapeCasts_S32x128x3072_S4096x3072 (ix2 (⟨128 * b.val + (1 + r.val), by omega⟩ : Fin 4096) f)
    = X (ix2 (⟨16384 + 4 * b.val + 1 + r.val, by omega⟩ : Fin 16512) (⟨f.val, by omega⟩ : Fin 8192)) := by
  pointwise
  have e : (128 * b.val + (1 + r.val)) % 128 = 1 + r.val := by omega
  rw [dif_pos (by omega)]
  refine congrArg (fun a => X (ix2 a ⟨f.val, by omega⟩)) (Fin.ext ?_)
  show 16384 + (b.val * 4 + (128 * b.val + (1 + r.val)) % 128) = 16384 + 4 * b.val + 1 + r.val
  omega

theorem index0 : ∀ t : Fin cfg0.N, win0_0.index t = ![t.val, 0] := (by decide +kernel : ∀ t : Fin grid0.N, _)
theorem index14 : ∀ t : Fin cfg0.N, win0_14.index t = ![t.val, 0, 0] := (by decide +kernel : ∀ t : Fin grid0.N, _)

theorem point_lt (t : Fin cfg0.N) : t.val < 32 := Nat.lt_of_lt_of_eq t.isLt N_0

theorem block0 (c : Dev nD) (t : Fin cfg0.N) (r : Fin 3) (f : Fin 3072) : (iblk m c 0 t (ix2 (⟨1 + r.val, by omega⟩ : Fin 128) f) : EReal)
    = X0 m c (ix2 (⟨16384 + 4 * t.val + 1 + r.val, by have := point_lt t; omega⟩ : Fin 16512) (⟨f.val, by omega⟩ : Fin 8192)) := by
  refine Eq.trans ?_ ((congrFun (v4 m c) (ix2 (⟨128 * t.val + (1 + r.val), by have := point_lt t; omega⟩ : Fin 4096) f)).trans (padded_at (X0 m c) _ ⟨t.val, point_lt t⟩ r f))
  blk_ext [iblk, index0 t]

/-! ## The result -/

/-- The rows each point leaves, as one array. -/
def kept (c : Dev nD) : S32x8x3072.Idx → EReal := fun j =>
  (outsAt0 m c ⟨(j 0).val, Nat.lt_of_lt_of_eq (j 0).isLt N_0.symm⟩).2.1 (ix3 0 (j 1) (j 2))

theorem kept_eq (c : Dev nD) (t : Fin cfg0.N) (y : S1x8x3072.Idx) (j : S32x8x3072.Idx) (h0 : (j 0).val = t.val) (h1 : (j 1).val = (y 1).val) (h2 : (j 2).val = (y 2).val) :
    (outsAt0 m c t).2.1 y = kept m c j := by
  unfold kept
  have e : t = ⟨(j 0).val, Nat.lt_of_lt_of_eq (j 0).isLt N_0.symm⟩ := Fin.ext h0.symm
  rw [← e]
  refine congrArg _ ?_
  idx_vars y
  have a1 : j 1 = y1 := Fin.ext h1
  have a2 : j 2 = y2 := Fin.ext h2
  rw [a1, a2]
  blk_ext

theorem final (c : Dev nD) : (dats m 0 c).arrAt 14 cfg0.N = kept m c := by
  refine (dats m 0 c).arrAt_eq_of_covers 14 _ (by decide +kernel) fun t _ y => ?_
  rw [after0_14]
  refine kept_eq m c t y _ ?_ ?_ ?_
  all_goals blk_simp [index14 t]

theorem sliced_at (K : FVec Ideal S32x8x3072 .f32) (b : Fin 32) (r : Fin 3) (f : Fin 3072) :
    broadcastInDim S1x32x3x3072 ![1, 2, 3] bcast_S32x3x3072_S1x32x3x3072_1_2_3 (extractStridedSlice S32x3x3072 ![0, 5, 0] K slices_S32x8x3072_S32x3x3072_0_5_0) (ix4 0 b r f)
      = K (ix3 b (⟨5 + r.val, by omega⟩ : Fin 8) f) := by
  pointwise

theorem tail (c : Dev nD) : (Pipeline.afterTail₀ cfgs (dats m) 0 (V0 m) [hostOps1] c main_v49 : S1x32x3x3072.Idx → EReal) = Cert.ConvSpec.sample (X0 m c) := by
  have e : Pipeline.afterTail₀ cfgs (dats m) 0 (V0 m) [hostOps1] c main_v49 = broadcastInDim S1x32x3x3072 ![1, 2, 3] bcast_S32x3x3072_S1x32x3x3072_1_2_3 (extractStridedSlice S32x3x3072 ![0, 5, 0] (kept m c) slices_S32x8x3072_S32x3x3072_0_5_0) := by
    unfold Pipeline.afterTail₀
    simp only [hostOps1, List.flatten_cons, List.flatten_nil, List.cons_append, List.nil_append, List.append_nil]
    after_results_simp
    refine congrArg (fun K => broadcastInDim S1x32x3x3072 ![1, 2, 3] bcast_S32x3x3072_S1x32x3x3072_1_2_3 (extractStridedSlice S32x3x3072 ![0, 5, 0] K slices_S32x8x3072_S32x3x3072_0_5_0)) ((Pipeline.withArrays_arr spec0 (by decide) c (V0 m c) (fun w => (dats m 0 c).arrAt w cfg0.N) 14).trans (final m c))
  refine e.trans ?_
  funext j
  idx_vars j
  refine (sliced_at (kept m c) j1 j2 j3).trans ?_
  exact (outs_at m c _ j2 j3).trans (block0 m c _ j2 j3)

end Cert.ConvSIdeal.At

end
-- ==== Proof.ConvSRef.lean ====
/- The reference of the samples' carried convolution rows, read at an index. -/
module

public import proofs.«01_k».proof.Proof.ConvSpec
public import proofs.«01_k».proof.Proof.Gen.ConvSRefIdeal.Run
public import Idealize.ShloMosaic.Lib.Pointwise
public import Idealize.ShloMosaic.Lib.IdealHost
public import Idealize.ShloMosaic.Lib.Claim

@[expose] public section

set_option maxRecDepth 16384

noncomputable section

namespace Cert.ConvSRefIdeal.At

open Idealize.ShloMosaic Idealize.ShloMosaic.TcCoe Idealize.SL.Sem
open Cert.ConvSRefIdeal Cert.ConvSRefIdeal.Gen Cert.ConvSRefIdeal.Value
open Cert.ConvSpec (Rows sample)

section Terms
variable (X : FVec Ideal S16512x8192 .f32)

variable (C : FVec Ideal S1x32x3x3072 .f32)

/-- A sample's carried rows followed by its projected ones. -/
def joined : FVec Ideal S32x7x3072 .f32 :=
  concatenate S32x7x3072 1 [⟨S32x3x3072, (shapeCast _ C shapeCasts_S1x32x3x3072_S32x3x3072)⟩, ⟨S32x4x3072, (shapeCast _ (extractStridedSlice S128x3072 ![16384, 0] X slices_S16512x8192_S128x3072_16384_0) shapeCasts_S128x3072_S32x4x3072)⟩] concatenates_S32x3x3072_S32x4x3072_S32x7x3072_d1

/-- The last three of them. -/
def kept : FVec Ideal S1x32x3x3072 .f32 :=
  broadcastInDim S1x32x3x3072 ![1, 2, 3] bcast_S32x3x3072_S1x32x3x3072_1_2_3 (extractStridedSlice S32x3x3072 ![0, 4, 0] (joined X C) slices_S32x7x3072_S32x3x3072_0_4_0)

theorem joined_at (b : Fin 32) (r : Fin 3) (f : Fin 3072) :
    (joined X C (ix3 b (⟨4 + r.val, by omega⟩ : Fin 7) f) : EReal) = X (ix2 (⟨16384 + 4 * b.val + 1 + r.val, by omega⟩ : Fin 16512) (⟨f.val, by omega⟩ : Fin 8192)) := by
  pointwise [joined]
  rw [dif_neg (by omega)]
  refine congrArg (fun a => X (ix2 a ⟨f.val, by omega⟩)) (Fin.ext ?_)
  show _ + _ = _ + _
  omega

theorem kept_at : (kept X C : S1x32x3x3072.Idx → EReal) = sample X := by
  funext j
  idx_vars j
  refine Eq.trans ?_ ((joined_at X C j1 j2 j3).trans ?_)
  · pointwise [kept]
  · rfl

end Terms

/-- The reference ends with the result in closed form. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = sample (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1.trans (kept_at _ _), (h c).2⟩) (Value.run m ρ)

end Cert.ConvSRefIdeal.At

end
-- ==== Proof.ConvSClaim.lean ====
/- The claims about the sample's carried convolution rows. -/
module

public import proofs.«01_k».proof.Defs
public import proofs.«01_k».proof.Proof.Gen.ConvS
public import proofs.«01_k».proof.Proof.ConvSValue
public import proofs.«01_k».proof.Proof.ConvSRef
public import Idealize.ShloMosaic.Lib.Claim

@[expose] public section

set_option maxRecDepth 16384

noncomputable section

namespace Cert.Proof

open Idealize.ShloMosaic Idealize.ShloMosaic.TcCoe Idealize.ShloMosaic.Tactic Idealize.SL.Sem

instance convSFacts : Cert.ConvS.Facts := Cert.ConvS.Gen.facts
instance convSIdealFacts : Cert.ConvSIdeal.Facts := Cert.ConvSIdeal.Gen.facts
instance convSRefFacts : Cert.ConvSRefIdeal.Facts := Cert.ConvSRefIdeal.Gen.facts

section
open Cert.ConvSIdeal
/-- The frame of the program read at the machine's values: the two programs are printed alike, so it is the other's. -/
def ConvSFrame : Prop := ∀ (m : (ℓ : Loc nD τ sig) → Buf (Elt Bits) ℓ) (ρ : Dev nD → PrngReg), True →
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0)

/-- What a run leaves: the carried rows, and the arguments as they were. -/
theorem convS_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v49) = Cert.ConvSpec.sample (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨((h.1 c).2 main_v49 (Pipeline.mem_restRefs_of main_v49 (by decide) (by decide))).trans (Cert.ConvSIdeal.At.tail m c), h.2 c⟩)
    (θ_run_and (Cert.ConvSIdeal.Gen.run_main m ρ) (Cert.ConvSIdeal.Gen.unchanged m ρ))
end

theorem convSFrame_eq : ConvSFrame = Cert.quiescent_ConvS := by sl_kernel_rfl

theorem convS_quiescent : Cert.quiescent_ConvS := convSFrame_eq ▸ fun m ρ _ => Cert.ConvSIdeal.Gen.frame m ρ
theorem convSIdeal_quiescent : Cert.quiescent_ConvSIdeal := fun m ρ _ => Cert.ConvSIdeal.Gen.frame m ρ
theorem convSRef_quiescent : Cert.quiescent_ConvSRefIdeal := fun m g _ =>
  (θ_run _ _ _).mono (fun r h => ⟨fun c => (h c).2, sem_eq_zero_of_no_sems rfl _⟩) (Cert.ConvSRefIdeal.At.run m g)

theorem convS_preserves : Cert.preserves_ConvS_ConvSIdeal := trivial

theorem convS_algebraic : Cert.algebraic_ConvSIdeal_ConvSRefIdeal := by
  intro m g m' g' _ ha
  refine ⟨fun c => Cert.ConvSpec.sample (m ((c.tc : Thread Cert.ConvSIdeal.nD Cert.ConvSIdeal.τ).loc Cert.ConvSIdeal.main_arg0)), convS_run m g, ?_⟩
  exact (θ_run _ _ _).mono (fun r h c => ⟨(h c).1.trans (congrArg Cert.ConvSpec.sample (ha c).1), (h c).2⟩) (Cert.ConvSRefIdeal.At.run m' g')

end Cert.Proof

end
-- ==== Proof.ConvPValue.lean ====
/- The prompt's carried convolution rows. -/
module

public import proofs.«01_k».proof.Proof.ConvSpec
public import proofs.«01_k».proof.Proof.Gen.ConvPIdeal.Frame
public import Idealize.ShloMosaic.Lib.Pipeline.ValueKit
public import Idealize.ShloMosaic.Lib.Pipeline.Covers
public import Idealize.ShloMosaic.Lib.Pointwise
public import Idealize.ShloMosaic.Lib.IdealHost
public import Idealize.ShloMosaic.Lib.WritesUnit
public import Idealize.ShloMosaic.Lib.WholeRead
public import Idealize.ShloMosaic.Lib.Claim

@[expose] public section

set_option maxRecDepth 16384

noncomputable section

namespace Cert.ConvPIdeal.At

open Idealize.ShloMosaic Idealize.ShloMosaic.TcCoe Idealize.SL.Sem
open Idealize.ShloMosaic.Pipeline (Dat)
open Cert.ConvPIdeal Cert.ConvPIdeal.Gen

variable (m : (ℓ : Loc nD τ sig) → Buf (Elt Ideal) ℓ)

theorem pay_at (v : Vec Ideal S8x3072 .f32) (r : Fin 8) (f : Fin 3072) : (k0_pay6 v (ix3 0 r f) : EReal) = v (ix2 r f) := by
  pointwise [k0_pay6]

theorem load_at (v : Vec Ideal S128x3072 .f32) (r : Fin 128) (f : Fin 3072) : (k0_pay3 v (ix2 r f) : EReal) = v (ix2 r f) := by
  pointwise [k0_pay3]

theorem outs_at (c : Dev nD) (t : Fin cfg0.N) (h0 : ¬ t.val % 64 = 0) (r : Fin 3) (f : Fin 3072) :
    ((outsAt0 m c t.val t.isLt).2.1 (ix3 0 (⟨5 + r.val, by omega⟩ : Fin 8) f) : EReal) = X0_0 m c t (ix2 (⟨125 + r.val, by omega⟩ : Fin 128) f) := by
  rw [outsAt0_B m c t h0]
  dsimp only
  unfold out0_B_14 kernelRun0_B
  dsimp only
  refine (View.read_writes_cons_unit_of_mem _ _ _ _ _ _ (ix3 0 (⟨5 + r.val, by omega⟩ : Fin 8) f) rfl (by intro a; fin_cases a <;> simp)).trans ?_
  refine (pay_at _ _ f).trans ?_
  unfold kernelRun0_B.sl.v34
  dsimp only
  unfold View.readCov kernelRun0_B.sl.HS1_1
  refine (View.read_writes_cons_rows_of_mem (o := 8) (View.whole cc0_scratch1) _ _ _ _ _ (ix2 (⟨125 + r.val, by omega⟩ : Fin 128) f) rfl ?_ ?_).trans ?_
  · show 128 + 1 * (5 + r.val) = 8 + (125 + r.val)
    omega
  · show 0 + 1 * f.val = f.val
    omega
  refine (load_at _ _ f).trans ?_
  refine (Memref.IsWhole.readAt_unread (hs0_0 t) _ _ _).trans (congrArg (X0_0 m c t) ?_)
  funext a
  refine Fin.ext ?_
  fin_cases a
  · show 0 + 1 * (125 + r.val) = 125 + r.val
    omega
  · show 0 + 1 * f.val = f.val
    omega

/-! ## The projected rows -/

abbrev X0 (c : Dev nD) : Cert.ConvSpec.Rows := m ((c.tc : Thread nD τ).loc main_arg0)

theorem index0 : ∀ t : Fin cfg0.N, win0_0.index t = ![t.val, 0] := (by decide +kernel : ∀ t : Fin grid0.N, _)
theorem index14 : ∀ t : Fin cfg0.N, win0_14.index t = ![t.val / 64, 0, 0] := (by decide +kernel : ∀ t : Fin grid0.N, _)

theorem point_lt (t : Fin cfg0.N) : t.val < 128 := Nat.lt_of_lt_of_eq t.isLt N_0

theorem block0 (c : Dev nD) (t : Fin cfg0.N) (r : Fin 3) (f : Fin 3072) : (X0_0 m c t (ix2 (⟨125 + r.val, by omega⟩ : Fin 128) f) : EReal)
    = X0 m c (ix2 (⟨128 * t.val + 125 + r.val, by have := point_lt t; omega⟩ : Fin 16512) (⟨f.val, by omega⟩ : Fin 8192)) := by
  unfold X0_0
  refine (dif_pos (moved0_0 t _)).trans ?_
  refine Eq.trans ?_ (congrFun (V_main_arg0 m c) _)
  unfold iblk
  refine congrArg (V m c main_arg0) ?_
  funext a
  refine Fin.ext ?_
  fin_cases a
  · blk_simp [index0 t]
    show t.val * 128 + (125 + r.val) = 128 * t.val + 125 + r.val
    omega
  · blk_simp [index0 t]
    show f.val = f.val
    rfl

/-! ## The result -/

/-- The rows each block's last point leaves, as one array. -/
def kept (c : Dev nD) : S2x8x3072.Idx → EReal := fun j =>
  (outsAt0 m c (64 * (j 0).val + 63) (Nat.lt_of_lt_of_eq (by have := (j 0).isLt; have : (j 0).val < 2 := this; omega) N_0.symm)).2.1 (ix3 0 (j 1) (j 2))

theorem kept_eq (c : Dev nD) (t : Fin cfg0.N) (hl : t.val % 64 = 63) (y : S1x8x3072.Idx) (j : S2x8x3072.Idx) (h0 : (j 0).val = t.val / 64) (h1 : (j 1).val = (y 1).val) (h2 : (j 2).val = (y 2).val) :
    (outsAt0 m c t.val t.isLt).2.1 y = kept m c j := by
  unfold kept
  have e : t.val = 64 * (j 0).val + 63 := by omega
  have e' : ∀ (n : ℕ) (hn : n < cfg0.N), n = t.val → (outsAt0 m c t.val t.isLt).2.1 y = (outsAt0 m c n hn).2.1 y := by
    intro n hn h; subst h; rfl
  refine (e' (64 * (j 0).val + 63) (e ▸ t.isLt) e.symm).trans ?_
  refine congrArg _ ?_
  idx_vars y
  have a1 : j 1 = y1 := Fin.ext h1
  have a2 : j 2 = y2 := Fin.ext h2
  rw [a1, a2]
  blk_ext

theorem flush_last : ∀ t : Fin cfg0.N, (cfg0.win 14).flush t = true → t.val % 64 = 63 := fun t => (flush0_14 t).mp

theorem final (c : Dev nD) : (dats m 0 c).arrAt 14 cfg0.N = kept m c := by
  refine (dats m 0 c).arrAt_eq_of_covers 14 _ (by decide +kernel) fun t ht y => ?_
  rw [after0_14]
  refine kept_eq m c t (flush_last t ht) y _ ?_ ?_ ?_
  all_goals blk_simp [index14 t]

theorem sliced_at (K : FVec Ideal S2x8x3072 .f32) (b : Fin 2) (r : Fin 3) (f : Fin 3072) :
    broadcastInDim S1x2x3x3072 ![1, 2, 3] bcast_S2x3x3072_S1x2x3x3072_1_2_3 (extractStridedSlice S2x3x3072 ![0, 5, 0] K slices_S2x8x3072_S2x3x3072_0_5_0) (ix4 0 b r f)
      = K (ix3 b (⟨5 + r.val, by omega⟩ : Fin 8) f) := by
  pointwise

theorem tail (c : Dev nD) : (Pipeline.afterTail₀ cfgs (dats m) 0 (V0 m) [hostOps1] c main_v35 : S1x2x3x3072.Idx → EReal) = Cert.ConvSpec.prompt (X0 m c) := by
  have e : Pipeline.afterTail₀ cfgs (dats m) 0 (V0 m) [hostOps1] c main_v35 = broadcastInDim S1x2x3x3072 ![1, 2, 3] bcast_S2x3x3072_S1x2x3x3072_1_2_3 (extractStridedSlice S2x3x3072 ![0, 5, 0] (kept m c) slices_S2x8x3072_S2x3x3072_0_5_0) := by
    unfold Pipeline.afterTail₀
    simp only [hostOps1, List.flatten_cons, List.flatten_nil, List.cons_append, List.nil_append, List.append_nil]
    after_results_simp
    refine congrArg (fun K : FVec Ideal S2x8x3072 .f32 => broadcastInDim S1x2x3x3072 ![1, 2, 3] bcast_S2x3x3072_S1x2x3x3072_1_2_3 (extractStridedSlice S2x3x3072 ![0, 5, 0] K slices_S2x8x3072_S2x3x3072_0_5_0)) ?_
    exact ((dats m 0 c).withArrays_arrAt sharedIn0 (V0 m c) (A_eq m c) 14).trans (final m c)
  refine e.trans ?_
  funext j
  idx_vars j
  refine (sliced_at (kept m c) j1 j2 j3).trans ?_
  refine (outs_at m c ⟨64 * j1.val + 63, Nat.lt_of_lt_of_eq (by omega) N_0.symm⟩ (by show ¬ (64 * j1.val + 63) % 64 = 0; omega) j2 j3).trans ((block0 m c _ j2 j3).trans ?_)
  refine congrArg (fun a => X0 m c (ix2 a ⟨j3.val, by omega⟩)) (Fin.ext ?_)
  show 128 * (64 * j1.val + 63) + 125 + j2.val = 8192 * j1.val + 8189 + j2.val
  omega

end Cert.ConvPIdeal.At

end
-- ==== Proof.ConvPRef.lean ====
/- The reference of the prompts' carried convolution rows, read at an index. -/
module

public import proofs.«01_k».proof.Proof.ConvSpec
public import proofs.«01_k».proof.Proof.Gen.ConvPRefIdeal.Run
public import Idealize.ShloMosaic.Lib.Pointwise
public import Idealize.ShloMosaic.Lib.IdealHost
public import Idealize.ShloMosaic.Lib.Claim

@[expose] public section

set_option maxRecDepth 16384

noncomputable section

namespace Cert.ConvPRefIdeal.At

open Idealize.ShloMosaic Idealize.ShloMosaic.TcCoe Idealize.SL.Sem
open Cert.ConvPRefIdeal Cert.ConvPRefIdeal.Gen Cert.ConvPRefIdeal.Value
open Cert.ConvSpec (Rows prompt)

section Terms
variable (X : FVec Ideal S16512x8192 .f32)

/-- Three zero rows followed by a prompt's projected ones. -/
def joined : FVec Ideal S2x8195x3072 .f32 :=
  concatenate S2x8195x3072 1 [⟨S2x3x3072, (broadcastInDim S2x3x3072 ![] bcast_S_S2x3x3072 (constant S_ .f32 0x00000000#32))⟩, ⟨S2x8192x3072, (shapeCast _ (extractStridedSlice S16384x3072 ![0, 0] X slices_S16512x8192_S16384x3072_0_0) shapeCasts_S16384x3072_S2x8192x3072)⟩] concatenates_S2x3x3072_S2x8192x3072_S2x8195x3072_d1

/-- The last three of them. -/
def kept : FVec Ideal S1x2x3x3072 .f32 :=
  broadcastInDim S1x2x3x3072 ![1, 2, 3] bcast_S2x3x3072_S1x2x3x3072_1_2_3 (extractStridedSlice S2x3x3072 ![0, 8192, 0] (joined X) slices_S2x8195x3072_S2x3x3072_0_8192_0)

theorem joined_at (b : Fin 2) (r : Fin 3) (f : Fin 3072) :
    (joined X (ix3 b (⟨8192 + r.val, by omega⟩ : Fin 8195) f) : EReal) = X (ix2 (⟨8192 * b.val + 8189 + r.val, by omega⟩ : Fin 16512) (⟨f.val, by omega⟩ : Fin 8192)) := by
  pointwise [joined]
  rw [dif_neg (by omega)]
  refine congrArg (fun a => X (ix2 a ⟨f.val, by omega⟩)) (Fin.ext ?_)
  show _ + _ = _ + _
  omega

theorem kept_at : (kept X : S1x2x3x3072.Idx → EReal) = prompt X := by
  funext j
  idx_vars j
  refine Eq.trans ?_ ((joined_at X j1 j2 j3).trans ?_)
  · pointwise [kept]
  · rfl

end Terms

/-- The reference ends with the result in closed form. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = prompt (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (kept_at _), (h c).2⟩) (Value.run m ρ)

end Cert.ConvPRefIdeal.At

end
-- ==== Proof.ConvPClaim.lean ====
/- The claims about the prompt's carried convolution rows. -/
module

public import proofs.«01_k».proof.Defs
public import proofs.«01_k».proof.Proof.Gen.ConvP
public import proofs.«01_k».proof.Proof.ConvPValue
public import proofs.«01_k».proof.Proof.ConvPRef
public import Idealize.ShloMosaic.Lib.Claim

@[expose] public section

set_option maxRecDepth 16384

noncomputable section

namespace Cert.Proof

open Idealize.ShloMosaic Idealize.ShloMosaic.TcCoe Idealize.ShloMosaic.Tactic Idealize.SL.Sem

instance convPFacts : Cert.ConvP.Facts := Cert.ConvP.Gen.facts
instance convPIdealFacts : Cert.ConvPIdeal.Facts := Cert.ConvPIdeal.Gen.facts
instance convPRefFacts : Cert.ConvPRefIdeal.Facts := Cert.ConvPRefIdeal.Gen.facts

section
open Cert.ConvPIdeal
/-- The frame of the program read at the machine's values: the two programs are printed alike, so it is the other's. -/
def ConvPFrame : Prop := ∀ (m : (ℓ : Loc nD τ sig) → Buf (Elt Bits) ℓ) (ρ : Dev nD → PrngReg), True →
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)

/-- What a run leaves: the carried rows, and the arguments as they were. -/
theorem convP_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v35) = Cert.ConvSpec.prompt (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h.1 c).2 main_v35 (Pipeline.mem_restRefs_of main_v35 (by decide) (by decide))).trans (Cert.ConvPIdeal.At.tail m c), h.2 c⟩)
    (θ_run_and (Cert.ConvPIdeal.Gen.run_main m ρ) (Cert.ConvPIdeal.Gen.unchanged m ρ))
end

theorem convPFrame_eq : ConvPFrame = Cert.quiescent_ConvP := by sl_kernel_rfl

theorem convP_quiescent : Cert.quiescent_ConvP := convPFrame_eq ▸ fun m ρ _ => Cert.ConvPIdeal.Gen.frame m ρ
theorem convPIdeal_quiescent : Cert.quiescent_ConvPIdeal := fun m ρ _ => Cert.ConvPIdeal.Gen.frame m ρ
theorem convPRef_quiescent : Cert.quiescent_ConvPRefIdeal := fun m g _ =>
  (θ_run _ _ _).mono (fun r h => ⟨fun c => (h c).2, sem_eq_zero_of_no_sems rfl _⟩) (Cert.ConvPRefIdeal.At.run m g)

theorem convP_preserves : Cert.preserves_ConvP_ConvPIdeal := trivial

theorem convP_algebraic : Cert.algebraic_ConvPIdeal_ConvPRefIdeal := by
  intro m g m' g' _ ha
  refine ⟨fun c => Cert.ConvSpec.prompt (m ((c.tc : Thread Cert.ConvPIdeal.nD Cert.ConvPIdeal.τ).loc Cert.ConvPIdeal.main_arg0)), convP_run m g, ?_⟩
  exact (θ_run _ _ _).mono (fun r h c => ⟨(h c).1.trans (congrArg Cert.ConvSpec.prompt (ha c).1), (h c).2⟩) (Cert.ConvPRefIdeal.At.run m' g')

end Cert.Proof

end
-- ==== Proof.lean ====
/- The proof of the claims: the decoding step's attention (`AttnClaim`), the input projection (`ProjClaim`), the experts'
   gate and up products (`GmmClaim`), their down product (`DownClaim`), and the convolution rows the state-space
   scan carries over for the sample (`ConvSClaim`) and for the prompt (`ConvPClaim`). -/
module

public import proofs.«01_k».proof.Defs
public import proofs.«01_k».proof.Proof.AttnClaim
public import proofs.«01_k».proof.Proof.ProjClaim
public import proofs.«01_k».proof.Proof.GmmClaim
public import proofs.«01_k».proof.Proof.DownClaim
public import proofs.«01_k».proof.Proof.ConvSClaim
public import proofs.«01_k».proof.Proof.ConvPClaim

@[expose] public section

noncomputable section

namespace Cert.Proof

theorem claim : Cert.Claim :=
  ⟨Cert.Attn.Gen.facts, Cert.AttnIdeal.Gen.facts, Cert.AttnRefIdeal.Gen.facts, Cert.Proj.Gen.facts, Cert.ProjIdeal.Gen.facts, Cert.ProjRefIdeal.Gen.facts,
    Cert.Gmm.Gen.facts, Cert.GmmIdeal.Gen.facts, Cert.GmmRefIdeal.Gen.facts, Cert.Down.Gen.facts, Cert.DownIdeal.Gen.facts, Cert.DownRefIdeal.Gen.facts,
    Cert.ConvS.Gen.facts, Cert.ConvSIdeal.Gen.facts, Cert.ConvSRefIdeal.Gen.facts, Cert.ConvP.Gen.facts, Cert.ConvPIdeal.Gen.facts, Cert.ConvPRefIdeal.Gen.facts,
    Cert.Pre_tables3.Gen.facts, Cert.Pre_tables4.Gen.facts,
    attn_quiescent, attnIdeal_quiescent, attnRef_quiescent, proj_quiescent, projIdeal_quiescent, projRef_quiescent,
    gmm_quiescent, gmmIdeal_quiescent, gmmRef_quiescent, down_quiescent, downIdeal_quiescent, downRef_quiescent,
    convS_quiescent, convSIdeal_quiescent, convSRef_quiescent, convP_quiescent, convPIdeal_quiescent, convPRef_quiescent,
    attn_preserves, attn_algebraic, proj_preserves, proj_algebraic, gmm_preserves, gmm_algebraic, down_preserves, down_algebraic,
    convS_preserves, convS_algebraic, convP_preserves, convP_algebraic⟩

end Cert.Proof

end
